-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2 = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13)
      ∧ r.2.mem ((c.tc : Thread Cert.Merge.nD Cert.Merge.τ).loc Cert.Merge.main_arg14) = m ((c.tc : Thread Cert.Merge.nD Cert.Merge.τ).loc Cert.Merge.main_arg14))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11)
      ∧ r.2.mem ((c.tc : Thread Cert.MergeReferenceIdeal.nD Cert.MergeReferenceIdeal.τ).loc Cert.MergeReferenceIdeal.main_arg12) = m ((c.tc : Thread Cert.MergeReferenceIdeal.nD Cert.MergeReferenceIdeal.τ).loc Cert.MergeReferenceIdeal.main_arg12)
      ∧ r.2.mem ((c.tc : Thread Cert.MergeReferenceIdeal.nD Cert.MergeReferenceIdeal.τ).loc Cert.MergeReferenceIdeal.main_arg13) = m ((c.tc : Thread Cert.MergeReferenceIdeal.nD Cert.MergeReferenceIdeal.τ).loc Cert.MergeReferenceIdeal.main_arg13)
      ∧ r.2.mem ((c.tc : Thread Cert.MergeReferenceIdeal.nD Cert.MergeReferenceIdeal.τ).loc Cert.MergeReferenceIdeal.main_arg14) = m ((c.tc : Thread Cert.MergeReferenceIdeal.nD Cert.MergeReferenceIdeal.τ).loc Cert.MergeReferenceIdeal.main_arg14))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2)
      ∧ r.2.mem ((c.tc : Thread Cert.OutProjReferenceIdeal.nD Cert.OutProjReferenceIdeal.τ).loc Cert.OutProjReferenceIdeal.main_arg3) = m ((c.tc : Thread Cert.OutProjReferenceIdeal.nD Cert.OutProjReferenceIdeal.τ).loc Cert.OutProjReferenceIdeal.main_arg3)
      ∧ r.2.mem ((c.tc : Thread Cert.OutProjReferenceIdeal.nD Cert.OutProjReferenceIdeal.τ).loc Cert.OutProjReferenceIdeal.main_arg4) = m ((c.tc : Thread Cert.OutProjReferenceIdeal.nD Cert.OutProjReferenceIdeal.τ).loc Cert.OutProjReferenceIdeal.main_arg4)
      ∧ r.2.mem ((c.tc : Thread Cert.OutProjReferenceIdeal.nD Cert.OutProjReferenceIdeal.τ).loc Cert.OutProjReferenceIdeal.main_arg5) = m ((c.tc : Thread Cert.OutProjReferenceIdeal.nD Cert.OutProjReferenceIdeal.τ).loc Cert.OutProjReferenceIdeal.main_arg5)
      ∧ r.2.mem ((c.tc : Thread Cert.OutProjReferenceIdeal.nD Cert.OutProjReferenceIdeal.τ).loc Cert.OutProjReferenceIdeal.main_arg6) = m ((c.tc : Thread Cert.OutProjReferenceIdeal.nD Cert.OutProjReferenceIdeal.τ).loc Cert.OutProjReferenceIdeal.main_arg6))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3)
      ∧ r.2.mem ((c.tc : Thread Cert.InProjReferenceIdeal.nD Cert.InProjReferenceIdeal.τ).loc Cert.InProjReferenceIdeal.main_arg4) = m ((c.tc : Thread Cert.InProjReferenceIdeal.nD Cert.InProjReferenceIdeal.τ).loc Cert.InProjReferenceIdeal.main_arg4)
      ∧ r.2.mem ((c.tc : Thread Cert.InProjReferenceIdeal.nD Cert.InProjReferenceIdeal.τ).loc Cert.InProjReferenceIdeal.main_arg5) = m ((c.tc : Thread Cert.InProjReferenceIdeal.nD Cert.InProjReferenceIdeal.τ).loc Cert.InProjReferenceIdeal.main_arg5))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)
      ∧ m' ((c.tc : Thread Cert.MergeReferenceIdeal.nD Cert.MergeReferenceIdeal.τ).loc Cert.MergeReferenceIdeal.main_arg11) = m ((c.tc : Thread Cert.MergeIdeal.nD Cert.MergeIdeal.τ).loc Cert.MergeIdeal.main_arg11)
      ∧ m' ((c.tc : Thread Cert.MergeReferenceIdeal.nD Cert.MergeReferenceIdeal.τ).loc Cert.MergeReferenceIdeal.main_arg12) = m ((c.tc : Thread Cert.MergeIdeal.nD Cert.MergeIdeal.τ).loc Cert.MergeIdeal.main_arg12)
      ∧ m' ((c.tc : Thread Cert.MergeReferenceIdeal.nD Cert.MergeReferenceIdeal.τ).loc Cert.MergeReferenceIdeal.main_arg13) = m ((c.tc : Thread Cert.MergeIdeal.nD Cert.MergeIdeal.τ).loc Cert.MergeIdeal.main_arg13)
      ∧ m' ((c.tc : Thread Cert.MergeReferenceIdeal.nD Cert.MergeReferenceIdeal.τ).loc Cert.MergeReferenceIdeal.main_arg14) = m ((c.tc : Thread Cert.MergeIdeal.nD Cert.MergeIdeal.τ).loc Cert.MergeIdeal.main_arg14)) →
    ∃ (v0 : (c : Dev Cert.MergeIdeal.nD) → Buf (Elt Ideal) ((c.tc : Thread Cert.MergeIdeal.nD Cert.MergeIdeal.τ).loc Cert.MergeIdeal.main_v60)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v60) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
          ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v93) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10)
          ∧ r.2.mem ((c.tc : Thread Cert.MergeReferenceIdeal.nD Cert.MergeReferenceIdeal.τ).loc Cert.MergeReferenceIdeal.main_arg11) = m' ((c.tc : Thread Cert.MergeReferenceIdeal.nD Cert.MergeReferenceIdeal.τ).loc Cert.MergeReferenceIdeal.main_arg11)
          ∧ r.2.mem ((c.tc : Thread Cert.MergeReferenceIdeal.nD Cert.MergeReferenceIdeal.τ).loc Cert.MergeReferenceIdeal.main_arg12) = m' ((c.tc : Thread Cert.MergeReferenceIdeal.nD Cert.MergeReferenceIdeal.τ).loc Cert.MergeReferenceIdeal.main_arg12)
          ∧ r.2.mem ((c.tc : Thread Cert.MergeReferenceIdeal.nD Cert.MergeReferenceIdeal.τ).loc Cert.MergeReferenceIdeal.main_arg13) = m' ((c.tc : Thread Cert.MergeReferenceIdeal.nD Cert.MergeReferenceIdeal.τ).loc Cert.MergeReferenceIdeal.main_arg13)
          ∧ r.2.mem ((c.tc : Thread Cert.MergeReferenceIdeal.nD Cert.MergeReferenceIdeal.τ).loc Cert.MergeReferenceIdeal.main_arg14) = m' ((c.tc : Thread Cert.MergeReferenceIdeal.nD Cert.MergeReferenceIdeal.τ).loc Cert.MergeReferenceIdeal.main_arg14))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)
      ∧ m' ((c.tc : Thread Cert.OutProjReferenceIdeal.nD Cert.OutProjReferenceIdeal.τ).loc Cert.OutProjReferenceIdeal.main_arg3) = m ((c.tc : Thread Cert.OutProjIdeal.nD Cert.OutProjIdeal.τ).loc Cert.OutProjIdeal.main_arg3)
      ∧ m' ((c.tc : Thread Cert.OutProjReferenceIdeal.nD Cert.OutProjReferenceIdeal.τ).loc Cert.OutProjReferenceIdeal.main_arg4) = m ((c.tc : Thread Cert.OutProjIdeal.nD Cert.OutProjIdeal.τ).loc Cert.OutProjIdeal.main_arg4)
      ∧ m' ((c.tc : Thread Cert.OutProjReferenceIdeal.nD Cert.OutProjReferenceIdeal.τ).loc Cert.OutProjReferenceIdeal.main_arg5) = m ((c.tc : Thread Cert.OutProjIdeal.nD Cert.OutProjIdeal.τ).loc Cert.OutProjIdeal.main_arg5)
      ∧ m' ((c.tc : Thread Cert.OutProjReferenceIdeal.nD Cert.OutProjReferenceIdeal.τ).loc Cert.OutProjReferenceIdeal.main_arg6) = m ((c.tc : Thread Cert.OutProjIdeal.nD Cert.OutProjIdeal.τ).loc Cert.OutProjIdeal.main_arg6)) →
    ∃ (v0 : (c : Dev Cert.OutProjIdeal.nD) → Buf (Elt Ideal) ((c.tc : Thread Cert.OutProjIdeal.nD Cert.OutProjIdeal.τ).loc Cert.OutProjIdeal.main_v12)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v12) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v28) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2)
          ∧ r.2.mem ((c.tc : Thread Cert.OutProjReferenceIdeal.nD Cert.OutProjReferenceIdeal.τ).loc Cert.OutProjReferenceIdeal.main_arg3) = m' ((c.tc : Thread Cert.OutProjReferenceIdeal.nD Cert.OutProjReferenceIdeal.τ).loc Cert.OutProjReferenceIdeal.main_arg3)
          ∧ r.2.mem ((c.tc : Thread Cert.OutProjReferenceIdeal.nD Cert.OutProjReferenceIdeal.τ).loc Cert.OutProjReferenceIdeal.main_arg4) = m' ((c.tc : Thread Cert.OutProjReferenceIdeal.nD Cert.OutProjReferenceIdeal.τ).loc Cert.OutProjReferenceIdeal.main_arg4)
          ∧ r.2.mem ((c.tc : Thread Cert.OutProjReferenceIdeal.nD Cert.OutProjReferenceIdeal.τ).loc Cert.OutProjReferenceIdeal.main_arg5) = m' ((c.tc : Thread Cert.OutProjReferenceIdeal.nD Cert.OutProjReferenceIdeal.τ).loc Cert.OutProjReferenceIdeal.main_arg5)
          ∧ r.2.mem ((c.tc : Thread Cert.OutProjReferenceIdeal.nD Cert.OutProjReferenceIdeal.τ).loc Cert.OutProjReferenceIdeal.main_arg6) = m' ((c.tc : Thread Cert.OutProjReferenceIdeal.nD Cert.OutProjReferenceIdeal.τ).loc Cert.OutProjReferenceIdeal.main_arg6))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)
      ∧ m' ((c.tc : Thread Cert.InProjReferenceIdeal.nD Cert.InProjReferenceIdeal.τ).loc Cert.InProjReferenceIdeal.main_arg3) = m ((c.tc : Thread Cert.InProjIdeal.nD Cert.InProjIdeal.τ).loc Cert.InProjIdeal.main_arg3)
      ∧ m' ((c.tc : Thread Cert.InProjReferenceIdeal.nD Cert.InProjReferenceIdeal.τ).loc Cert.InProjReferenceIdeal.main_arg4) = m ((c.tc : Thread Cert.InProjIdeal.nD Cert.InProjIdeal.τ).loc Cert.InProjIdeal.main_arg4)
      ∧ m' ((c.tc : Thread Cert.InProjReferenceIdeal.nD Cert.InProjReferenceIdeal.τ).loc Cert.InProjReferenceIdeal.main_arg5) = m ((c.tc : Thread Cert.InProjIdeal.nD Cert.InProjIdeal.τ).loc Cert.InProjIdeal.main_arg5)) →
    ∃ (v0 : (c : Dev Cert.InProjIdeal.nD) → Buf (Elt Ideal) ((c.tc : Thread Cert.InProjIdeal.nD Cert.InProjIdeal.τ).loc Cert.InProjIdeal.main_v25)) (v1 : (c : Dev Cert.InProjIdeal.nD) → Buf (Elt Ideal) ((c.tc : Thread Cert.InProjIdeal.nD Cert.InProjIdeal.τ).loc Cert.InProjIdeal.main_v24)) (v2 : (c : Dev Cert.InProjIdeal.nD) → Buf (Elt Ideal) ((c.tc : Thread Cert.InProjIdeal.nD Cert.InProjIdeal.τ).loc Cert.InProjIdeal.main_v26)) (v3 : (c : Dev Cert.InProjIdeal.nD) → Buf (Elt Ideal) ((c.tc : Thread Cert.InProjIdeal.nD Cert.InProjIdeal.τ).loc Cert.InProjIdeal.main_v20_1)) (v4 : (c : Dev Cert.InProjIdeal.nD) → Buf (Elt Ideal) ((c.tc : Thread Cert.InProjIdeal.nD Cert.InProjIdeal.τ).loc Cert.InProjIdeal.main_v20_2)) (v5 : (c : Dev Cert.InProjIdeal.nD) → Buf (Elt Ideal) ((c.tc : Thread Cert.InProjIdeal.nD Cert.InProjIdeal.τ).loc Cert.InProjIdeal.main_v20_3)) (v6 : (c : Dev Cert.InProjIdeal.nD) → Buf (Elt Ideal) ((c.tc : Thread Cert.InProjIdeal.nD Cert.InProjIdeal.τ).loc Cert.InProjIdeal.main_v20_4)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v25) = v0 c
          ∧ r.2.mem ((c.tc : Thread Cert.InProjIdeal.nD Cert.InProjIdeal.τ).loc Cert.InProjIdeal.main_v24) = v1 c
          ∧ r.2.mem ((c.tc : Thread Cert.InProjIdeal.nD Cert.InProjIdeal.τ).loc Cert.InProjIdeal.main_v26) = v2 c
          ∧ r.2.mem ((c.tc : Thread Cert.InProjIdeal.nD Cert.InProjIdeal.τ).loc Cert.InProjIdeal.main_v20_1) = v3 c
          ∧ r.2.mem ((c.tc : Thread Cert.InProjIdeal.nD Cert.InProjIdeal.τ).loc Cert.InProjIdeal.main_v20_2) = v4 c
          ∧ r.2.mem ((c.tc : Thread Cert.InProjIdeal.nD Cert.InProjIdeal.τ).loc Cert.InProjIdeal.main_v20_3) = v5 c
          ∧ r.2.mem ((c.tc : Thread Cert.InProjIdeal.nD Cert.InProjIdeal.τ).loc Cert.InProjIdeal.main_v20_4) = v6 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v71) = v0 c
          ∧ r.2.mem ((c.tc : Thread Cert.InProjReferenceIdeal.nD Cert.InProjReferenceIdeal.τ).loc Cert.InProjReferenceIdeal.main_v72) = v1 c
          ∧ r.2.mem ((c.tc : Thread Cert.InProjReferenceIdeal.nD Cert.InProjReferenceIdeal.τ).loc Cert.InProjReferenceIdeal.main_v73) = v2 c
          ∧ r.2.mem ((c.tc : Thread Cert.InProjReferenceIdeal.nD Cert.InProjReferenceIdeal.τ).loc Cert.InProjReferenceIdeal.main_v79) = v3 c
          ∧ r.2.mem ((c.tc : Thread Cert.InProjReferenceIdeal.nD Cert.InProjReferenceIdeal.τ).loc Cert.InProjReferenceIdeal.main_v81) = v4 c
          ∧ r.2.mem ((c.tc : Thread Cert.InProjReferenceIdeal.nD Cert.InProjReferenceIdeal.τ).loc Cert.InProjReferenceIdeal.main_v88) = v5 c
          ∧ r.2.mem ((c.tc : Thread Cert.InProjReferenceIdeal.nD Cert.InProjReferenceIdeal.τ).loc Cert.InProjReferenceIdeal.main_v95) = v6 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2)
          ∧ r.2.mem ((c.tc : Thread Cert.InProjReferenceIdeal.nD Cert.InProjReferenceIdeal.τ).loc Cert.InProjReferenceIdeal.main_arg3) = m' ((c.tc : Thread Cert.InProjReferenceIdeal.nD Cert.InProjReferenceIdeal.τ).loc Cert.InProjReferenceIdeal.main_arg3)
          ∧ r.2.mem ((c.tc : Thread Cert.InProjReferenceIdeal.nD Cert.InProjReferenceIdeal.τ).loc Cert.InProjReferenceIdeal.main_arg4) = m' ((c.tc : Thread Cert.InProjReferenceIdeal.nD Cert.InProjReferenceIdeal.τ).loc Cert.InProjReferenceIdeal.main_arg4)
          ∧ r.2.mem ((c.tc : Thread Cert.InProjReferenceIdeal.nD Cert.InProjReferenceIdeal.τ).loc Cert.InProjReferenceIdeal.main_arg5) = m' ((c.tc : Thread Cert.InProjReferenceIdeal.nD Cert.InProjReferenceIdeal.τ).loc Cert.InProjReferenceIdeal.main_arg5))

def Claim : Prop :=
  ∃ (hKernel : Cert.Kernel.Facts) (hKernelIdeal : Cert.KernelIdeal.Facts) (hReferenceIdeal : Cert.ReferenceIdeal.Facts) (hMerge : Cert.Merge.Facts) (hMergeIdeal : Cert.MergeIdeal.Facts) (hMergeReferenceIdeal : Cert.MergeReferenceIdeal.Facts) (hOutProj : Cert.OutProj.Facts) (hOutProjIdeal : Cert.OutProjIdeal.Facts) (hOutProjReferenceIdeal : Cert.OutProjReferenceIdeal.Facts) (hInProj : Cert.InProj.Facts) (hInProjIdeal : Cert.InProjIdeal.Facts) (hInProjReferenceIdeal : Cert.InProjReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Merge (hMerge := hMerge)
    ∧ quiescent_MergeIdeal (hMergeIdeal := hMergeIdeal)
    ∧ quiescent_MergeReferenceIdeal (hMergeReferenceIdeal := hMergeReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Merge_MergeIdeal
    ∧ algebraic_MergeIdeal_MergeReferenceIdeal (hMergeIdeal := hMergeIdeal) (hMergeReferenceIdeal := hMergeReferenceIdeal)
    ∧ preserves_OutProj_OutProjIdeal
    ∧ algebraic_OutProjIdeal_OutProjReferenceIdeal (hOutProjIdeal := hOutProjIdeal) (hOutProjReferenceIdeal := hOutProjReferenceIdeal)
    ∧ preserves_InProj_InProjIdeal
    ∧ algebraic_InProjIdeal_InProjReferenceIdeal (hInProjIdeal := hInProjIdeal) (hInProjReferenceIdeal := hInProjReferenceIdeal)
-- ==== Pre_finite_scores.lean ====
abbrev S4x4096x16x192 : Shape := ⟨4, ![4, 4096, 16, 192]⟩
abbrev S4x256x16x192 : Shape := ⟨4, ![4, 256, 16, 192]⟩
abbrev S4x4096x16x128 : Shape := ⟨4, ![4, 4096, 16, 128]⟩
abbrev S4x256x16x128 : Shape := ⟨4, ![4, 256, 16, 128]⟩
abbrev S_ : Shape := ⟨0, ![]⟩

class Facts : Prop where
  bcast_S_S4x4096x16x192 : S_.BroadcastsInDim S4x4096x16x192 (![] : Fin 0 → Fin S4x4096x16x192.rank)
  bcast_S_S4x256x16x192 : S_.BroadcastsInDim S4x256x16x192 (![] : Fin 0 → Fin S4x256x16x192.rank)

variable [Facts]

def fn {F : FTy → Type} [FloatOps F] (main_arg0 : FVec F S4x4096x16x192 .f32) (main_arg1 : FVec F S4x256x16x192 .f32) (main_arg2 : FVec F S4x4096x16x192 .f32) (main_arg3 : FVec F S4x256x16x192 .f32) (main_arg4 : FVec F S4x4096x16x128 .f32) (main_arg5 : FVec F S4x256x16x128 .f32) : IVec S4x4096x16x192 1 × IVec S4x4096x16x192 1 × IVec S4x256x16x192 1 :=
  let main_v0 : FVec F S4x4096x16x192 .f32 := Host.absf main_arg0
  let main_cst : FVec F S_ .f32 := constant S_ .f32 0x7F800000#32
  let main_v1 : FVec F S4x4096x16x192 .f32 := broadcastInDim S4x4096x16x192 ![] bcast_S_S4x4096x16x192 main_cst
  let main_v2 : IVec S4x4096x16x192 1 := cmpf .olt main_v0 main_v1
  let main_v3 : FVec F S4x4096x16x192 .f32 := Host.absf main_arg2
  let main_cst_0 : FVec F S_ .f32 := constant S_ .f32 0x7F800000#32
  let main_v4 : FVec F S4x4096x16x192 .f32 := broadcastInDim S4x4096x16x192 ![] bcast_S_S4x4096x16x192 main_cst_0
  let main_v5 : IVec S4x4096x16x192 1 := cmpf .olt main_v3 main_v4
  let main_v6 : FVec F S4x256x16x192 .f32 := Host.absf main_arg3
  let main_cst_1 : FVec F S_ .f32 := constant S_ .f32 0x7F800000#32
  let main_v7 : FVec F S4x256x16x192 .f32 := broadcastInDim S4x256x16x192 ![] bcast_S_S4x256x16x192 main_cst_1
  let main_v8 : IVec S4x256x16x192 1 := cmpf .olt main_v6 main_v7
  (main_v2, main_v5, main_v8)
-- ==== Kernel.lean ====
abbrev S4x4096x16x192 : Shape := ⟨4, ![4, 4096, 16, 192]⟩
abbrev S4x256x16x192 : Shape := ⟨4, ![4, 256, 16, 192]⟩
abbrev S4x4096x16x128 : Shape := ⟨4, ![4, 4096, 16, 128]⟩
abbrev S4x256x16x128 : Shape := ⟨4, ![4, 256, 16, 128]⟩
abbrev S_ : Shape := ⟨0, ![]⟩
abbrev S16384x16x192 : Shape := ⟨3, ![16384, 16, 192]⟩
abbrev S1024x16x192 : Shape := ⟨3, ![1024, 16, 192]⟩
abbrev S17408x16x192 : Shape := ⟨3, ![17408, 16, 192]⟩
abbrev S16x17408x192 : Shape := ⟨3, ![16, 17408, 192]⟩
abbrev S16x17408x64 : Shape := ⟨3, ![16, 17408, 64]⟩
abbrev S16x17408x256 : Shape := ⟨3, ![16, 17408, 256]⟩
abbrev S16384x16x128 : Shape := ⟨3, ![16384, 16, 128]⟩
abbrev S1024x16x128 : Shape := ⟨3, ![1024, 16, 128]⟩
abbrev S17408x16x128 : Shape := ⟨3, ![17408, 16, 128]⟩
abbrev S16x17408x128 : Shape := ⟨3, ![16, 17408, 128]⟩
abbrev S16384x2048 : Shape := ⟨2, ![16384, 2048]⟩
abbrev S1x2048x256 : Shape := ⟨3, ![1, 2048, 256]⟩
abbrev S1x4096x256 : Shape := ⟨3, ![1, 4096, 256]⟩
abbrev S1x256x256 : Shape := ⟨3, ![1, 256, 256]⟩
abbrev S1x4096x128 : Shape := ⟨3, ![1, 4096, 128]⟩
abbrev S1x256x128 : Shape := ⟨3, ![1, 256, 128]⟩
abbrev S2048x128 : Shape := ⟨2, ![2048, 128]⟩
abbrev S2x256x4352 : Shape := ⟨3, ![2, 256, 4352]⟩
abbrev S2x256x1 : Shape := ⟨3, ![2, 256, 1]⟩
abbrev S256x256 : Shape := ⟨2, ![256, 256]⟩
abbrev S1x1024x256 : Shape := ⟨3, ![1, 1024, 256]⟩
abbrev S1024x256 : Shape := ⟨2, ![1024, 256]⟩
abbrev S256x1024 : Shape := ⟨2, ![256, 1024]⟩
abbrev S1x256x1024 : Shape := ⟨3, ![1, 256, 1024]⟩
abbrev S256 : Shape := ⟨1, ![256]⟩
abbrev S256x1 : Shape := ⟨2, ![256, 1]⟩
abbrev S1x256x1 : Shape := ⟨3, ![1, 256, 1]⟩
abbrev S1x1024x128 : Shape := ⟨3, ![1, 1024, 128]⟩
abbrev S1024x128 : Shape := ⟨2, ![1024, 128]⟩
abbrev S256x128 : Shape := ⟨2, ![256, 128]⟩

abbrev nBuf : Space → Nat
  | .hbm => 36
  | .vmem => 14
  | .smem => 0
  | _ => 0

abbrev bufTy : (tb : Table) → Fin (tcTables nBuf tb) → BufTy
  | .hbm, ⟨0, _⟩ => ⟨S4x4096x16x192, .f32⟩
  | .hbm, ⟨1, _⟩ => ⟨S4x256x16x192, .f32⟩
  | .hbm, ⟨2, _⟩ => ⟨S4x4096x16x192, .f32⟩
  | .hbm, ⟨3, _⟩ => ⟨S4x256x16x192, .f32⟩
  | .hbm, ⟨4, _⟩ => ⟨S4x4096x16x128, .f32⟩
  | .hbm, ⟨5, _⟩ => ⟨S4x256x16x128, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4x4096x16x192, .f32⟩
  | .hbm, ⟨11, _⟩ => ⟨S4x4096x16x192, .f32⟩
  | .hbm, ⟨12, _⟩ => ⟨S4x256x16x192, .f32⟩
  | .hbm, ⟨13, _⟩ => ⟨S4x256x16x192, .f32⟩
  | .hbm, ⟨14, _⟩ => ⟨S16384x16x192, .f32⟩
  | .hbm, ⟨15, _⟩ => ⟨S1024x16x192, .f32⟩
  | .hbm, ⟨16, _⟩ => ⟨S17408x16x192, .f32⟩
  | .hbm, ⟨17, _⟩ => ⟨S16x17408x192, .f32⟩
  | .hbm, ⟨18, _⟩ => ⟨S_, .f32⟩
  | .hbm, ⟨19, _⟩ => ⟨S16x17408x64, .f32⟩
  | .hbm, ⟨20, _⟩ => ⟨S16x17408x256, .f32⟩
  | .hbm, ⟨21, _⟩ => ⟨S16x17408x256, .bf16⟩
  | .hbm, ⟨22, _⟩ => ⟨S16384x16x192, .f32⟩
  | .hbm, ⟨23, _⟩ => ⟨S1024x16x192, .f32⟩
  | .hbm, ⟨24, _⟩ => ⟨S17408x16x192, .f32⟩
  | .hbm, ⟨25, _⟩ => ⟨S16x17408x192, .f32⟩
  | .hbm, ⟨26, _⟩ => ⟨S_, .f32⟩
  | .hbm, ⟨27, _⟩ => ⟨S16x17408x64, .f32⟩
  | .hbm, ⟨28, _⟩ => ⟨S16x17408x256, .f32⟩
  | .hbm, ⟨29, _⟩ => ⟨S16x17408x256, .bf16⟩
  | .hbm, ⟨30, _⟩ => ⟨S16384x16x128, .f32⟩
  | .hbm, ⟨31, _⟩ => ⟨S1024x16x128, .f32⟩
  | .hbm, ⟨32, _⟩ => ⟨S17408x16x128, .f32⟩
  | .hbm, ⟨33, _⟩ => ⟨S16x17408x128, .f32⟩
  | .hbm, ⟨34, _⟩ => ⟨S16x17408x128, .bf16⟩
  | .hbm, ⟨35, _⟩ => ⟨S16384x2048, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x256x256, .bf16⟩
  | .local _ .vmem, ⟨5, _⟩ => ⟨S1x256x256, .bf16⟩
  | .local _ .vmem, ⟨6, _⟩ => ⟨S1x4096x128, .bf16⟩
  | .local _ .vmem, ⟨7, _⟩ => ⟨S1x4096x128, .bf16⟩
  | .local _ .vmem, ⟨8, _⟩ => ⟨S1x256x128, .bf16⟩
  | .local _ .vmem, ⟨9, _⟩ => ⟨S1x256x128, .bf16⟩
  | .local _ .vmem, ⟨10, _⟩ => ⟨S2048x128, .bf16⟩
  | .local _ .vmem, ⟨11, _⟩ => ⟨S2048x128, .bf16⟩
  | .local _ .vmem, ⟨12, _⟩ => ⟨S2x256x4352, .f32⟩
  | .local _ .vmem, ⟨13, _⟩ => ⟨S2x256x1, .f32⟩
  | _, _ => ⟨S4x4096x16x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 16, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  let c0_i32_0 : BitVec 32 := 0#32
  ![arg1.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c0_i32 : BitVec 32 := 0#32
  let c0_i32_0 : BitVec 32 := 0#32
  ![arg1.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c0_i32 : BitVec 32 := 0#32
  let c0_i32_0 : BitVec 32 := 0#32
  ![arg1.toNat, v0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S4x4096x16x192 : Shape := ⟨4, ![4, 4096, 16, 192]⟩
abbrev S4x256x16x192 : Shape := ⟨4, ![4, 256, 16, 192]⟩
abbrev S4x4096x16x128 : Shape := ⟨4, ![4, 4096, 16, 128]⟩
abbrev S4x256x16x128 : Shape := ⟨4, ![4, 256, 16, 128]⟩
abbrev S4x4352x16x192 : Shape := ⟨4, ![4, 4352, 16, 192]⟩
abbrev S4x4352x16x128 : Shape := ⟨4, ![4, 4352, 16, 128]⟩
abbrev S4x16x4096x4352 : Shape := ⟨4, ![4, 16, 4096, 4352]⟩
abbrev S_ : Shape := ⟨0, ![]⟩
abbrev S4x16x4096 : Shape := ⟨3, ![4, 16, 4096]⟩
abbrev S4x16x4096x1 : Shape := ⟨4, ![4, 16, 4096, 1]⟩
abbrev S4x16x128x4096 : Shape := ⟨4, ![4, 16, 128, 4096]⟩
abbrev S16384x2048 : Shape := ⟨2, ![16384, 2048]⟩

abbrev nBuf : Space → Nat
  | .hbm => 30
  | .vmem => 0
  | .smem => 0
  | _ => 0

abbrev bufTy : (tb : Table) → Fin (tcTables nBuf tb) → BufTy
  | .hbm, ⟨0, _⟩ => ⟨S4x4096x16x192, .f32⟩
  | .hbm, ⟨1, _⟩ => ⟨S4x256x16x192, .f32⟩
  | .hbm, ⟨2, _⟩ => ⟨S4x4096x16x192, .f32⟩
  | .hbm, ⟨3, _⟩ => ⟨S4x256x16x192, .f32⟩
  | .hbm, ⟨4, _⟩ => ⟨S4x4096x16x128, .f32⟩
  | .hbm, ⟨5, _⟩ => ⟨S4x256x16x128, .f32⟩
  | .hbm, ⟨6, _⟩ => ⟨S4x4352x16x192, .f32⟩
  | .hbm, ⟨7, _⟩ => ⟨S4x4352x16x128, .f32⟩
  | .hbm, ⟨8, _⟩ => ⟨S4x16x4096x4352, .f32⟩
  | .hbm, ⟨9, _⟩ => ⟨S_, .f32⟩
  | .hbm, ⟨10, _⟩ => ⟨S4x16x4096x4352, .f32⟩
  | .hbm, ⟨11, _⟩ => ⟨S4x16x4096x4352, .f32⟩
  | .hbm, ⟨12, _⟩ => ⟨S_, .f32⟩
  | .hbm, ⟨13, _⟩ => ⟨S4x16x4096, .f32⟩
  | .hbm, ⟨14, _⟩ => ⟨S_, .f32⟩
  | .hbm, ⟨15, _⟩ => ⟨S4x16x4096, .f32⟩
  | .hbm, ⟨16, _⟩ => ⟨S4x16x4096, .f32⟩
  | .hbm, ⟨17, _⟩ => ⟨S4x16x4096x1, .f32⟩
  | .hbm, ⟨18, _⟩ => ⟨S4x16x4096x4352, .f32⟩
  | .hbm, ⟨19, _⟩ => ⟨S4x16x4096x4352, .f32⟩
  | .hbm, ⟨20, _⟩ => ⟨S4x16x4096x4352, .f32⟩
  | .hbm, ⟨21, _⟩ => ⟨S_, .f32⟩
  | .hbm, ⟨22, _⟩ => ⟨S4x16x4096, .f32⟩
  | .hbm, ⟨23, _⟩ => ⟨S4x16x4096x1, .f32⟩
  | .hbm, ⟨24, _⟩ => ⟨S4x16x4096x4352, .f32⟩
  | .hbm, ⟨25, _⟩ => ⟨S4x16x4096x4352, .f32⟩
  | .hbm, ⟨26, _⟩ => ⟨S4x16x128x4096, .f32⟩
  | .hbm, ⟨27, _⟩ => ⟨S4x4096x16x128, .f32⟩
  | .hbm, ⟨28, _⟩ => ⟨S16384x2048, .f32⟩
  | .hbm, ⟨29, _⟩ => ⟨S16384x2048, .bf16⟩
  | _, _ => ⟨S4x4096x16x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]
-- ==== Merge.lean ====
abbrev S4x4096x2048 : Shape := ⟨3, ![4, 4096, 2048]⟩
abbrev S4x256x2048 : Shape := ⟨3, ![4, 256, 2048]⟩
abbrev S2x3x2048 : Shape := ⟨3, ![2, 3, 2048]⟩
abbrev S2x2048x2048 : Shape := ⟨3, ![2, 2048, 2048]⟩
abbrev S4096 : Shape := ⟨1, ![4096]⟩
abbrev S1x4096 : Shape := ⟨2, ![1, 4096]⟩
abbrev S4x4096 : Shape := ⟨2, ![4, 4096]⟩
abbrev S16384 : Shape := ⟨1, ![16384]⟩
abbrev S256 : Shape := ⟨1, ![256]⟩
abbrev S1x256 : Shape := ⟨2, ![1, 256]⟩
abbrev S4x256 : Shape := ⟨2, ![4, 256]⟩
abbrev S1024 : Shape := ⟨1, ![1024]⟩
abbrev S17408 : Shape := ⟨1, ![17408]⟩
abbrev S_ : Shape := ⟨0, ![]⟩
abbrev S17408x1 : Shape := ⟨2, ![17408, 1]⟩
abbrev S16384x2048 : Shape := ⟨2, ![16384, 2048]⟩
abbrev S1024x2048 : Shape := ⟨2, ![1024, 2048]⟩
abbrev S17408x2048 : Shape := ⟨2, ![17408, 2048]⟩
abbrev S512x2048 : Shape := ⟨2, ![512, 2048]⟩
abbrev S16x2048 : Shape := ⟨2, ![16, 2048]⟩
abbrev S512x1 : Shape := ⟨2, ![512, 1]⟩
abbrev S1x3x2048 : Shape := ⟨3, ![1, 3, 2048]⟩
abbrev S1x2048x512 : Shape := ⟨3, ![1, 2048, 512]⟩
abbrev S512x512 : Shape := ⟨2, ![512, 512]⟩
abbrev S1x2048 : Shape := ⟨2, ![1, 2048]⟩
abbrev S1x1x2048 : Shape := ⟨3, ![1, 1, 2048]⟩
abbrev S2048x512 : Shape := ⟨2, ![2048, 512]⟩

abbrev nBuf : Space → Nat
  | .hbm => 84
  | .vmem => 26
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S4x4096x2048, .f32⟩
  | .hbm, ⟨3, _⟩ => ⟨S4x4096x2048, .f32⟩
  | .hbm, ⟨4, _⟩ => ⟨S4x4096x2048, .f32⟩
  | .hbm, ⟨5, _⟩ => ⟨S4x4096x2048, .f32⟩
  | .hbm, ⟨6, _⟩ => ⟨S4x256x2048, .f32⟩
  | .hbm, ⟨7, _⟩ => ⟨S4x256x2048, .f32⟩
  | .hbm, ⟨8, _⟩ => ⟨S4x256x2048, .f32⟩
  | .hbm, ⟨9, _⟩ => ⟨S4x256x2048, .f32⟩
  | .hbm, ⟨10, _⟩ => ⟨S4x256x2048, .f32⟩
  | .hbm, ⟨11, _⟩ => ⟨S4x256x2048, .f32⟩
  | .hbm, ⟨12, _⟩ => ⟨S2x3x2048, .f32⟩
  | .hbm, ⟨13, _⟩ => ⟨S2x2048x2048, .f32⟩
  | .hbm, ⟨14, _⟩ => ⟨S2x2048x2048, .f32⟩
  | .hbm, ⟨15, _⟩ => ⟨S4096, .i32⟩
  | .hbm, ⟨16, _⟩ => ⟨S1x4096, .i32⟩
  | .hbm, ⟨17, _⟩ => ⟨S4x4096, .i32⟩
  | .hbm, ⟨18, _⟩ => ⟨S16384, .i32⟩
  | .hbm, ⟨19, _⟩ => ⟨S256, .i32⟩
  | .hbm, ⟨20, _⟩ => ⟨S1x256, .i32⟩
  | .hbm, ⟨21, _⟩ => ⟨S4x256, .i32⟩
  | .hbm, ⟨22, _⟩ => ⟨S1024, .i32⟩
  | .hbm, ⟨23, _⟩ => ⟨S17408, .i32⟩
  | .hbm, ⟨24, _⟩ => ⟨S_, .i32⟩
  | .hbm, ⟨25, _⟩ => ⟨S16384, .i32⟩
  | .hbm, ⟨26, _⟩ => ⟨S_, .i32⟩
  | .hbm, ⟨27, _⟩ => ⟨S1024, .i32⟩
  | .hbm, ⟨28, _⟩ => ⟨S17408, .i32⟩
  | .hbm, ⟨29, _⟩ => ⟨S_, .i32⟩
  | .hbm, ⟨30, _⟩ => ⟨S17408, .i32⟩
  | .hbm, ⟨31, _⟩ => ⟨S17408, .i1⟩
  | .hbm, ⟨32, _⟩ => ⟨S17408, .f32⟩
  | .hbm, ⟨33, _⟩ => ⟨S17408x1, .f32⟩
  | .hbm, ⟨34, _⟩ => ⟨S_, .i32⟩
  | .hbm, ⟨35, _⟩ => ⟨S17408, .i32⟩
  | .hbm, ⟨36, _⟩ => ⟨S17408, .i32⟩
  | .hbm, ⟨37, _⟩ => ⟨S17408, .i32⟩
  | .hbm, ⟨38, _⟩ => ⟨S17408, .i1⟩
  | .hbm, ⟨39, _⟩ => ⟨S17408, .f32⟩
  | .hbm, ⟨40, _⟩ => ⟨S17408x1, .f32⟩
  | .hbm, ⟨41, _⟩ => ⟨S16384x2048, .f32⟩
  | .hbm, ⟨42, _⟩ => ⟨S1024x2048, .f32⟩
  | .hbm, ⟨43, _⟩ => ⟨S17408x2048, .f32⟩
  | .hbm, ⟨44, _⟩ => ⟨S16384x2048, .f32⟩
  | .hbm, ⟨45, _⟩ => ⟨S1024x2048, .f32⟩
  | .hbm, ⟨46, _⟩ => ⟨S17408x2048, .f32⟩
  | .hbm, ⟨47, _⟩ => ⟨S17408x2048, .f32⟩
  | .hbm, ⟨48, _⟩ => ⟨S17408x2048, .bf16⟩
  | .hbm, ⟨49, _⟩ => ⟨S16384x2048, .f32⟩
  | .hbm, ⟨50, _⟩ => ⟨S1024x2048, .f32⟩
  | .hbm, ⟨51, _⟩ => ⟨S17408x2048, .f32⟩
  | .hbm, ⟨52, _⟩ => ⟨S17408x2048, .bf16⟩
  | .hbm, ⟨53, _⟩ => ⟨S16384x2048, .f32⟩
  | .hbm, ⟨54, _⟩ => ⟨S1024x2048, .f32⟩
  | .hbm, ⟨55, _⟩ => ⟨S17408x2048, .f32⟩
  | .hbm, ⟨56, _⟩ => ⟨S17408x2048, .bf16⟩
  | .hbm, ⟨57, _⟩ => ⟨S2x2048x2048, .bf16⟩
  | .hbm, ⟨58, _⟩ => ⟨S2x2048x2048, .bf16⟩
  | .hbm, ⟨59, _⟩ => ⟨S16384x2048, .f32⟩
  | .hbm, ⟨60, _⟩ => ⟨S1024x2048, .f32⟩
  | .hbm, ⟨61, _⟩ => ⟨S17408x2048, .f32⟩
  | .hbm, ⟨62, _⟩ => ⟨S17408x2048, .f32⟩
  | .hbm, ⟨63, _⟩ => ⟨S17408x2048, .f32⟩
  | .hbm, ⟨64, _⟩ => ⟨S_, .f32⟩
  | .hbm, ⟨65, _⟩ => ⟨S17408x2048, .f32⟩
  | .hbm, ⟨66, _⟩ => ⟨S17408x2048, .f32⟩
  | .hbm, ⟨67, _⟩ => ⟨S_, .f32⟩
  | .hbm, ⟨68, _⟩ => ⟨S17408x2048, .f32⟩
  | .hbm, ⟨69, _⟩ => ⟨S17408x2048, .f32⟩
  | .hbm, ⟨70, _⟩ => ⟨S17408x2048, .bf16⟩
  | .hbm, ⟨71, _⟩ => ⟨S16384x2048, .f32⟩
  | .hbm, ⟨72, _⟩ => ⟨S1024x2048, .f32⟩
  | .hbm, ⟨73, _⟩ => ⟨S17408x2048, .f32⟩
  | .hbm, ⟨74, _⟩ => ⟨S17408x2048, .f32⟩
  | .hbm, ⟨75, _⟩ => ⟨S17408x2048, .f32⟩
  | .hbm, ⟨76, _⟩ => ⟨S_, .f32⟩
  | .hbm, ⟨77, _⟩ => ⟨S17408x2048, .f32⟩
  | .hbm, ⟨78, _⟩ => ⟨S17408x2048, .f32⟩
  | .hbm, ⟨79, _⟩ => ⟨S_, .f32⟩
  | .hbm, ⟨80, _⟩ => ⟨S17408x2048, .f32⟩
  | .hbm, ⟨81, _⟩ => ⟨S17408x2048, .f32⟩
  | .hbm, ⟨82, _⟩ => ⟨S17408x2048, .bf16⟩
  | .hbm, ⟨83, _⟩ => ⟨S17408x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S16x2048, .bf16⟩
  | .local _ .vmem, ⟨7, _⟩ => ⟨S16x2048, .bf16⟩
  | .local _ .vmem, ⟨8, _⟩ => ⟨S16x2048, .bf16⟩
  | .local _ .vmem, ⟨9, _⟩ => ⟨S16x2048, .bf16⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | .local _ .vmem, ⟨14, _⟩ => ⟨S1x3x2048, .f32⟩
  | .local _ .vmem, ⟨15, _⟩ => ⟨S1x2048x512, .bf16⟩
  | .local _ .vmem, ⟨16, _⟩ => ⟨S1x2048x512, .bf16⟩
  | .local _ .vmem, ⟨17, _⟩ => ⟨S1x2048x512, .bf16⟩
  | .local _ .vmem, ⟨18, _⟩ => ⟨S1x2048x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c : Ref sig .tc := ⟨.hbm, 24, rfl⟩
abbrev main_v9 : Ref sig .tc := ⟨.hbm, 25, rfl⟩
abbrev main_c_0 : Ref sig .tc := ⟨.hbm, 26, rfl⟩
abbrev main_v10 : Ref sig .tc := ⟨.hbm, 27, rfl⟩
abbrev main_v11 : Ref sig .tc := ⟨.hbm, 28, rfl⟩
abbrev main_c_1 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c_2 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst : Ref sig .tc := ⟨.hbm, 64, rfl⟩
abbrev main_v45 : Ref sig .tc := ⟨.hbm, 65, rfl⟩
abbrev main_v46 : Ref sig .tc := ⟨.hbm, 66, rfl⟩
abbrev main_cst_3 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_4 : Ref sig .tc := ⟨.hbm, 76, rfl⟩
abbrev main_v55 : Ref sig .tc := ⟨.hbm, 77, rfl⟩
abbrev main_v56 : Ref sig .tc := ⟨.hbm, 78, rfl⟩
abbrev main_cst_5 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![34, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c32_i32 : BitVec 32 := 32#32
  let v1 : BitVec 32 := Scalar.muli v0 c32_i32
  let c1087_i32 : BitVec 32 := 1087#32
  let v2 : BitVec 32 := Scalar.minsi v1 c1087_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S16x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x3x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x2048x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== MergeReferenceIdeal.lean ====
abbrev S4x4096x2048 : Shape := ⟨3, ![4, 4096, 2048]⟩
abbrev S4x256x2048 : Shape := ⟨3, ![4, 256, 2048]⟩
abbrev S2x3x2048 : Shape := ⟨3, ![2, 3, 2048]⟩
abbrev S2x2048x2048 : Shape := ⟨3, ![2, 2048, 2048]⟩
abbrev S1x3x2048 : Shape := ⟨3, ![1, 3, 2048]⟩
abbrev S3x2048 : Shape := ⟨2, ![3, 2048]⟩
abbrev S1x2048x2048 : Shape := ⟨3, ![1, 2048, 2048]⟩
abbrev S2048x2048 : Shape := ⟨2, ![2048, 2048]⟩
abbrev S_ : Shape := ⟨0, ![]⟩
abbrev S4x4098x2048 : Shape := ⟨3, ![4, 4098, 2048]⟩
abbrev S1x2048 : Shape := ⟨2, ![1, 2048]⟩
abbrev S2048 : Shape := ⟨1, ![2048]⟩
abbrev S1x1x2048 : Shape := ⟨3, ![1, 1, 2048]⟩
abbrev S4x258x2048 : Shape := ⟨3, ![4, 258, 2048]⟩
abbrev S16384x2048 : Shape := ⟨2, ![16384, 2048]⟩
abbrev S1024x2048 : Shape := ⟨2, ![1024, 2048]⟩
abbrev S17408x2048 : Shape := ⟨2, ![17408, 2048]⟩

abbrev nBuf : Space → Nat
  | .hbm => 123
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S4x4096x2048, .f32⟩
  | .hbm, ⟨3, _⟩ => ⟨S4x4096x2048, .f32⟩
  | .hbm, ⟨4, _⟩ => ⟨S4x4096x2048, .f32⟩
  | .hbm, ⟨5, _⟩ => ⟨S4x4096x2048, .f32⟩
  | .hbm, ⟨6, _⟩ => ⟨S4x256x2048, .f32⟩
  | .hbm, ⟨7, _⟩ => ⟨S4x256x2048, .f32⟩
  | .hbm, ⟨8, _⟩ => ⟨S4x256x2048, .f32⟩
  | .hbm, ⟨9, _⟩ => ⟨S4x256x2048, .f32⟩
  | .hbm, ⟨10, _⟩ => ⟨S4x256x2048, .f32⟩
  | .hbm, ⟨11, _⟩ => ⟨S4x256x2048, .f32⟩
  | .hbm, ⟨12, _⟩ => ⟨S2x3x2048, .f32⟩
  | .hbm, ⟨13, _⟩ => ⟨S2x2048x2048, .f32⟩
  | .hbm, ⟨14, _⟩ => ⟨S2x2048x2048, .f32⟩
  | .hbm, ⟨15, _⟩ => ⟨S1x3x2048, .f32⟩
  | .hbm, ⟨16, _⟩ => ⟨S3x2048, .f32⟩
  | .hbm, ⟨17, _⟩ => ⟨S1x2048x2048, .f32⟩
  | .hbm, ⟨18, _⟩ => ⟨S2048x2048, .f32⟩
  | .hbm, ⟨19, _⟩ => ⟨S1x2048x2048, .f32⟩
  | .hbm, ⟨20, _⟩ => ⟨S2048x2048, .f32⟩
  | .hbm, ⟨21, _⟩ => ⟨S4x4096x2048, .f32⟩
  | .hbm, ⟨22, _⟩ => ⟨S4x4096x2048, .f32⟩
  | .hbm, ⟨23, _⟩ => ⟨S_, .i32⟩
  | .hbm, ⟨24, _⟩ => ⟨S_, .f32⟩
  | .hbm, ⟨25, _⟩ => ⟨S4x4098x2048, .f32⟩
  | .hbm, ⟨26, _⟩ => ⟨S1x2048, .f32⟩
  | .hbm, ⟨27, _⟩ => ⟨S2048, .f32⟩
  | .hbm, ⟨28, _⟩ => ⟨S4x4096x2048, .f32⟩
  | .hbm, ⟨29, _⟩ => ⟨S1x1x2048, .f32⟩
  | .hbm, ⟨30, _⟩ => ⟨S4x4096x2048, .f32⟩
  | .hbm, ⟨31, _⟩ => ⟨S4x4096x2048, .f32⟩
  | .hbm, ⟨32, _⟩ => ⟨S_, .f32⟩
  | .hbm, ⟨33, _⟩ => ⟨S4x4096x2048, .f32⟩
  | .hbm, ⟨34, _⟩ => ⟨S4x4096x2048, .f32⟩
  | .hbm, ⟨35, _⟩ => ⟨S1x2048, .f32⟩
  | .hbm, ⟨36, _⟩ => ⟨S2048, .f32⟩
  | .hbm, ⟨37, _⟩ => ⟨S4x4096x2048, .f32⟩
  | .hbm, ⟨38, _⟩ => ⟨S1x1x2048, .f32⟩
  | .hbm, ⟨39, _⟩ => ⟨S4x4096x2048, .f32⟩
  | .hbm, ⟨40, _⟩ => ⟨S4x4096x2048, .f32⟩
  | .hbm, ⟨41, _⟩ => ⟨S4x4096x2048, .f32⟩
  | .hbm, ⟨42, _⟩ => ⟨S1x2048, .f32⟩
  | .hbm, ⟨43, _⟩ => ⟨S2048, .f32⟩
  | .hbm, ⟨44, _⟩ => ⟨S4x4096x2048, .f32⟩
  | .hbm, ⟨45, _⟩ => ⟨S1x1x2048, .f32⟩
  | .hbm, ⟨46, _⟩ => ⟨S4x4096x2048, .f32⟩
  | .hbm, ⟨47, _⟩ => ⟨S4x4096x2048, .f32⟩
  | .hbm, ⟨48, _⟩ => ⟨S4x4096x2048, .f32⟩
  | .hbm, ⟨49, _⟩ => ⟨S4x4096x2048, .f32⟩
  | .hbm, ⟨50, _⟩ => ⟨S4x4096x2048, .f32⟩
  | .hbm, ⟨51, _⟩ => ⟨S4x4096x2048, .f32⟩
  | .hbm, ⟨52, _⟩ => ⟨S4x4096x2048, .f32⟩
  | .hbm, ⟨53, _⟩ => ⟨S_, .f32⟩
  | .hbm, ⟨54, _⟩ => ⟨S4x4096x2048, .f32⟩
  | .hbm, ⟨55, _⟩ => ⟨S4x4096x2048, .f32⟩
  | .hbm, ⟨56, _⟩ => ⟨S_, .f32⟩
  | .hbm, ⟨57, _⟩ => ⟨S4x4096x2048, .f32⟩
  | .hbm, ⟨58, _⟩ => ⟨S4x4096x2048, .f32⟩
  | .hbm, ⟨59, _⟩ => ⟨S4x4096x2048, .f32⟩
  | .hbm, ⟨60, _⟩ => ⟨S4x4096x2048, .f32⟩
  | .hbm, ⟨61, _⟩ => ⟨S4x4096x2048, .f32⟩
  | .hbm, ⟨62, _⟩ => ⟨S_, .f32⟩
  | .hbm, ⟨63, _⟩ => ⟨S4x4096x2048, .f32⟩
  | .hbm, ⟨64, _⟩ => ⟨S4x4096x2048, .f32⟩
  | .hbm, ⟨65, _⟩ => ⟨S_, .f32⟩
  | .hbm, ⟨66, _⟩ => ⟨S4x4096x2048, .f32⟩
  | .hbm, ⟨67, _⟩ => ⟨S4x4096x2048, .f32⟩
  | .hbm, ⟨68, _⟩ => ⟨S4x4096x2048, .f32⟩
  | .hbm, ⟨69, _⟩ => ⟨S4x4096x2048, .f32⟩
  | .hbm, ⟨70, _⟩ => ⟨S4x256x2048, .f32⟩
  | .hbm, ⟨71, _⟩ => ⟨S4x256x2048, .f32⟩
  | .hbm, ⟨72, _⟩ => ⟨S_, .i32⟩
  | .hbm, ⟨73, _⟩ => ⟨S_, .f32⟩
  | .hbm, ⟨74, _⟩ => ⟨S4x258x2048, .f32⟩
  | .hbm, ⟨75, _⟩ => ⟨S1x2048, .f32⟩
  | .hbm, ⟨76, _⟩ => ⟨S2048, .f32⟩
  | .hbm, ⟨77, _⟩ => ⟨S4x256x2048, .f32⟩
  | .hbm, ⟨78, _⟩ => ⟨S1x1x2048, .f32⟩
  | .hbm, ⟨79, _⟩ => ⟨S4x256x2048, .f32⟩
  | .hbm, ⟨80, _⟩ => ⟨S4x256x2048, .f32⟩
  | .hbm, ⟨81, _⟩ => ⟨S_, .f32⟩
  | .hbm, ⟨82, _⟩ => ⟨S4x256x2048, .f32⟩
  | .hbm, ⟨83, _⟩ => ⟨S4x256x2048, .f32⟩
  | .hbm, ⟨84, _⟩ => ⟨S1x2048, .f32⟩
  | .hbm, ⟨85, _⟩ => ⟨S2048, .f32⟩
  | .hbm, ⟨86, _⟩ => ⟨S4x256x2048, .f32⟩
  | .hbm, ⟨87, _⟩ => ⟨S1x1x2048, .f32⟩
  | .hbm, ⟨88, _⟩ => ⟨S4x256x2048, .f32⟩
  | .hbm, ⟨89, _⟩ => ⟨S4x256x2048, .f32⟩
  | .hbm, ⟨90, _⟩ => ⟨S4x256x2048, .f32⟩
  | .hbm, ⟨91, _⟩ => ⟨S1x2048, .f32⟩
  | .hbm, ⟨92, _⟩ => ⟨S2048, .f32⟩
  | .hbm, ⟨93, _⟩ => ⟨S4x256x2048, .f32⟩
  | .hbm, ⟨94, _⟩ => ⟨S1x1x2048, .f32⟩
  | .hbm, ⟨95, _⟩ => ⟨S4x256x2048, .f32⟩
  | .hbm, ⟨96, _⟩ => ⟨S4x256x2048, .f32⟩
  | .hbm, ⟨97, _⟩ => ⟨S4x256x2048, .f32⟩
  | .hbm, ⟨98, _⟩ => ⟨S4x256x2048, .f32⟩
  | .hbm, ⟨99, _⟩ => ⟨S4x256x2048, .f32⟩
  | .hbm, ⟨100, _⟩ => ⟨S4x256x2048, .f32⟩
  | .hbm, ⟨101, _⟩ => ⟨S4x256x2048, .f32⟩
  | .hbm, ⟨102, _⟩ => ⟨S_, .f32⟩
  | .hbm, ⟨103, _⟩ => ⟨S4x256x2048, .f32⟩
  | .hbm, ⟨104, _⟩ => ⟨S4x256x2048, .f32⟩
  | .hbm, ⟨105, _⟩ => ⟨S_, .f32⟩
  | .hbm, ⟨106, _⟩ => ⟨S4x256x2048, .f32⟩
  | .hbm, ⟨107, _⟩ => ⟨S4x256x2048, .f32⟩
  | .hbm, ⟨108, _⟩ => ⟨S4x256x2048, .f32⟩
  | .hbm, ⟨109, _⟩ => ⟨S4x256x2048, .f32⟩
  | .hbm, ⟨110, _⟩ => ⟨S4x256x2048, .f32⟩
  | .hbm, ⟨111, _⟩ => ⟨S_, .f32⟩
  | .hbm, ⟨112, _⟩ => ⟨S4x256x2048, .f32⟩
  | .hbm, ⟨113, _⟩ => ⟨S4x256x2048, .f32⟩
  | .hbm, ⟨114, _⟩ => ⟨S_, .f32⟩
  | .hbm, ⟨115, _⟩ => ⟨S4x256x2048, .f32⟩
  | .hbm, ⟨116, _⟩ => ⟨S4x256x2048, .f32⟩
  | .hbm, ⟨117, _⟩ => ⟨S4x256x2048, .f32⟩
  | .hbm, ⟨118, _⟩ => ⟨S4x256x2048, .f32⟩
  | .hbm, ⟨119, _⟩ => ⟨S16384x2048, .f32⟩
  | .hbm, ⟨120, _⟩ => ⟨S1024x2048, .f32⟩
  | .hbm, ⟨121, _⟩ => ⟨S17408x2048, .f32⟩
  | .hbm, ⟨122, _⟩ => ⟨S17408x2048, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_c : Ref sig .tc := ⟨.hbm, 23, rfl⟩
abbrev main_call0_v0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_0 : Ref sig .tc := ⟨.hbm, 53, rfl⟩
abbrev main_v35 : Ref sig .tc := ⟨.hbm, 54, rfl⟩
abbrev main_v36 : Ref sig .tc := ⟨.hbm, 55, rfl⟩
abbrev main_cst_1 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_2 : Ref sig .tc := ⟨.hbm, 62, rfl⟩
abbrev main_v42 : Ref sig .tc := ⟨.hbm, 63, rfl⟩
abbrev main_v43 : Ref sig .tc := ⟨.hbm, 64, rfl⟩
abbrev main_cst_3 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_4 : Ref sig .tc := ⟨.hbm, 72, rfl⟩
abbrev main_call1_v0 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_5 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_6 : Ref sig .tc := ⟨.hbm, 102, rfl⟩
abbrev main_v77 : Ref sig .tc := ⟨.hbm, 103, rfl⟩
abbrev main_v78 : Ref sig .tc := ⟨.hbm, 104, rfl⟩
abbrev main_cst_7 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_cst_8 : Ref sig .tc := ⟨.hbm, 111, rfl⟩
abbrev main_v84 : Ref sig .tc := ⟨.hbm, 112, rfl⟩
abbrev main_v85 : Ref sig .tc := ⟨.hbm, 113, rfl⟩
abbrev main_cst_9 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩

abbrev nD : Nat := 1
abbrev τ : Topo := Topo.v7x

variable {F : FTy → Type} [FloatOps F]
-- ==== OutProj.lean ====
abbrev S4x4096x2048 : Shape := ⟨3, ![4, 4096, 2048]⟩
abbrev S4x256x2048 : Shape := ⟨3, ![4, 256, 2048]⟩
abbrev S4x12288 : Shape := ⟨2, ![4, 12288]⟩
abbrev S12288 : Shape := ⟨1, ![12288]⟩
abbrev S2x2048x2048 : Shape := ⟨3, ![2, 2048, 2048]⟩
abbrev S1x12288 : Shape := ⟨2, ![1, 12288]⟩
abbrev S_ : Shape := ⟨0, ![]⟩
abbrev S3x12288 : Shape := ⟨2, ![3, 12288]⟩
abbrev S8x12288 : Shape := ⟨2, ![8, 12288]⟩
abbrev S16384x2048 : Shape := ⟨2, ![16384, 2048]⟩
abbrev S1024x2048 : Shape := ⟨2, ![1024, 2048]⟩
abbrev S17408x2048 : Shape := ⟨2, ![17408, 2048]⟩
abbrev S48x1x2048 : Shape := ⟨3, ![48, 1, 2048]⟩
abbrev S512x2048 : Shape := ⟨2, ![512, 2048]⟩
abbrev S1x2048x1024 : Shape := ⟨3, ![1, 2048, 1024]⟩
abbrev S512x1024 : Shape := ⟨2, ![512, 1024]⟩
abbrev S1x1x1024 : Shape := ⟨3, ![1, 1, 1024]⟩
abbrev S2048x1024 : Shape := ⟨2, ![2048, 1024]⟩
abbrev S1x1024 : Shape := ⟨2, ![1, 1024]⟩

abbrev nBuf : Space → Nat
  | .hbm => 21
  | .vmem => 10
  | .smem => 0
  | _ => 0

abbrev bufTy : (tb : Table) → Fin (tcTables nBuf tb) → BufTy
  | .hbm, ⟨0, _⟩ => ⟨S4x4096x2048, .f32⟩
  | .hbm, ⟨1, _⟩ => ⟨S4x256x2048, .f32⟩
  | .hbm, ⟨2, _⟩ => ⟨S4x4096x2048, .f32⟩
  | .hbm, ⟨3, _⟩ => ⟨S4x256x2048, .f32⟩
  | .hbm, ⟨4, _⟩ => ⟨S4x12288, .f32⟩
  | .hbm, ⟨5, _⟩ => ⟨S12288, .f32⟩
  | .hbm, ⟨6, _⟩ => ⟨S2x2048x2048, .f32⟩
  | .hbm, ⟨7, _⟩ => ⟨S1x12288, .f32⟩
  | .hbm, ⟨8, _⟩ => ⟨S_, .f32⟩
  | .hbm, ⟨9, _⟩ => ⟨S3x12288, .f32⟩
  | .hbm, ⟨10, _⟩ => ⟨S8x12288, .f32⟩
  | .hbm, ⟨11, _⟩ => ⟨S16384x2048, .f32⟩
  | .hbm, ⟨12, _⟩ => ⟨S1024x2048, .f32⟩
  | .hbm, ⟨13, _⟩ => ⟨S17408x2048, .f32⟩
  | .hbm, ⟨14, _⟩ => ⟨S17408x2048, .bf16⟩
  | .hbm, ⟨15, _⟩ => ⟨S2x2048x2048, .bf16⟩
  | .hbm, ⟨16, _⟩ => ⟨S16384x2048, .f32⟩
  | .hbm, ⟨17, _⟩ => ⟨S1024x2048, .f32⟩
  | .hbm, ⟨18, _⟩ => ⟨S17408x2048, .f32⟩
  | .hbm, ⟨19, _⟩ => ⟨S48x1x2048, .f32⟩
  | .hbm, ⟨20, _⟩ => ⟨S17408x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S512x1024, .f32⟩
  | .local _ .vmem, ⟨5, _⟩ => ⟨S512x1024, .f32⟩
  | .local _ .vmem, ⟨6, _⟩ => ⟨S1x1x1024, .f32⟩
  | .local _ .vmem, ⟨7, _⟩ => ⟨S1x1x1024, .f32⟩
  | .local _ .vmem, ⟨8, _⟩ => ⟨S512x1024, .f32⟩
  | .local _ .vmem, ⟨9, _⟩ => ⟨S512x1024, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![34, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.minsi v16 c4_i32
  let c6_i32 : BitVec 32 := 6#32
  let v18 : BitVec 32 := Scalar.muli v17 c6_i32
  let c2_i32 : BitVec 32 := 2#32
  let v19 : BitVec 32 := Scalar.addi v18 c2_i32
  let c0_i32_4 : BitVec 32 := 0#32
  let c0_i32_5 : BitVec 32 := 0#32
  ![v19.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutProjReferenceIdeal.lean ====
abbrev S4x4096x2048 : Shape := ⟨3, ![4, 4096, 2048]⟩
abbrev S4x256x2048 : Shape := ⟨3, ![4, 256, 2048]⟩
abbrev S4x12288 : Shape := ⟨2, ![4, 12288]⟩
abbrev S12288 : Shape := ⟨1, ![12288]⟩
abbrev S2x2048x2048 : Shape := ⟨3, ![2, 2048, 2048]⟩
abbrev S4x2048 : Shape := ⟨2, ![4, 2048]⟩
abbrev S4x1x2048 : Shape := ⟨3, ![4, 1, 2048]⟩
abbrev S2048 : Shape := ⟨1, ![2048]⟩
abbrev S1x2048x2048 : Shape := ⟨3, ![1, 2048, 2048]⟩
abbrev S2048x2048 : Shape := ⟨2, ![2048, 2048]⟩
abbrev S1x1x2048 : Shape := ⟨3, ![1, 1, 2048]⟩
abbrev S16384x2048 : Shape := ⟨2, ![16384, 2048]⟩
abbrev S1024x2048 : Shape := ⟨2, ![1024, 2048]⟩
abbrev S17408x2048 : Shape := ⟨2, ![17408, 2048]⟩

abbrev nBuf : Space → Nat
  | .hbm => 36
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x256x2048, .f32⟩
  | .hbm, ⟨2, _⟩ => ⟨S4x4096x2048, .f32⟩
  | .hbm, ⟨3, _⟩ => ⟨S4x256x2048, .f32⟩
  | .hbm, ⟨4, _⟩ => ⟨S4x12288, .f32⟩
  | .hbm, ⟨5, _⟩ => ⟨S12288, .f32⟩
  | .hbm, ⟨6, _⟩ => ⟨S2x2048x2048, .f32⟩
  | .hbm, ⟨7, _⟩ => ⟨S4x2048, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S4x2048, .f32⟩
  | .hbm, ⟨12, _⟩ => ⟨S4x2048, .f32⟩
  | .hbm, ⟨13, _⟩ => ⟨S4x1x2048, .f32⟩
  | .hbm, ⟨14, _⟩ => ⟨S2048, .f32⟩
  | .hbm, ⟨15, _⟩ => ⟨S2048, .f32⟩
  | .hbm, ⟨16, _⟩ => ⟨S2048, .f32⟩
  | .hbm, ⟨17, _⟩ => ⟨S2048, .f32⟩
  | .hbm, ⟨18, _⟩ => ⟨S2048, .f32⟩
  | .hbm, ⟨19, _⟩ => ⟨S2048, .f32⟩
  | .hbm, ⟨20, _⟩ => ⟨S1x2048x2048, .f32⟩
  | .hbm, ⟨21, _⟩ => ⟨S2048x2048, .f32⟩
  | .hbm, ⟨22, _⟩ => ⟨S4x4096x2048, .f32⟩
  | .hbm, ⟨23, _⟩ => ⟨S4x4096x2048, .f32⟩
  | .hbm, ⟨24, _⟩ => ⟨S4x4096x2048, .f32⟩
  | .hbm, ⟨25, _⟩ => ⟨S4x4096x2048, .f32⟩
  | .hbm, ⟨26, _⟩ => ⟨S1x2048x2048, .f32⟩
  | .hbm, ⟨27, _⟩ => ⟨S2048x2048, .f32⟩
  | .hbm, ⟨28, _⟩ => ⟨S4x256x2048, .f32⟩
  | .hbm, ⟨29, _⟩ => ⟨S1x1x2048, .f32⟩
  | .hbm, ⟨30, _⟩ => ⟨S4x256x2048, .f32⟩
  | .hbm, ⟨31, _⟩ => ⟨S4x256x2048, .f32⟩
  | .hbm, ⟨32, _⟩ => ⟨S4x256x2048, .f32⟩
  | .hbm, ⟨33, _⟩ => ⟨S16384x2048, .f32⟩
  | .hbm, ⟨34, _⟩ => ⟨S1024x2048, .f32⟩
  | .hbm, ⟨35, _⟩ => ⟨S17408x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== InProj.lean ====
abbrev S4x4096x2048 : Shape := ⟨3, ![4, 4096, 2048]⟩
abbrev S4x256x2048 : Shape := ⟨3, ![4, 256, 2048]⟩
abbrev S4x12288 : Shape := ⟨2, ![4, 12288]⟩
abbrev S12288 : Shape := ⟨1, ![12288]⟩
abbrev S2x2048 : Shape := ⟨2, ![2, 2048]⟩
abbrev S2x2048x11072 : Shape := ⟨3, ![2, 2048, 11072]⟩
abbrev S16384x2048 : Shape := ⟨2, ![16384, 2048]⟩
abbrev S1024x2048 : Shape := ⟨2, ![1024, 2048]⟩
abbrev S17408x2048 : Shape := ⟨2, ![17408, 2048]⟩
abbrev S1x12288 : Shape := ⟨2, ![1, 12288]⟩
abbrev S_ : Shape := ⟨0, ![]⟩
abbrev S3x12288 : Shape := ⟨2, ![3, 12288]⟩
abbrev S8x12288 : Shape := ⟨2, ![8, 12288]⟩
abbrev S48x1x2048 : Shape := ⟨3, ![48, 1, 2048]⟩
abbrev S2x2048x256 : Shape := ⟨3, ![2, 2048, 256]⟩
abbrev S2x2048x512 : Shape := ⟨3, ![2, 2048, 512]⟩
abbrev S2x2048x64 : Shape := ⟨3, ![2, 2048, 64]⟩
abbrev S2x2048x32 : Shape := ⟨3, ![2, 2048, 32]⟩
abbrev S2x2048x896 : Shape := ⟨3, ![2, 2048, 896]⟩
abbrev S2x2048x10240 : Shape := ⟨3, ![2, 2048, 10240]⟩
abbrev S2x10240x2048 : Shape := ⟨3, ![2, 10240, 2048]⟩
abbrev S2x1x2048 : Shape := ⟨3, ![2, 1, 2048]⟩
abbrev S17408x896 : Shape := ⟨2, ![17408, 896]⟩
abbrev S512x2048 : Shape := ⟨2, ![512, 2048]⟩
abbrev S1x1x2048 : Shape := ⟨3, ![1, 1, 2048]⟩
abbrev S1x2048x896 : Shape := ⟨3, ![1, 2048, 896]⟩
abbrev S1x512x2048 : Shape := ⟨3, ![1, 512, 2048]⟩
abbrev S512x896 : Shape := ⟨2, ![512, 896]⟩
abbrev S512x512 : Shape := ⟨2, ![512, 512]⟩
abbrev S1x2048 : Shape := ⟨2, ![1, 2048]⟩
abbrev S512 : Shape := ⟨1, ![512]⟩
abbrev S512x1 : Shape := ⟨2, ![512, 1]⟩
abbrev S2048x896 : Shape := ⟨2, ![2048, 896]⟩
abbrev S17408x64 : Shape := ⟨2, ![17408, 64]⟩
abbrev S17408x2x32 : Shape := ⟨3, ![17408, 2, 32]⟩
abbrev S17408x32x2 : Shape := ⟨3, ![17408, 32, 2]⟩
abbrev S17408x256 : Shape := ⟨2, ![17408, 256]⟩
abbrev S17408x512 : Shape := ⟨2, ![17408, 512]⟩

abbrev nBuf : Space → Nat
  | .hbm => 39
  | .vmem => 29
  | .smem => 0
  | _ => 0

abbrev bufTy : (tb : Table) → Fin (tcTables nBuf tb) → BufTy
  | .hbm, ⟨0, _⟩ => ⟨S4x4096x2048, .f32⟩
  | .hbm, ⟨1, _⟩ => ⟨S4x256x2048, .f32⟩
  | .hbm, ⟨2, _⟩ => ⟨S4x12288, .f32⟩
  | .hbm, ⟨3, _⟩ => ⟨S12288, .f32⟩
  | .hbm, ⟨4, _⟩ => ⟨S2x2048, .f32⟩
  | .hbm, ⟨5, _⟩ => ⟨S2x2048x11072, .f32⟩
  | .hbm, ⟨6, _⟩ => ⟨S16384x2048, .f32⟩
  | .hbm, ⟨7, _⟩ => ⟨S1024x2048, .f32⟩
  | .hbm, ⟨8, _⟩ => ⟨S17408x2048, .f32⟩
  | .hbm, ⟨9, _⟩ => ⟨S1x12288, .f32⟩
  | .hbm, ⟨10, _⟩ => ⟨S_, .f32⟩
  | .hbm, ⟨11, _⟩ => ⟨S3x12288, .f32⟩
  | .hbm, ⟨12, _⟩ => ⟨S8x12288, .f32⟩
  | .hbm, ⟨13, _⟩ => ⟨S48x1x2048, .f32⟩
  | .hbm, ⟨14, _⟩ => ⟨S2x2048x256, .f32⟩
  | .hbm, ⟨15, _⟩ => ⟨S2x2048x512, .f32⟩
  | .hbm, ⟨16, _⟩ => ⟨S2x2048x64, .f32⟩
  | .hbm, ⟨17, _⟩ => ⟨S2x2048x32, .f32⟩
  | .hbm, ⟨18, _⟩ => ⟨S2x2048x32, .f32⟩
  | .hbm, ⟨19, _⟩ => ⟨S2x2048x64, .f32⟩
  | .hbm, ⟨20, _⟩ => ⟨S_, .f32⟩
  | .hbm, ⟨21, _⟩ => ⟨S2x2048x64, .f32⟩
  | .hbm, ⟨22, _⟩ => ⟨S2x2048x896, .f32⟩
  | .hbm, ⟨23, _⟩ => ⟨S2x2048x896, .bf16⟩
  | .hbm, ⟨24, _⟩ => ⟨S2x2048x10240, .f32⟩
  | .hbm, ⟨25, _⟩ => ⟨S2x10240x2048, .f32⟩
  | .hbm, ⟨26, _⟩ => ⟨S2x10240x2048, .bf16⟩
  | .hbm, ⟨27, _⟩ => ⟨S2x1x2048, .f32⟩
  | .hbm, ⟨28, _⟩ => ⟨S17408x896, .f32⟩
  | .hbm, ⟨29, _⟩ => ⟨S17408x2048, .bf16⟩
  | .hbm, ⟨30, _⟩ => ⟨S17408x2048, .bf16⟩
  | .hbm, ⟨31, _⟩ => ⟨S17408x2048, .bf16⟩
  | .hbm, ⟨32, _⟩ => ⟨S17408x2048, .bf16⟩
  | .hbm, ⟨33, _⟩ => ⟨S17408x64, .f32⟩
  | .hbm, ⟨34, _⟩ => ⟨S17408x2x32, .f32⟩
  | .hbm, ⟨35, _⟩ => ⟨S17408x32x2, .f32⟩
  | .hbm, ⟨36, _⟩ => ⟨S17408x64, .f32⟩
  | .hbm, ⟨37, _⟩ => ⟨S17408x256, .f32⟩
  | .hbm, ⟨38, _⟩ => ⟨S17408x512, .f32⟩
  | .local _ .vmem, ⟨0, _⟩ => ⟨S512x2048, .f32⟩
  | .local _ .vmem, ⟨1, _⟩ => ⟨S512x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x2048x896, .bf16⟩
  | .local _ .vmem, ⟨8, _⟩ => ⟨S1x512x2048, .bf16⟩
  | .local _ .vmem, ⟨9, _⟩ => ⟨S1x512x2048, .bf16⟩
  | .local _ .vmem, ⟨10, _⟩ => ⟨S1x512x2048, .bf16⟩
  | .local _ .vmem, ⟨11, _⟩ => ⟨S1x512x2048, .bf16⟩
  | .local _ .vmem, ⟨12, _⟩ => ⟨S1x512x2048, .bf16⟩
  | .local _ .vmem, ⟨13, _⟩ => ⟨S1x512x2048, .bf16⟩
  | .local _ .vmem, ⟨14, _⟩ => ⟨S1x512x2048, .bf16⟩
  | .local _ .vmem, ⟨15, _⟩ => ⟨S1x512x2048, .bf16⟩
  | .local _ .vmem, ⟨16, _⟩ => ⟨S1x512x2048, .bf16⟩
  | .local _ .vmem, ⟨17, _⟩ => ⟨S1x512x2048, .bf16⟩
  | .local _ .vmem, ⟨18, _⟩ => ⟨S512x896, .f32⟩
  | .local _ .vmem, ⟨19, _⟩ => ⟨S512x896, .f32⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S512x512, .bf16⟩
  | .local _ .vmem, ⟨27, _⟩ => ⟨S512x512, .bf16⟩
  | .local _ .vmem, ⟨28, _⟩ => ⟨S512x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20_0 : Ref sig .tc := ⟨.hbm, 28, rfl⟩
abbrev main_v20_1 : Ref sig .tc := ⟨.hbm, 29, rfl⟩
abbrev main_v20_2 : Ref sig .tc := ⟨.hbm, 30, rfl⟩
abbrev main_v20_3 : Ref sig .tc := ⟨.hbm, 31, rfl⟩
abbrev main_v20_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27

abbrev nD : Nat := 1
abbrev τ : Topo := Topo.v7x

variable {F : FTy → Type} [FloatOps F]

abbrev grid0 : Pipeline.Grid := ⟨2, ![34, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.minsi v16 c4_i32
  let c6_i32 : BitVec 32 := 6#32
  let v18 : BitVec 32 := Scalar.muli v17 c6_i32
  let c0_i32_4 : BitVec 32 := 0#32
  let v19 : BitVec 32 := Scalar.addi v18 c0_i32_4
  let c0_i32_5 : BitVec 32 := 0#32
  let c0_i32_6 : BitVec 32 := 0#32
  let c0_i32_7 : BitVec 32 := 0#32
  ![v19.toNat, c0_i32_5.toNat, c0_i32_6.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.minsi v16 c4_i32
  let c6_i32 : BitVec 32 := 6#32
  let v18 : BitVec 32 := Scalar.muli v17 c6_i32
  let c1_i32_4 : BitVec 32 := 1#32
  let v19 : BitVec 32 := Scalar.addi v18 c1_i32_4
  let c0_i32_5 : BitVec 32 := 0#32
  let c0_i32_6 : BitVec 32 := 0#32
  let c0_i32_7 : BitVec 32 := 0#32
  ![v19.toNat, c0_i32_5.toNat, c0_i32_6.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, v0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  let c0_i32_1 : BitVec 32 := 0#32
  ![c0_i32.toNat, v0.toNat, c0_i32_0.toNat]

def cc0_transform_7 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  let c0_i32_1 : BitVec 32 := 0#32
  ![c0_i32.toNat, v0.toNat, c0_i32_0.toNat]

def cc0_transform_8 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  let c0_i32_1 : BitVec 32 := 0#32
  ![c0_i32.toNat, v0.toNat, c0_i32_0.toNat]

def cc0_transform_9 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  let c0_i32_1 : BitVec 32 := 0#32
  ![c0_i32.toNat, v0.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048x896 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x896 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== InProjReferenceIdeal.lean ====
abbrev S4x4096x2048 : Shape := ⟨3, ![4, 4096, 2048]⟩
abbrev S4x256x2048 : Shape := ⟨3, ![4, 256, 2048]⟩
abbrev S4x12288 : Shape := ⟨2, ![4, 12288]⟩
abbrev S12288 : Shape := ⟨1, ![12288]⟩
abbrev S2x2048 : Shape := ⟨2, ![2, 2048]⟩
abbrev S2x2048x11072 : Shape := ⟨3, ![2, 2048, 11072]⟩
abbrev S4x2048 : Shape := ⟨2, ![4, 2048]⟩
abbrev S4x1x2048 : Shape := ⟨3, ![4, 1, 2048]⟩
abbrev S2048 : Shape := ⟨1, ![2048]⟩
abbrev S1x2048 : Shape := ⟨2, ![1, 2048]⟩
abbrev S_ : Shape := ⟨0, ![]⟩
abbrev S4x256 : Shape := ⟨2, ![4, 256]⟩
abbrev S4x256x1 : Shape := ⟨3, ![4, 256, 1]⟩
abbrev S1x1x2048 : Shape := ⟨3, ![1, 1, 2048]⟩
abbrev S4x4096 : Shape := ⟨2, ![4, 4096]⟩
abbrev S4x4096x1 : Shape := ⟨3, ![4, 4096, 1]⟩
abbrev S1x2048x11072 : Shape := ⟨3, ![1, 2048, 11072]⟩
abbrev S2048x11072 : Shape := ⟨2, ![2048, 11072]⟩
abbrev S4x4096x11072 : Shape := ⟨3, ![4, 4096, 11072]⟩
abbrev S16384x11072 : Shape := ⟨2, ![16384, 11072]⟩
abbrev S4x256x11072 : Shape := ⟨3, ![4, 256, 11072]⟩
abbrev S1024x11072 : Shape := ⟨2, ![1024, 11072]⟩
abbrev S17408x11072 : Shape := ⟨2, ![17408, 11072]⟩
abbrev S17408x256 : Shape := ⟨2, ![17408, 256]⟩
abbrev S17408x64 : Shape := ⟨2, ![17408, 64]⟩
abbrev S17408x512 : Shape := ⟨2, ![17408, 512]⟩
abbrev S17408x2048 : Shape := ⟨2, ![17408, 2048]⟩

abbrev nBuf : Space → Nat
  | .hbm => 114
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x256x2048, .f32⟩
  | .hbm, ⟨2, _⟩ => ⟨S4x12288, .f32⟩
  | .hbm, ⟨3, _⟩ => ⟨S12288, .f32⟩
  | .hbm, ⟨4, _⟩ => ⟨S2x2048, .f32⟩
  | .hbm, ⟨5, _⟩ => ⟨S2x2048x11072, .f32⟩
  | .hbm, ⟨6, _⟩ => ⟨S4x2048, .f32⟩
  | .hbm, ⟨7, _⟩ => ⟨S4x2048, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S4x2048, .f32⟩
  | .hbm, ⟨12, _⟩ => ⟨S4x1x2048, .f32⟩
  | .hbm, ⟨13, _⟩ => ⟨S4x1x2048, .f32⟩
  | .hbm, ⟨14, _⟩ => ⟨S4x1x2048, .f32⟩
  | .hbm, ⟨15, _⟩ => ⟨S4x1x2048, .f32⟩
  | .hbm, ⟨16, _⟩ => ⟨S4x1x2048, .f32⟩
  | .hbm, ⟨17, _⟩ => ⟨S4x1x2048, .f32⟩
  | .hbm, ⟨18, _⟩ => ⟨S2048, .f32⟩
  | .hbm, ⟨19, _⟩ => ⟨S2048, .f32⟩
  | .hbm, ⟨20, _⟩ => ⟨S2048, .f32⟩
  | .hbm, ⟨21, _⟩ => ⟨S2048, .f32⟩
  | .hbm, ⟨22, _⟩ => ⟨S2048, .f32⟩
  | .hbm, ⟨23, _⟩ => ⟨S2048, .f32⟩
  | .hbm, ⟨24, _⟩ => ⟨S1x2048, .f32⟩
  | .hbm, ⟨25, _⟩ => ⟨S2048, .f32⟩
  | .hbm, ⟨26, _⟩ => ⟨S4x256x2048, .f32⟩
  | .hbm, ⟨27, _⟩ => ⟨S_, .f32⟩
  | .hbm, ⟨28, _⟩ => ⟨S4x256, .f32⟩
  | .hbm, ⟨29, _⟩ => ⟨S4x256x1, .f32⟩
  | .hbm, ⟨30, _⟩ => ⟨S_, .f32⟩
  | .hbm, ⟨31, _⟩ => ⟨S4x256x1, .f32⟩
  | .hbm, ⟨32, _⟩ => ⟨S4x256x1, .f32⟩
  | .hbm, ⟨33, _⟩ => ⟨S_, .f32⟩
  | .hbm, ⟨34, _⟩ => ⟨S4x256x1, .f32⟩
  | .hbm, ⟨35, _⟩ => ⟨S4x256x1, .f32⟩
  | .hbm, ⟨36, _⟩ => ⟨S4x256x1, .f32⟩
  | .hbm, ⟨37, _⟩ => ⟨S4x256x2048, .f32⟩
  | .hbm, ⟨38, _⟩ => ⟨S4x256x2048, .f32⟩
  | .hbm, ⟨39, _⟩ => ⟨S1x1x2048, .f32⟩
  | .hbm, ⟨40, _⟩ => ⟨S4x256x2048, .f32⟩
  | .hbm, ⟨41, _⟩ => ⟨S4x256x2048, .f32⟩
  | .hbm, ⟨42, _⟩ => ⟨S_, .f32⟩
  | .hbm, ⟨43, _⟩ => ⟨S2048, .f32⟩
  | .hbm, ⟨44, _⟩ => ⟨S2048, .f32⟩
  | .hbm, ⟨45, _⟩ => ⟨S1x1x2048, .f32⟩
  | .hbm, ⟨46, _⟩ => ⟨S4x256x2048, .f32⟩
  | .hbm, ⟨47, _⟩ => ⟨S4x256x2048, .f32⟩
  | .hbm, ⟨48, _⟩ => ⟨S1x1x2048, .f32⟩
  | .hbm, ⟨49, _⟩ => ⟨S4x256x2048, .f32⟩
  | .hbm, ⟨50, _⟩ => ⟨S4x256x2048, .f32⟩
  | .hbm, ⟨51, _⟩ => ⟨S1x2048, .f32⟩
  | .hbm, ⟨52, _⟩ => ⟨S2048, .f32⟩
  | .hbm, ⟨53, _⟩ => ⟨S4x4096x2048, .f32⟩
  | .hbm, ⟨54, _⟩ => ⟨S_, .f32⟩
  | .hbm, ⟨55, _⟩ => ⟨S4x4096, .f32⟩
  | .hbm, ⟨56, _⟩ => ⟨S4x4096x1, .f32⟩
  | .hbm, ⟨57, _⟩ => ⟨S_, .f32⟩
  | .hbm, ⟨58, _⟩ => ⟨S4x4096x1, .f32⟩
  | .hbm, ⟨59, _⟩ => ⟨S4x4096x1, .f32⟩
  | .hbm, ⟨60, _⟩ => ⟨S_, .f32⟩
  | .hbm, ⟨61, _⟩ => ⟨S4x4096x1, .f32⟩
  | .hbm, ⟨62, _⟩ => ⟨S4x4096x1, .f32⟩
  | .hbm, ⟨63, _⟩ => ⟨S4x4096x1, .f32⟩
  | .hbm, ⟨64, _⟩ => ⟨S4x4096x2048, .f32⟩
  | .hbm, ⟨65, _⟩ => ⟨S4x4096x2048, .f32⟩
  | .hbm, ⟨66, _⟩ => ⟨S1x1x2048, .f32⟩
  | .hbm, ⟨67, _⟩ => ⟨S4x4096x2048, .f32⟩
  | .hbm, ⟨68, _⟩ => ⟨S4x4096x2048, .f32⟩
  | .hbm, ⟨69, _⟩ => ⟨S_, .f32⟩
  | .hbm, ⟨70, _⟩ => ⟨S4x1x2048, .f32⟩
  | .hbm, ⟨71, _⟩ => ⟨S4x1x2048, .f32⟩
  | .hbm, ⟨72, _⟩ => ⟨S4x4096x2048, .f32⟩
  | .hbm, ⟨73, _⟩ => ⟨S4x4096x2048, .f32⟩
  | .hbm, ⟨74, _⟩ => ⟨S4x4096x2048, .f32⟩
  | .hbm, ⟨75, _⟩ => ⟨S4x4096x2048, .f32⟩
  | .hbm, ⟨76, _⟩ => ⟨S1x2048x11072, .f32⟩
  | .hbm, ⟨77, _⟩ => ⟨S2048x11072, .f32⟩
  | .hbm, ⟨78, _⟩ => ⟨S4x4096x11072, .f32⟩
  | .hbm, ⟨79, _⟩ => ⟨S16384x11072, .f32⟩
  | .hbm, ⟨80, _⟩ => ⟨S1x2048x11072, .f32⟩
  | .hbm, ⟨81, _⟩ => ⟨S2048x11072, .f32⟩
  | .hbm, ⟨82, _⟩ => ⟨S4x256x11072, .f32⟩
  | .hbm, ⟨83, _⟩ => ⟨S1024x11072, .f32⟩
  | .hbm, ⟨84, _⟩ => ⟨S17408x11072, .f32⟩
  | .hbm, ⟨85, _⟩ => ⟨S17408x256, .f32⟩
  | .hbm, ⟨86, _⟩ => ⟨S17408x64, .f32⟩
  | .hbm, ⟨87, _⟩ => ⟨S17408x512, .f32⟩
  | .hbm, ⟨88, _⟩ => ⟨S17408x2048, .f32⟩
  | .hbm, ⟨89, _⟩ => ⟨S17408x2048, .f32⟩
  | .hbm, ⟨90, _⟩ => ⟨S17408x2048, .f32⟩
  | .hbm, ⟨91, _⟩ => ⟨S17408x2048, .f32⟩
  | .hbm, ⟨92, _⟩ => ⟨S17408x2048, .f32⟩
  | .hbm, ⟨93, _⟩ => ⟨S17408x2048, .bf16⟩
  | .hbm, ⟨94, _⟩ => ⟨S17408x2048, .f32⟩
  | .hbm, ⟨95, _⟩ => ⟨S17408x2048, .bf16⟩
  | .hbm, ⟨96, _⟩ => ⟨S17408x2048, .f32⟩
  | .hbm, ⟨97, _⟩ => ⟨S17408x2048, .f32⟩
  | .hbm, ⟨98, _⟩ => ⟨S_, .f32⟩
  | .hbm, ⟨99, _⟩ => ⟨S17408x2048, .f32⟩
  | .hbm, ⟨100, _⟩ => ⟨S17408x2048, .f32⟩
  | .hbm, ⟨101, _⟩ => ⟨S_, .f32⟩
  | .hbm, ⟨102, _⟩ => ⟨S17408x2048, .f32⟩
  | .hbm, ⟨103, _⟩ => ⟨S17408x2048, .f32⟩
  | .hbm, ⟨104, _⟩ => ⟨S17408x2048, .bf16⟩
  | .hbm, ⟨105, _⟩ => ⟨S17408x2048, .f32⟩
  | .hbm, ⟨106, _⟩ => ⟨S17408x2048, .f32⟩
  | .hbm, ⟨107, _⟩ => ⟨S_, .f32⟩
  | .hbm, ⟨108, _⟩ => ⟨S17408x2048, .f32⟩
  | .hbm, ⟨109, _⟩ => ⟨S17408x2048, .f32⟩
  | .hbm, ⟨110, _⟩ => ⟨S_, .f32⟩
  | .hbm, ⟨111, _⟩ => ⟨S17408x2048, .f32⟩
  | .hbm, ⟨112, _⟩ => ⟨S17408x2048, .f32⟩
  | .hbm, ⟨113, _⟩ => ⟨S17408x2048, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst : Ref sig .tc := ⟨.hbm, 27, rfl⟩
abbrev main_v21 : Ref sig .tc := ⟨.hbm, 28, rfl⟩
abbrev main_v22 : Ref sig .tc := ⟨.hbm, 29, rfl⟩
abbrev main_cst_0 : Ref sig .tc := ⟨.hbm, 30, rfl⟩
abbrev main_v23 : Ref sig .tc := ⟨.hbm, 31, rfl⟩
abbrev main_v24 : Ref sig .tc := ⟨.hbm, 32, rfl⟩
abbrev main_cst_1 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_2 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_3 : Ref sig .tc := ⟨.hbm, 54, rfl⟩
abbrev main_v44 : Ref sig .tc := ⟨.hbm, 55, rfl⟩
abbrev main_v45 : Ref sig .tc := ⟨.hbm, 56, rfl⟩
abbrev main_cst_4 : Ref sig .tc := ⟨.hbm, 57, rfl⟩
abbrev main_v46 : Ref sig .tc := ⟨.hbm, 58, rfl⟩
abbrev main_v47 : Ref sig .tc := ⟨.hbm, 59, rfl⟩
abbrev main_cst_5 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_6 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_cst_7 : Ref sig .tc := ⟨.hbm, 98, rfl⟩
abbrev main_v84 : Ref sig .tc := ⟨.hbm, 99, rfl⟩
abbrev main_v85 : Ref sig .tc := ⟨.hbm, 100, rfl⟩
abbrev main_cst_8 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_cst_9 : Ref sig .tc := ⟨.hbm, 107, rfl⟩
abbrev main_v91 : Ref sig .tc := ⟨.hbm, 108, rfl⟩
abbrev main_v92 : Ref sig .tc := ⟨.hbm, 109, rfl⟩
abbrev main_cst_10 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩

abbrev nD : Nat := 1
abbrev τ : Topo := Topo.v7x

variable {F : FTy → Type} [FloatOps F]
-- ==== Proof.Pieces.lean ====
/-
  What one grid point of the attention kernel writes, as ONE function of a block of 256 query rows. The kernel works
  through eight such blocks; while it computes the scores of one it forms the output of the one before, and keeps the
  scores and the row maxima of both in a scratch of two slots. Here every read of the scratch is resolved to what was
  stored there, so the eight stores carry the same expression `blockOut` at eight row offsets.
-/
module

public import proofs.«01_k».proof.Proof.Gen.KernelIdeal.Value
public import Idealize.ShloMosaic.Lib.Pipeline.ReadBack
public import Idealize.ShloMosaic.Lib.Tactic.RunNames

@[expose] public section

set_option maxRecDepth 16384

noncomputable section

namespace Cert.KernelIdeal.Attn

open Cert.KernelIdeal Cert.KernelIdeal.Gen Idealize.ShloMosaic Idealize.ShloMosaic.TcCoe Idealize.ShloMosaic.Tactic

variable {F : FTy → Type} [FloatOps F]

/-- The 256 query rows from row `o` of the point's 2048. -/
def qRows (x0 : Vec F S1x2048x256 .bf16) (o : ℕ) (h : o + 256 ≤ 2048) : FVec F S256x256 .bf16 :=
  shapeCast S256x256 (View.ld x0 (Rect.unit ![0, o, 0] S1x256x256.size
    (by intro a; match a with | ⟨0, _⟩ => exact Nat.le_refl 1 | ⟨1, _⟩ => exact h | ⟨2, _⟩ => exact Nat.le_refl 256)))
    shapeCasts_S1x256x256_S256x256

/-- Scores against the 1024 latent keys from row `o` of the sequence's 4096. -/
def scoreLat (q : FVec F S256x256 .bf16) (x1 : Vec F S1x4096x256 .bf16) (o : ℕ) (h : o + 1024 ≤ 4096) : FVec F S256x1024 .f32 :=
  matmul dot_S256x256_S1024x256_S256x1024_1_1_0_0_n_n none q
    (shapeCast S1024x256 (View.ld x1 (Rect.unit ![0, o, 0] S1x1024x256.size
      (by intro a; match a with | ⟨0, _⟩ => exact Nat.le_refl 1 | ⟨1, _⟩ => exact h | ⟨2, _⟩ => exact Nat.le_refl 256)))
      shapeCasts_S1x1024x256_S1024x256)
    (constant S256x1024 .f32 0x00000000#32)

/-- Scores against the 256 context keys. -/
def scoreCtx (q : FVec F S256x256 .bf16) (x2 : Vec F S1x256x256 .bf16) : FVec F S256x256 .f32 :=
  matmul dot_S256x256_S256x256_S256x256_1_1_0_0_n_n none q
    (shapeCast S256x256 (View.ld x2 (Rect.unit ![0, 0, 0] S1x256x256.size inb_S1x256x256_S1x256x256_0_0_0)) shapeCasts_S1x256x256_S256x256)
    (constant S256x256 .f32 0x00000000#32)

/-- A row's maximum over a piece of latent keys. -/
def maxLat (s : FVec F S256x1024 .f32) : FVec F S256x1 .f32 :=
  shapeCast S256x1 (multiReduction .maximumf [1] S256 s 0xFF800000#32 reduces_S256x1024_S256 (.inl rfl) rfl) shapeCasts_S256_S256x1

/-- A row's maximum over all keys: the four pieces of latent keys, then the context keys. -/
def maxAll (s0 s1 s2 s3 : FVec F S256x1024 .f32) (sc : FVec F S256x256 .f32) : FVec F S256x1 .f32 :=
  maximumf (maximumf (maximumf (maximumf (maxLat s0) (maxLat s1)) (maxLat s2)) (maxLat s3))
    (shapeCast S256x1 (multiReduction .maximumf [1] S256 sc 0xFF800000#32 reduces_S256x256_S256 (.inl rfl) rfl) shapeCasts_S256_S256x1)

/-- The maxima as the scratch slot holds and gives them back. -/
def thruMax (m : FVec F S256x1 .f32) : FVec F S256x1 .f32 :=
  shapeCast S256x1 (shapeCast S1x256x1 m shapeCasts_S256x1_S1x256x1) shapeCasts_S1x256x1_S256x1

/-- The exponentials over a piece of latent keys. -/
def expLat (s : FVec F S256x1024 .f32) (m : FVec F S256x1 .f32) : FVec F S256x1024 .f32 :=
  exp2 (subf (shapeCast S256x1024 (shapeCast S1x256x1024 s shapeCasts_S256x1024_S1x256x1024) shapeCasts_S1x256x1024_S256x1024)
    (broadcastTo S256x1024 (thruMax m) broadcasts_S256x1_S256x1024))

/-- The exponentials over the context keys. -/
def expCtx (s : FVec F S256x256 .f32) (m : FVec F S256x1 .f32) : FVec F S256x256 .f32 :=
  exp2 (subf (shapeCast S256x256 (shapeCast S1x256x256 s shapeCasts_S256x256_S1x256x256) shapeCasts_S1x256x256_S256x256)
    (broadcastTo S256x256 (thruMax m) broadcasts_S256x1_S256x256))

/-- A row's sum of exponentials over a piece of latent keys. -/
def denLat (p : FVec F S256x1024 .f32) : FVec F S256x1 .f32 :=
  shapeCast S256x1 (multiReduction .add [1] S256 p 0x00000000#32 reduces_S256x1024_S256 (.inl rfl) rfl) shapeCasts_S256_S256x1

/-- A row's sum of exponentials over all keys. -/
def denAll (p0 p1 p2 p3 : FVec F S256x1024 .f32) (pc : FVec F S256x256 .f32) : FVec F S256x1 .f32 :=
  addf (addf (addf (addf (denLat p0) (denLat p1)) (denLat p2)) (denLat p3))
    (shapeCast S256x1 (multiReduction .add [1] S256 pc 0x00000000#32 reduces_S256x256_S256 (.inl rfl) rfl) shapeCasts_S256_S256x1)

/-- The values of a piece of latent keys, weighted by its exponentials. -/
def accLat (p : FVec F S256x1024 .f32) (x3 : Vec F S1x4096x128 .bf16) (o : ℕ) (h : o + 1024 ≤ 4096) : FVec F S256x128 .f32 :=
  matmul dot_S256x1024_S1024x128_S256x128_1_0_0_1_n_n none (truncf .bf16 p bitsLt_bf16_f32)
    (shapeCast S1024x128 (View.ld x3 (Rect.unit ![0, o, 0] S1x1024x128.size
      (by intro a; match a with | ⟨0, _⟩ => exact Nat.le_refl 1 | ⟨1, _⟩ => exact h | ⟨2, _⟩ => exact Nat.le_refl 128)))
      shapeCasts_S1x1024x128_S1024x128)
    (constant S256x128 .f32 0x00000000#32)

/-- The values of all keys, weighted by the exponentials. -/
def accAll (p0 p1 p2 p3 : FVec F S256x1024 .f32) (pc : FVec F S256x256 .f32) (x3 : Vec F S1x4096x128 .bf16)
    (x4 : Vec F S1x256x128 .bf16) : FVec F S256x128 .f32 :=
  addf (addf (addf (addf (accLat p0 x3 0 (by decide)) (accLat p1 x3 1024 (by decide))) (accLat p2 x3 2048 (by decide)))
      (accLat p3 x3 3072 (by decide)))
    (matmul dot_S256x256_S256x128_S256x128_1_0_0_1_n_n none (truncf .bf16 pc bitsLt_bf16_f32)
      (shapeCast S256x128 (View.ld x4 (Rect.unit ![0, 0, 0] S1x256x128.size inb_S1x256x128_S1x256x128_0_0_0)) shapeCasts_S1x256x128_S256x128) (constant S256x128 .f32 0x00000000#32))

/-- The output of a block of query rows, from its five pieces of scores. -/
def outOf (s0 s1 s2 s3 : FVec F S256x1024 .f32) (sc : FVec F S256x256 .f32) (x3 : Vec F S1x4096x128 .bf16)
    (x4 : Vec F S1x256x128 .bf16) : FVec F S256x128 .bf16 :=
  let m := maxAll s0 s1 s2 s3 sc
  truncf .bf16 (divf (accAll (expLat s0 m) (expLat s1 m) (expLat s2 m) (expLat s3 m) (expCtx sc m) x3 x4)
    (broadcastTo S256x128 (denAll (expLat s0 m) (expLat s1 m) (expLat s2 m) (expLat s3 m) (expCtx sc m)) broadcasts_S256x1_S256x128))
    bitsLt_bf16_f32

/-- The output of the block of 256 query rows from row `o`. -/
def blockOut (x0 : Vec F S1x2048x256 .bf16) (x1 : Vec F S1x4096x256 .bf16) (x2 : Vec F S1x256x256 .bf16)
    (x3 : Vec F S1x4096x128 .bf16) (x4 : Vec F S1x256x128 .bf16) (o : ℕ) (h : o + 256 ≤ 2048) : FVec F S256x128 .bf16 :=
  outOf (scoreLat (qRows x0 o h) x1 0 (by decide)) (scoreLat (qRows x0 o h) x1 1024 (by decide))
    (scoreLat (qRows x0 o h) x1 2048 (by decide)) (scoreLat (qRows x0 o h) x1 3072 (by decide))
    (scoreCtx (qRows x0 o h) x2) x3 x4

/-- The store of the block from row `o`. -/
def piece (x0 : Vec F S1x2048x256 .bf16) (x1 : Vec F S1x4096x256 .bf16) (x2 : Vec F S1x256x256 .bf16)
    (x3 : Vec F S1x4096x128 .bf16) (x4 : Vec F S1x256x128 .bf16) (o : ℕ) (h : o + 256 ≤ 2048) :
    View.Piece (Elt F) S2048x128 .bf16 :=
  ⟨Rect.unit ![o, 0] S256x128.size
    (by intro a; match a with | ⟨0, _⟩ => exact h | ⟨1, _⟩ => exact Nat.le_refl 128), blockOut x0 x1 x2 x3 x4 o h⟩

theorem pieces_eq (c : Dev nD) (i : grid0.Coords) (arg3 : Memref sig .tc .vmem S1x2048x256 .bf16) (harg3 : arg3.IsWhole) (arg4 : Memref sig .tc .vmem S1x4096x256 .bf16) (harg4 : arg4.IsWhole) (arg5 : Memref sig .tc .vmem S1x256x256 .bf16) (harg5 : arg5.IsWhole) (arg6 : Memref sig .tc .vmem S1x4096x128 .bf16) (harg6 : arg6.IsWhole) (arg7 : Memref sig .tc .vmem S1x256x128 .bf16) (harg7 : arg7.IsWhole) (arg8 : Memref sig .tc .vmem S2048x128 .bf16) (harg8 : arg8.IsWhole) (arg9 : Memref sig .tc .vmem S2x256x4352 .f32) (harg9 : arg9.IsWhole) (arg10 : Memref sig .tc .vmem S2x256x1 .f32) (harg10 : arg10.IsWhole)
    (x0 : Vec F S1x2048x256 .bf16) (x1 : Vec F S1x4096x256 .bf16) (x2 : Vec F S1x256x256 .bf16) (x3 : Vec F S1x4096x128 .bf16) (x4 : Vec F S1x256x128 .bf16) :
    (kernelRun0_A c i arg3 harg3 arg4 harg4 arg5 harg5 arg6 harg6 arg7 harg7 arg8 harg8 arg9 harg9 arg10 harg10 x0 x1 x2 x3 x4).1
      = [piece x0 x1 x2 x3 x4 1792 (by decide), piece x0 x1 x2 x3 x4 1536 (by decide), piece x0 x1 x2 x3 x4 1280 (by decide),
         piece x0 x1 x2 x3 x4 1024 (by decide), piece x0 x1 x2 x3 x4 768 (by decide), piece x0 x1 x2 x3 x4 512 (by decide),
         piece x0 x1 x2 x3 x4 256 (by decide), piece x0 x1 x2 x3 x4 0 (by decide)] := by
  unfold kernelRun0_A
  dsimp only
  sl_unfold_run_names
  simp (disch := decide) only [↓View.readCov_skip, View.readCov_cons_toLoadRect, View.readAt_eq_ld, Memref.IsWhole.read_unread]
  rfl

end Cert.KernelIdeal.Attn

end
-- ==== Proof.Softmax.lean ====
/-
  The mathematics of one entry of the attention, over the extended reals and apart from any program. A weighted mean of
  values with weights `2 ^ (t / log 2 - m')`, divided at the end, is the mean with the weights `exp (t - m)` each divided
  first: the two shifts `m`, `m'` need not be related, they only have to be real. The values may be infinite.
-/
module

public import Idealize.ShloMosaic.PureOps.Ideal
public import Idealize.ShloMosaic.PureOps.Ideal.Laws

@[expose] public section

noncomputable section

namespace Cert.AttnMath

open Idealize.ShloMosaic

/-- A nonnegative real factor goes into a sum of extended reals. -/
theorem sum_mul_real {ι : Type} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

/-- A sum of reals is real. -/
theorem sum_real {ι : Type} (s : Finset ι) (f : ι → ℝ) :
    ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The maximum of at least one real, started from `⊥`, is real. -/
theorem fold_max_real {n : ℕ} (hn : 0 < n) (f : Fin n → ℝ) :
    ∃ M : ℝ, (Finset.univ : Finset (Fin n)).fold max (⊥ : EReal) (fun j => (f j : EReal)) = (M : EReal) := by
  have hne : (Finset.univ : Finset (Fin n)).Nonempty := ⟨⟨0, hn⟩, Finset.mem_univ _⟩
  obtain ⟨i, -, hi⟩ := Finset.exists_mem_eq_sup Finset.univ hne (fun j => (f j : EReal))
  exact ⟨f i, hi⟩

/-- The weight in base two, in terms of the natural exponential. -/
theorem rpow_two_eq (t m m' : ℝ) :
    Real.rpow 2 (t * (Real.log 2)⁻¹ - m') = Real.exp (t - m) * Real.exp (m - m' * Real.log 2) := by
  have hl : Real.log 2 ≠ 0 := (Real.log_pos one_lt_two).ne'
  show (2 : ℝ) ^ (t * (Real.log 2)⁻¹ - m') = _
  rw [Real.rpow_def_of_pos two_pos, ← Real.exp_add]
  congr 1
  field_simp
  ring

/-- The entry: numerator and denominator summed first and divided last, against each weight divided first. -/
theorem mean_eq {n : ℕ} (hn : 0 < n) (t : Fin n → ℝ) (m m' : ℝ) (v : Fin n → EReal) :
    Ideal.div (∑ j, ((Real.rpow 2 (t j * (Real.log 2)⁻¹ - m') : ℝ) : EReal) * v j)
        (∑ j, ((Real.rpow 2 (t j * (Real.log 2)⁻¹ - m') : ℝ) : EReal))
      = ∑ j, v j * Ideal.div ((Real.exp (t j - m) : ℝ) : EReal) (∑ j, ((Real.exp (t j - m) : ℝ) : EReal)) := by
  have hne : (Finset.univ : Finset (Fin n)).Nonempty := ⟨⟨0, hn⟩, Finset.mem_univ _⟩
  simp only [rpow_two_eq _ m m', sum_real]
  rw [← Finset.sum_mul]
  set C := Real.exp (m - m' * Real.log 2) with hC
  have hCpos : 0 < C := Real.exp_pos _
  have hD : 0 < ∑ j, Real.exp (t j - m) := Finset.sum_pos (fun j _ => Real.exp_pos _) hne
  set D := ∑ j, Real.exp (t j - m) with hDdef
  rw [Ideal.div_coe (mul_pos hD hCpos).ne', sum_mul_real _ _ (one_div_nonneg.mpr (mul_pos hD hCpos).le)]
  refine Finset.sum_congr rfl fun j _ => ?_
  rw [Ideal.div_coe hD.ne', mul_comm _ (v j), mul_assoc, ← EReal.coe_mul, ← EReal.coe_mul]
  congr 2
  field_simp

/-! ## The entry as the kernel forms it: the keys in five pieces -/

/-- The maximum of the scores of the `n` keys from key `o`. -/
def pieceMax (s : Fin 4352 → EReal) (o n : ℕ) (h : o + n ≤ 4352) : EReal :=
  (Finset.univ : Finset (Fin n)).fold max (⊥ : EReal) (fun k => s ⟨o + k.val, by omega⟩)

/-- The maximum over all keys, piece by piece. -/
def rowMax (s : Fin 4352 → EReal) : EReal :=
  max (max (max (max (pieceMax s 0 1024 (by decide)) (pieceMax s 1024 1024 (by decide))) (pieceMax s 2048 1024 (by decide)))
    (pieceMax s 3072 1024 (by decide))) (pieceMax s 4096 256 (by decide))

/-- The sum of `f` over the `n` keys from key `o`. -/
def pieceSum (f : Fin 4352 → EReal) (o n : ℕ) (h : o + n ≤ 4352) : EReal :=
  ∑ k : Fin n, f ⟨o + k.val, by omega⟩

/-- The sum over all keys, piece by piece. -/
def rowSum (f : Fin 4352 → EReal) : EReal :=
  pieceSum f 0 1024 (by decide) + pieceSum f 1024 1024 (by decide) + pieceSum f 2048 1024 (by decide)
    + pieceSum f 3072 1024 (by decide) + pieceSum f 4096 256 (by decide)

/-- One entry of the kernel's result, from the scores and the values of its 4352 keys. -/
def entry (s v : Fin 4352 → EReal) : EReal :=
  Ideal.div (rowSum fun j => Ideal.exp2 (s j - rowMax s) * v j) (rowSum fun j => Ideal.exp2 (s j - rowMax s))

theorem pieceSum_append (f : Fin 4352 → EReal) (o n n' : ℕ) (h : o + n ≤ 4352) (h' : o + n + n' ≤ 4352) :
    pieceSum f o n h + pieceSum f (o + n) n' h' = pieceSum f o (n + n') (by omega) := by
  unfold pieceSum
  rw [Fin.sum_univ_add]
  congr 1
  refine Finset.sum_congr rfl fun k _ => congrArg f (Fin.ext ?_)
  show o + n + k.val = o + (n + k.val)
  omega

theorem rowSum_eq (f : Fin 4352 → EReal) : rowSum f = ∑ j, f j := by
  unfold rowSum
  rw [pieceSum_append f 0 1024 1024, pieceSum_append f 0 2048 1024, pieceSum_append f 0 3072 1024,
    pieceSum_append f 0 4096 256]
  unfold pieceSum
  exact Finset.sum_congr rfl fun k _ => congrArg f (Fin.ext (Nat.zero_add _))

theorem rowMax_real (s : Fin 4352 → ℝ) : ∃ M : ℝ, rowMax (fun j => (s j : EReal)) = (M : EReal) := by
  have hp : ∀ (o n : ℕ) (h : o + n ≤ 4352), 0 < n → ∃ M : ℝ, pieceMax (fun j => (s j : EReal)) o n h = (M : EReal) :=
    fun o n h hn => fold_max_real hn fun k => s ⟨o + k.val, by omega⟩
  obtain ⟨a, ha⟩ := hp 0 1024 (by decide) (by decide)
  obtain ⟨b, hb⟩ := hp 1024 1024 (by decide) (by decide)
  obtain ⟨c, hc⟩ := hp 2048 1024 (by decide) (by decide)
  obtain ⟨d, hd⟩ := hp 3072 1024 (by decide) (by decide)
  obtain ⟨e, he⟩ := hp 4096 256 (by decide) (by decide)
  refine ⟨max (max (max (max a b) c) d) e, ?_⟩
  unfold rowMax
  rw [ha, hb, hc, hd, he]
  simp only [EReal.coe_strictMono.monotone.map_max]

/-- The kernel's entry is the reference's, for real scores `t` (the kernel's in base two) and any real shift `m`. -/
theorem entry_eq (t : Fin 4352 → ℝ) (m : ℝ) (s v : Fin 4352 → EReal)
    (hs : ∀ j, s j = ((t j * (Real.log 2)⁻¹ : ℝ) : EReal)) :
    entry s v = ∑ j, v j * Ideal.div (Ideal.exp ((t j : EReal) - (m : EReal)))
      (∑ j, Ideal.exp ((t j : EReal) - (m : EReal))) := by
  obtain rfl : s = fun j => ((t j * (Real.log 2)⁻¹ : ℝ) : EReal) := funext hs
  obtain ⟨m', hm'⟩ := rowMax_real fun j => t j * (Real.log 2)⁻¹
  unfold entry
  rw [rowSum_eq, rowSum_eq, hm']
  simp only [← EReal.coe_sub, Ideal.exp2_coe, Ideal.exp_coe]
  exact mean_eq (by decide) t m m' v

end Cert.AttnMath

end
-- ==== Proof.Block.lean ====
/-
  The block of 256 query rows read at an entry: row `r`, column `d` of what the kernel stores is the entry
  (`AttnMath.entry`) of the scores of that row against the point's keys and of column `d` of their values.
-/
module

public import proofs.«01_k».proof.Proof.Pieces
public import proofs.«01_k».proof.Proof.Softmax
public import Idealize.ShloMosaic.Lib.ValueIdx
public import Idealize.ShloMosaic.Lib.MatmulPlain
public import Idealize.ShloMosaic.PureOps.Ideal.Laws

@[expose] public section

set_option maxRecDepth 16384

noncomputable section

namespace Cert.KernelIdeal.Attn

open Cert.KernelIdeal Cert.KernelIdeal.Gen Idealize.ShloMosaic Idealize.ShloMosaic.TcCoe Idealize.ShloMosaic.ValueIdx
open Cert.AttnMath

/-- The scores of a query row against the point's keys: the 4096 latent ones, then the 256 context ones. -/
def scores (q : Fin 256 → EReal) (x1 : Vec Ideal S1x4096x256 .bf16) (x2 : Vec Ideal S1x256x256 .bf16) (j : Fin 4352) : EReal :=
  ∑ e : Fin 256, q e * (if h : j.val < 4096 then x1 (ix3 (0 : Fin 1) ⟨j.val, h⟩ e) else x2 (ix3 (0 : Fin 1) ⟨j.val - 4096, by omega⟩ e))

/-- Column `d` of the keys' values. -/
def vals (x3 : Vec Ideal S1x4096x128 .bf16) (x4 : Vec Ideal S1x256x128 .bf16) (d : Fin 128) (j : Fin 4352) : EReal :=
  if h : j.val < 4096 then x3 (ix3 (0 : Fin 1) ⟨j.val, h⟩ d) else x4 (ix3 (0 : Fin 1) ⟨j.val - 4096, by omega⟩ d)

theorem qRows_apply (x0 : Vec Ideal S1x2048x256 .bf16) (o : ℕ) (h : o + 256 ≤ 2048) (r e : Fin 256) :
    qRows x0 o h (ix2 r e) = x0 (ix3 (0 : Fin 1) (⟨o + r.val, by omega⟩ : Fin 2048) e) := by
  unfold qRows
  rw [shapeCast_dropUnit_apply]
  refine congrArg x0 (funext fun a => Fin.ext ?_)
  match a with
  | ⟨0, _⟩ => rfl
  | ⟨1, _⟩ => show o + 1 * r.val = o + r.val; omega
  | ⟨2, _⟩ => show 0 + 1 * e.val = e.val; omega

theorem scoreLat_apply (q : FVec Ideal S256x256 .bf16) (x1 : Vec Ideal S1x4096x256 .bf16) (o : ℕ) (h : o + 1024 ≤ 4096)
    (r : Fin 256) (k : Fin 1024) :
    scoreLat q x1 o h (ix2 r k) = ∑ e : Fin 256, q (ix2 r e) * x1 (ix3 (0 : Fin 1) (⟨o + k.val, by omega⟩ : Fin 4096) e) := by
  unfold scoreLat
  refine (Ideal.matmul_transposedRhs_apply none q _ _ r k).trans ?_
  rw [constant_apply, Ideal.ofBits_zero_f32, zero_add]
  refine Finset.sum_congr rfl fun e _ => congrArg (q (ix2 r e) * ·) ?_
  rw [shapeCast_dropUnit_apply]
  refine congrArg x1 (funext fun a => Fin.ext ?_)
  match a with
  | ⟨0, _⟩ => rfl
  | ⟨1, _⟩ => show o + 1 * k.val = o + k.val; omega
  | ⟨2, _⟩ => show 0 + 1 * e.val = e.val; omega

theorem scoreCtx_apply (q : FVec Ideal S256x256 .bf16) (x2 : Vec Ideal S1x256x256 .bf16) (r k : Fin 256) :
    scoreCtx q x2 (ix2 r k) = ∑ e : Fin 256, q (ix2 r e) * x2 (ix3 (0 : Fin 1) k e) := by
  unfold scoreCtx
  refine (Ideal.matmul_transposedRhs_apply none q _ _ r k).trans ?_
  rw [constant_apply, Ideal.ofBits_zero_f32, zero_add]
  refine Finset.sum_congr rfl fun e _ => congrArg (q (ix2 r e) * ·) ?_
  rw [shapeCast_dropUnit_apply]
  refine congrArg x2 (funext fun a => Fin.ext ?_)
  match a with
  | ⟨0, _⟩ => rfl
  | ⟨1, _⟩ => show 0 + 1 * k.val = k.val; omega
  | ⟨2, _⟩ => show 0 + 1 * e.val = e.val; omega

/-- A piece of the scores, as the row function's keys from key `o`. -/
theorem scoreLat_eq (x0 : Vec Ideal S1x2048x256 .bf16) (x1 : Vec Ideal S1x4096x256 .bf16) (x2 : Vec Ideal S1x256x256 .bf16)
    (q : FVec Ideal S256x256 .bf16) (o : ℕ) (h : o + 1024 ≤ 4096) (r : Fin 256) (k : Fin 1024) :
    scoreLat q x1 o h (ix2 r k) = scores (fun e => q (ix2 r e)) x1 x2 ⟨o + k.val, by omega⟩ := by
  rw [scoreLat_apply]
  unfold scores
  refine Finset.sum_congr rfl fun e _ => congrArg (q (ix2 r e) * ·) ?_
  rw [dif_pos (show o + k.val < 4096 by omega)]

theorem scoreCtx_eq (x1 : Vec Ideal S1x4096x256 .bf16) (x2 : Vec Ideal S1x256x256 .bf16)
    (q : FVec Ideal S256x256 .bf16) (r k : Fin 256) :
    scoreCtx q x2 (ix2 r k) = scores (fun e => q (ix2 r e)) x1 x2 ⟨4096 + k.val, by omega⟩ := by
  rw [scoreCtx_apply]
  unfold scores
  refine Finset.sum_congr rfl fun e _ => congrArg (q (ix2 r e) * ·) ?_
  rw [dif_neg (show ¬ 4096 + k.val < 4096 by omega)]
  refine congrArg x2 (congrArg (fun z => ix3 (0 : Fin 1) z e) (Fin.ext ?_))
  show k.val = 4096 + k.val - 4096
  omega

/-! ## Reductions and layout steps of a row -/

theorem col_apply (x : FVec Ideal S256 .f32) (r : Fin 256) (z : Fin 1) :
    shapeCast S256x1 x shapeCasts_S256_S256x1 (ix2 r z) = x (ix1 r) :=
  shapeCast_apply _ _ _ _ (by
    rw [Shape.rowMajor_val_one, Shape.rowMajor_val_two]
    have := z.isLt
    show r.val = r.val * 1 + z.val
    omega)

theorem thruMax_apply (m : FVec Ideal S256x1 .f32) (i : S256x1.Idx) : thruMax m i = m i := by
  unfold thruMax
  rw [shapeCast_dropUnit_apply, shapeCast_addUnit_apply]
  rfl

theorem spreadLat_apply (m : FVec Ideal S256x1 .f32) (r : Fin 256) (k : Fin 1024) :
    broadcastTo S256x1024 m broadcasts_S256x1_S256x1024 (ix2 r k) = m (ix2 r (0 : Fin 1)) :=
  broadcastTo_apply _ _ _ _ fun a => by match a with | ⟨0, _⟩ => rfl | ⟨1, _⟩ => rfl

theorem spreadCtx_apply (m : FVec Ideal S256x1 .f32) (r : Fin 256) (k : Fin 256) :
    broadcastTo S256x256 m broadcasts_S256x1_S256x256 (ix2 r k) = m (ix2 r (0 : Fin 1)) :=
  broadcastTo_apply _ _ _ _ fun a => by match a with | ⟨0, _⟩ => rfl | ⟨1, _⟩ => rfl

theorem spreadOut_apply (m : FVec Ideal S256x1 .f32) (r : Fin 256) (k : Fin 128) :
    broadcastTo S256x128 m broadcasts_S256x1_S256x128 (ix2 r k) = m (ix2 r (0 : Fin 1)) :=
  broadcastTo_apply _ _ _ _ fun a => by match a with | ⟨0, _⟩ => rfl | ⟨1, _⟩ => rfl

theorem expLat_apply (s : FVec Ideal S256x1024 .f32) (m : FVec Ideal S256x1 .f32) (r : Fin 256) (k : Fin 1024) :
    expLat s m (ix2 r k) = Ideal.exp2 (s (ix2 r k) - m (ix2 r (0 : Fin 1))) := by
  unfold expLat
  show Ideal.exp2 (shapeCast S256x1024 (shapeCast S1x256x1024 s _) _ (ix2 r k) - broadcastTo S256x1024 (thruMax m) _ (ix2 r k)) = _
  rw [spreadLat_apply, thruMax_apply, shapeCast_dropUnit_apply, shapeCast_addUnit_apply]
  rfl

theorem expCtx_apply (s : FVec Ideal S256x256 .f32) (m : FVec Ideal S256x1 .f32) (r : Fin 256) (k : Fin 256) :
    expCtx s m (ix2 r k) = Ideal.exp2 (s (ix2 r k) - m (ix2 r (0 : Fin 1))) := by
  unfold expCtx
  show Ideal.exp2 (shapeCast S256x256 (shapeCast S1x256x256 s _) _ (ix2 r k) - broadcastTo S256x256 (thruMax m) _ (ix2 r k)) = _
  rw [spreadCtx_apply, thruMax_apply, shapeCast_dropUnit_apply, shapeCast_addUnit_apply]
  rfl

theorem liftLat (r : Fin 256) (k : Fin 1024) : reduces_S256x1024_S256.lift (ix1 r) k = (ix2 r k : S256x1024.Idx) :=
  funext fun a => Fin.ext (by match a with | ⟨0, _⟩ => rfl | ⟨1, _⟩ => rfl)

theorem liftCtx (r : Fin 256) (k : Fin 256) : reduces_S256x256_S256.lift (ix1 r) k = (ix2 r k : S256x256.Idx) :=
  funext fun a => Fin.ext (by match a with | ⟨0, _⟩ => rfl | ⟨1, _⟩ => rfl)

theorem negInf : (FloatOps.ofBits (F := Ideal) .f32 0xFF800000#32 : EReal) = ⊥ := by
  show Ideal.ofBits .f32 0xFF800000#32 = ⊥
  simp [Ideal.ofBits, Ideal.ieee]

theorem maxLat_apply (s : FVec Ideal S256x1024 .f32) (r : Fin 256) (z : Fin 1) :
    maxLat s (ix2 r z) = (Finset.univ : Finset (Fin 1024)).fold max (⊥ : EReal) (fun k => s (ix2 r k)) := by
  unfold maxLat
  rw [col_apply]
  refine (Ideal.multiReduction_maximumf_single _ _ _ _ _ _).trans ?_
  rw [negInf]
  exact Finset.fold_congr fun k _ => congrArg s (liftLat r k)

theorem denLat_apply (p : FVec Ideal S256x1024 .f32) (r : Fin 256) (z : Fin 1) :
    denLat p (ix2 r z) = ∑ k : Fin 1024, p (ix2 r k) := by
  unfold denLat
  rw [col_apply]
  refine (Ideal.multiReduction_add_single _ _ _ _ _ _).trans ?_
  exact Finset.sum_congr rfl fun k _ => congrArg p (liftLat r k)

theorem maxAll_apply (s0 s1 s2 s3 : FVec Ideal S256x1024 .f32) (sc : FVec Ideal S256x256 .f32) (r : Fin 256) (z : Fin 1)
    (s : Fin 4352 → EReal)
    (h0 : ∀ k : Fin 1024, s0 (ix2 r k) = s ⟨0 + k.val, by omega⟩) (h1 : ∀ k : Fin 1024, s1 (ix2 r k) = s ⟨1024 + k.val, by omega⟩)
    (h2 : ∀ k : Fin 1024, s2 (ix2 r k) = s ⟨2048 + k.val, by omega⟩) (h3 : ∀ k : Fin 1024, s3 (ix2 r k) = s ⟨3072 + k.val, by omega⟩)
    (hc : ∀ k : Fin 256, sc (ix2 r k) = s ⟨4096 + k.val, by omega⟩) :
    maxAll s0 s1 s2 s3 sc (ix2 r z) = AttnMath.rowMax s := by
  unfold maxAll
  simp only [maximumf_apply, maxLat_apply, col_apply, h0, h1, h2, h3]
  unfold AttnMath.rowMax pieceMax
  refine congrArg (max _) ?_
  refine (Ideal.multiReduction_maximumf_single _ _ _ _ _ _).trans ?_
  rw [negInf]
  exact Finset.fold_congr fun k _ => (congrArg sc (liftCtx r k)).trans (hc k)

theorem denAll_apply (p0 p1 p2 p3 : FVec Ideal S256x1024 .f32) (pc : FVec Ideal S256x256 .f32) (r : Fin 256) (z : Fin 1)
    (f : Fin 4352 → EReal)
    (h0 : ∀ k : Fin 1024, p0 (ix2 r k) = f ⟨0 + k.val, by omega⟩) (h1 : ∀ k : Fin 1024, p1 (ix2 r k) = f ⟨1024 + k.val, by omega⟩)
    (h2 : ∀ k : Fin 1024, p2 (ix2 r k) = f ⟨2048 + k.val, by omega⟩) (h3 : ∀ k : Fin 1024, p3 (ix2 r k) = f ⟨3072 + k.val, by omega⟩)
    (hc : ∀ k : Fin 256, pc (ix2 r k) = f ⟨4096 + k.val, by omega⟩) :
    denAll p0 p1 p2 p3 pc (ix2 r z) = rowSum f := by
  unfold denAll
  simp only [addf_apply, denLat_apply, col_apply, h0, h1, h2, h3]
  unfold rowSum pieceSum
  refine congrArg (HAdd.hAdd _) ?_
  refine (Ideal.multiReduction_add_single _ _ _ _ _ _).trans ?_
  exact Finset.sum_congr rfl fun k _ => (congrArg pc (liftCtx r k)).trans (hc k)

theorem accLat_apply (p : FVec Ideal S256x1024 .f32) (x3 : Vec Ideal S1x4096x128 .bf16) (o : ℕ) (h : o + 1024 ≤ 4096)
    (r : Fin 256) (d : Fin 128) :
    accLat p x3 o h (ix2 r d) = ∑ k : Fin 1024, p (ix2 r k) * x3 (ix3 (0 : Fin 1) (⟨o + k.val, by omega⟩ : Fin 4096) d) := by
  unfold accLat
  refine (Ideal.matmul_plain_apply none (truncf .bf16 p bitsLt_bf16_f32) _ _ r d).trans ?_
  rw [constant_apply, Ideal.ofBits_zero_f32, zero_add]
  refine Finset.sum_congr rfl fun k _ => congrArg (p (ix2 r k) * ·) ?_
  rw [shapeCast_dropUnit_apply]
  refine congrArg x3 (funext fun a => Fin.ext ?_)
  match a with
  | ⟨0, _⟩ => rfl
  | ⟨1, _⟩ => show o + 1 * k.val = o + k.val; omega
  | ⟨2, _⟩ => show 0 + 1 * d.val = d.val; omega

theorem accLat_eq (p : FVec Ideal S256x1024 .f32) (x3 : Vec Ideal S1x4096x128 .bf16) (x4 : Vec Ideal S1x256x128 .bf16) (o : ℕ)
    (h : o + 1024 ≤ 4096) (r : Fin 256) (d : Fin 128) (f : Fin 4352 → EReal)
    (hp : ∀ k : Fin 1024, p (ix2 r k) = f ⟨o + k.val, by omega⟩) :
    accLat p x3 o h (ix2 r d) = pieceSum (fun j => f j * vals x3 x4 d j) o 1024 (by omega) := by
  rw [accLat_apply]
  unfold pieceSum vals
  refine Finset.sum_congr rfl fun k _ => ?_
  rw [hp k]
  refine congrArg (f _ * ·) (Eq.symm ?_)
  exact dif_pos (c := o + k.val < 4096) (t := fun h => x3 (ix3 (0 : Fin 1) (⟨o + k.val, h⟩ : Fin 4096) d)) (by omega)

theorem accAll_apply (p0 p1 p2 p3 : FVec Ideal S256x1024 .f32) (pc : FVec Ideal S256x256 .f32) (x3 : Vec Ideal S1x4096x128 .bf16)
    (x4 : Vec Ideal S1x256x128 .bf16) (r : Fin 256) (d : Fin 128) (f : Fin 4352 → EReal)
    (h0 : ∀ k : Fin 1024, p0 (ix2 r k) = f ⟨0 + k.val, by omega⟩) (h1 : ∀ k : Fin 1024, p1 (ix2 r k) = f ⟨1024 + k.val, by omega⟩)
    (h2 : ∀ k : Fin 1024, p2 (ix2 r k) = f ⟨2048 + k.val, by omega⟩) (h3 : ∀ k : Fin 1024, p3 (ix2 r k) = f ⟨3072 + k.val, by omega⟩)
    (hc : ∀ k : Fin 256, pc (ix2 r k) = f ⟨4096 + k.val, by omega⟩) :
    accAll p0 p1 p2 p3 pc x3 x4 (ix2 r d) = rowSum fun j => f j * vals x3 x4 d j := by
  unfold accAll rowSum
  rw [addf_apply, addf_apply, addf_apply, addf_apply, accLat_eq p0 x3 x4 0 _ r d f h0, accLat_eq p1 x3 x4 1024 _ r d f h1,
    accLat_eq p2 x3 x4 2048 _ r d f h2, accLat_eq p3 x3 x4 3072 _ r d f h3]
  refine congrArg (HAdd.hAdd _) ?_
  refine (Ideal.matmul_plain_apply none (truncf .bf16 pc bitsLt_bf16_f32) _ _ r d).trans ?_
  rw [constant_apply, Ideal.ofBits_zero_f32, zero_add]
  unfold pieceSum vals
  refine Finset.sum_congr rfl fun k _ => ?_
  rw [truncf_apply, hc k, shapeCast_dropUnit_apply]
  refine congrArg (_ * ·) (Eq.trans ?_ (dif_neg (show ¬ 4096 + k.val < 4096 by omega)).symm)
  refine (congrArg x4 (funext fun a => Fin.ext ?_))
  match a with
  | ⟨0, _⟩ => rfl
  | ⟨1, _⟩ => show 0 + 1 * k.val = 4096 + k.val - 4096; omega
  | ⟨2, _⟩ => show 0 + 1 * d.val = d.val; omega

/-- An entry of the block's output, from its five pieces of scores. -/
theorem outOf_apply (s0 s1 s2 s3 : FVec Ideal S256x1024 .f32) (sc : FVec Ideal S256x256 .f32) (x3 : Vec Ideal S1x4096x128 .bf16)
    (x4 : Vec Ideal S1x256x128 .bf16) (r : Fin 256) (d : Fin 128) (s : Fin 4352 → EReal)
    (h0 : ∀ k : Fin 1024, s0 (ix2 r k) = s ⟨0 + k.val, by omega⟩) (h1 : ∀ k : Fin 1024, s1 (ix2 r k) = s ⟨1024 + k.val, by omega⟩)
    (h2 : ∀ k : Fin 1024, s2 (ix2 r k) = s ⟨2048 + k.val, by omega⟩) (h3 : ∀ k : Fin 1024, s3 (ix2 r k) = s ⟨3072 + k.val, by omega⟩)
    (hc : ∀ k : Fin 256, sc (ix2 r k) = s ⟨4096 + k.val, by omega⟩) :
    outOf s0 s1 s2 s3 sc x3 x4 (ix2 r d) = entry s (vals x3 x4 d) := by
  have hm := maxAll_apply s0 s1 s2 s3 sc r 0 s h0 h1 h2 h3 hc
  unfold outOf entry
  rw [truncf_apply, divf_apply, spreadOut_apply]
  have e : ∀ (p : FVec Ideal S256x1024 .f32) (o : ℕ) (h : o + 1024 ≤ 4352), (∀ k : Fin 1024, p (ix2 r k) = s ⟨o + k.val, by omega⟩) →
      ∀ k : Fin 1024, expLat p (maxAll s0 s1 s2 s3 sc) (ix2 r k) = (fun j => Ideal.exp2 (s j - AttnMath.rowMax s)) ⟨o + k.val, by omega⟩ :=
    fun p o h hp k => by rw [expLat_apply, hm, hp k]
  have ec : ∀ k : Fin 256, expCtx sc (maxAll s0 s1 s2 s3 sc) (ix2 r k) = (fun j => Ideal.exp2 (s j - AttnMath.rowMax s)) ⟨4096 + k.val, by omega⟩ :=
    fun k => by rw [expCtx_apply, hm, hc k]
  exact congrArg₂ Ideal.div
    (accAll_apply _ _ _ _ _ x3 x4 r d _ (e s0 0 (by decide) h0) (e s1 1024 (by decide) h1) (e s2 2048 (by decide) h2) (e s3 3072 (by decide) h3) ec)
    (denAll_apply _ _ _ _ _ r 0 _ (e s0 0 (by decide) h0) (e s1 1024 (by decide) h1) (e s2 2048 (by decide) h2) (e s3 3072 (by decide) h3) ec)

/-- An entry of the block of rows from row `o`. -/
theorem blockOut_apply (x0 : Vec Ideal S1x2048x256 .bf16) (x1 : Vec Ideal S1x4096x256 .bf16) (x2 : Vec Ideal S1x256x256 .bf16)
    (x3 : Vec Ideal S1x4096x128 .bf16) (x4 : Vec Ideal S1x256x128 .bf16) (o : ℕ) (h : o + 256 ≤ 2048) (r : Fin 256) (d : Fin 128) :
    blockOut x0 x1 x2 x3 x4 o h (ix2 r d)
      = entry (scores (fun e => x0 (ix3 (0 : Fin 1) (⟨o + r.val, by omega⟩ : Fin 2048) e)) x1 x2) (vals x3 x4 d) := by
  have hq : (fun e => x0 (ix3 (0 : Fin 1) (⟨o + r.val, by omega⟩ : Fin 2048) e)) = fun e => qRows x0 o h (ix2 r e) :=
    funext fun e => (qRows_apply x0 o h r e).symm
  rw [hq]
  exact outOf_apply _ _ _ _ _ x3 x4 r d _ (fun k => scoreLat_eq x0 x1 x2 _ 0 _ r k) (fun k => scoreLat_eq x0 x1 x2 _ 1024 _ r k)
    (fun k => scoreLat_eq x0 x1 x2 _ 2048 _ r k) (fun k => scoreLat_eq x0 x1 x2 _ 3072 _ r k) (fun k => scoreCtx_eq x1 x2 _ r k)

end Cert.KernelIdeal.Attn

end
-- ==== Proof.Out.lean ====
/-
  What one grid point leaves in the output's buffer, read at an entry: the eight blocks of 256 rows together give
  every row `r` of the 2048 as the entry of its scores and of the values' column.
-/
module

public import proofs.«01_k».proof.Proof.Block
public import proofs.«01_k».proof.Proof.Gen.KernelIdeal.Value
public import Idealize.ShloMosaic.Lib.Pipeline.Value

@[expose] public section

set_option maxRecDepth 16384

noncomputable section

namespace Cert.KernelIdeal.Attn

open Cert.KernelIdeal Cert.KernelIdeal.Gen Idealize.ShloMosaic Idealize.ShloMosaic.TcCoe Idealize.ShloMosaic.ValueIdx
open Cert.AttnMath

/-- Row `r`, column `d` of the block the point leaves. -/
def tileOut (x0 : Vec Ideal S1x2048x256 .bf16) (x1 : Vec Ideal S1x4096x256 .bf16) (x2 : Vec Ideal S1x256x256 .bf16)
    (x3 : Vec Ideal S1x4096x128 .bf16) (x4 : Vec Ideal S1x256x128 .bf16) (y : S2048x128.Idx) : EReal :=
  entry (scores (fun e => x0 (ix3 (0 : Fin 1) (⟨(y 0).val, (y 0).isLt⟩ : Fin 2048) e)) x1 x2) (vals x3 x4 ⟨(y 1).val, (y 1).isLt⟩)

theorem piece_apply (x0 : Vec Ideal S1x2048x256 .bf16) (x1 : Vec Ideal S1x4096x256 .bf16) (x2 : Vec Ideal S1x256x256 .bf16)
    (x3 : Vec Ideal S1x4096x128 .bf16) (x4 : Vec Ideal S1x256x128 .bf16) (o : ℕ) (h : o + 256 ≤ 2048)
    (x : (piece x0 x1 x2 x3 x4 o h).1.shape.Idx) :
    (piece x0 x1 x2 x3 x4 o h).2 x = tileOut x0 x1 x2 x3 x4 ((piece x0 x1 x2 x3 x4 o h).1.emb x) := by
  have hx0 : (x 0).val < 256 := (x 0).isLt
  have hx1 : (x 1).val < 128 := (x 1).isLt
  have hx : x = (ix2 (⟨(x 0).val, hx0⟩ : Fin 256) (⟨(x 1).val, hx1⟩ : Fin 128) : S256x128.Idx) :=
    funext fun a => Fin.ext (by match a with | ⟨0, _⟩ => rfl | ⟨1, _⟩ => rfl)
  refine (congrArg (blockOut x0 x1 x2 x3 x4 o h) hx).trans ?_
  rw [blockOut_apply]
  unfold tileOut
  congr 1
  · congr 1
    funext e
    refine congrArg x0 (funext fun a => Fin.ext ?_)
    match a with
    | ⟨0, _⟩ => rfl
    | ⟨1, _⟩ => show o + (x 0).val = o + 1 * (x 0).val; omega
    | ⟨2, _⟩ => rfl
  · refine congrArg (vals x3 x4) (Fin.ext ?_)
    show (x 1).val = 0 + 1 * (x 1).val; omega

theorem out_eq (c : Dev nD) (i : grid0.Coords) (arg3 : Memref sig .tc .vmem S1x2048x256 .bf16) (harg3 : arg3.IsWhole) (arg4 : Memref sig .tc .vmem S1x4096x256 .bf16) (harg4 : arg4.IsWhole) (arg5 : Memref sig .tc .vmem S1x256x256 .bf16) (harg5 : arg5.IsWhole) (arg6 : Memref sig .tc .vmem S1x4096x128 .bf16) (harg6 : arg6.IsWhole) (arg7 : Memref sig .tc .vmem S1x256x128 .bf16) (harg7 : arg7.IsWhole) (arg8 : Memref sig .tc .vmem S2048x128 .bf16) (harg8 : arg8.IsWhole) (arg9 : Memref sig .tc .vmem S2x256x4352 .f32) (harg9 : arg9.IsWhole) (arg10 : Memref sig .tc .vmem S2x256x1 .f32) (harg10 : arg10.IsWhole)
    (x0 : Vec Ideal S1x2048x256 .bf16) (x1 : Vec Ideal S1x4096x256 .bf16) (x2 : Vec Ideal S1x256x256 .bf16)
    (x3 : Vec Ideal S1x4096x128 .bf16) (x4 : Vec Ideal S1x256x128 .bf16) (y : S2048x128.Idx) :
    out0_A_5 c i arg3 harg3 arg4 harg4 arg5 harg5 arg6 harg6 arg7 harg7 arg8 harg8 arg9 harg9 arg10 harg10 x0 x1 x2 x3 x4 y
      = tileOut x0 x1 x2 x3 x4 y := by
  unfold out0_A_5
  rw [View.read_writes_junk_eq_canon]
  refine View.canon_apply_of_pieces (tileOut x0 x1 x2 x3 x4) _ ?_ y (cover0_A_5 c i arg3 harg3 arg4 harg4 arg5 harg5 arg6 harg6 arg7 harg7 arg8 harg8 arg9 harg9 arg10 harg10 x0 x1 x2 x3 x4 y)
  rw [pieces_eq]
  simp only [List.forall_mem_cons]
  exact ⟨piece_apply _ _ _ _ _ _ _, piece_apply _ _ _ _ _ _ _, piece_apply _ _ _ _ _ _ _, piece_apply _ _ _ _ _ _ _,
    piece_apply _ _ _ _ _ _ _, piece_apply _ _ _ _ _ _ _, piece_apply _ _ _ _ _ _ _, piece_apply _ _ _ _ _ _ _, fun _ h => nomatch h⟩

end Cert.KernelIdeal.Attn

end
-- ==== Proof.HostArr.lean ====
/-
  The arrays the host prepares for the attention, read at an index: per head, the latent rows of all sequences and
  then their context rows, zeros in the padded columns.
-/
module

public import proofs.«01_k».proof.Proof.Gen.KernelIdeal.Value
public import Idealize.ShloMosaic.Lib.ValueIdx
public import Idealize.ShloMosaic.Lib.Pipeline.Value
public import Idealize.ShloMosaic.Lib.StableHlo.Run
public import Idealize.ShloMosaic.PureOps.Ideal.Laws

@[expose] public section

set_option maxRecDepth 16384

noncomputable section

namespace Cert.KernelIdeal.Attn

open Cert.KernelIdeal Cert.KernelIdeal.Gen Idealize.ShloMosaic Idealize.ShloMosaic.TcCoe Idealize.ShloMosaic.ValueIdx

variable {F : FTy → Type} [FloatOps F]

/-- Queries or keys, heads by rows, padded to 256 columns. -/
def padRows (lat : Vec F S4x4096x16x192 .f32) (ctx : Vec F S4x256x16x192 .f32) : Vec F S16x17408x256 .bf16 :=
  truncf .bf16 (concatenate S16x17408x256 2 [⟨S16x17408x192, transpose S16x17408x192 [1, 0, 2]
    (concatenate S17408x16x192 0 [⟨S16384x16x192, shapeCast S16384x16x192 lat shapeCasts_S4x4096x16x192_S16384x16x192⟩,
      ⟨S1024x16x192, shapeCast S1024x16x192 ctx shapeCasts_S4x256x16x192_S1024x16x192⟩] concatenates_S16384x16x192_S1024x16x192_S17408x16x192_d0)
      transposes_S17408x16x192_S16x17408x192_1_0_2⟩,
    ⟨S16x17408x64, broadcastInDim S16x17408x64 ![] bcast_S_S16x17408x64 (constant S_ .f32 0x00000000#32)⟩]
    concatenates_S16x17408x192_S16x17408x64_S16x17408x256_d2) bitsLt_bf16_f32

/-- Values, heads by rows. -/
def valRows (lat : Vec F S4x4096x16x128 .f32) (ctx : Vec F S4x256x16x128 .f32) : Vec F S16x17408x128 .bf16 :=
  truncf .bf16 (transpose S16x17408x128 [1, 0, 2]
    (concatenate S17408x16x128 0 [⟨S16384x16x128, shapeCast S16384x16x128 lat shapeCasts_S4x4096x16x128_S16384x16x128⟩,
      ⟨S1024x16x128, shapeCast S1024x16x128 ctx shapeCasts_S4x256x16x128_S1024x16x128⟩] concatenates_S16384x16x128_S1024x16x128_S17408x16x128_d0)
      transposes_S17408x16x128_S16x17408x128_1_0_2) bitsLt_bf16_f32

/-- The factor of the queries. -/
def qFactor : Vec F S_ .f32 := Host.divf (constant S_ .f32 0x3D93CD3A#32) (Host.log (constant S_ .f32 0x40000000#32))

variable (m : (ℓ : Loc nD τ sig) → Buf (Elt F) ℓ)

theorem V_q (c : Dev nD) : V m c main_v12
    = padRows (mulf (m ((c : Thread nD τ).loc main_arg0)) (broadcastInDim S4x4096x16x192 ![] bcast_S_S4x4096x16x192 qFactor))
        (mulf (m ((c : Thread nD τ).loc main_arg1)) (broadcastInDim S4x256x16x192 ![] bcast_S_S4x256x16x192 qFactor)) := by
  unfold V; after_results; rfl

theorem V_k (c : Dev nD) : V m c main_v19 = padRows (m ((c : Thread nD τ).loc main_arg2)) (m ((c : Thread nD τ).loc main_arg3)) := by
  unfold V; after_results; rfl

theorem V_v (c : Dev nD) : V m c main_v24 = valRows (m ((c : Thread nD τ).loc main_arg4)) (m ((c : Thread nD τ).loc main_arg5)) := by
  unfold V; after_results; rfl

/-! ## At an index -/

/-- The latent row `n` of sequence `b`. -/
abbrev latRow (b : Fin 4) (n : Fin 4096) : Fin 17408 := ⟨b.val * 4096 + n.val, by omega⟩
/-- The context row `n` of sequence `b`. -/
abbrev ctxRow (b : Fin 4) (n : Fin 256) : Fin 17408 := ⟨16384 + (b.val * 256 + n.val), by omega⟩

theorem padRows_lat (lat : Vec F S4x4096x16x192 .f32) (ctx : Vec F S4x256x16x192 .f32) (b : Fin 4) (n : Fin 4096) (h : Fin 16)
    (e : Fin 256) (he : e.val < 192) :
    padRows lat ctx (ix3 h (latRow b n) e) = FloatOps.truncf .bf16 bitsLt_bf16_f32 (lat (ix4 b n h (⟨e.val, he⟩ : Fin 192))) := by
  unfold padRows
  refine congrArg (FloatOps.truncf .bf16 bitsLt_bf16_f32) ?_
  refine (concatenate_pair_apply_left (t := S16x17408x256) (s₁ := S16x17408x192) (s₂ := S16x17408x64) 2 _ _ _ _ rfl (ix3 h (latRow b n) (⟨e.val, he⟩ : Fin 192) : S16x17408x192.Idx) (fun a => by
    match a with | ⟨0, _⟩ => rfl | ⟨1, _⟩ => rfl | ⟨2, _⟩ => rfl)).trans ?_
  refine (transpose_apply _ _ _ _ (ix3 (latRow b n) h (⟨e.val, he⟩ : Fin 192) : S17408x16x192.Idx) (fun a => by
    match a with | ⟨0, _⟩ => rfl | ⟨1, _⟩ => rfl | ⟨2, _⟩ => rfl)).trans ?_
  refine (concatenate_pair_apply_left (t := S17408x16x192) (s₁ := S16384x16x192) (s₂ := S1024x16x192) 0 _ _ _ _ rfl (ix3 (⟨b.val * 4096 + n.val, by omega⟩ : Fin 16384) h (⟨e.val, he⟩ : Fin 192) : S16384x16x192.Idx) (fun a => by
    match a with | ⟨0, _⟩ => rfl | ⟨1, _⟩ => rfl | ⟨2, _⟩ => rfl)).trans ?_
  refine shapeCast_apply _ _ _ _ ?_
  rw [Shape.rowMajor_val_four, Shape.rowMajor_val_three]
  rfl

theorem padRows_ctx (lat : Vec F S4x4096x16x192 .f32) (ctx : Vec F S4x256x16x192 .f32) (b : Fin 4) (n : Fin 256) (h : Fin 16)
    (e : Fin 256) (he : e.val < 192) :
    padRows lat ctx (ix3 h (ctxRow b n) e) = FloatOps.truncf .bf16 bitsLt_bf16_f32 (ctx (ix4 b n h (⟨e.val, he⟩ : Fin 192))) := by
  unfold padRows
  refine congrArg (FloatOps.truncf .bf16 bitsLt_bf16_f32) ?_
  refine (concatenate_pair_apply_left (t := S16x17408x256) (s₁ := S16x17408x192) (s₂ := S16x17408x64) 2 _ _ _ _ rfl (ix3 h (ctxRow b n) (⟨e.val, he⟩ : Fin 192) : S16x17408x192.Idx) (fun a => by
    match a with | ⟨0, _⟩ => rfl | ⟨1, _⟩ => rfl | ⟨2, _⟩ => rfl)).trans ?_
  refine (transpose_apply _ _ _ _ (ix3 (ctxRow b n) h (⟨e.val, he⟩ : Fin 192) : S17408x16x192.Idx) (fun a => by
    match a with | ⟨0, _⟩ => rfl | ⟨1, _⟩ => rfl | ⟨2, _⟩ => rfl)).trans ?_
  refine (concatenate_pair_apply_right (t := S17408x16x192) (s₁ := S16384x16x192) (s₂ := S1024x16x192) 0 _ _ _ _ rfl rfl (ix3 (⟨b.val * 256 + n.val, by omega⟩ : Fin 1024) h (⟨e.val, he⟩ : Fin 192) : S1024x16x192.Idx) (fun a ha => by
    match a, ha with | ⟨0, _⟩, ha => exact absurd rfl ha | ⟨1, _⟩, _ => rfl | ⟨2, _⟩, _ => rfl) (Nat.add_comm _ _)).trans ?_
  refine shapeCast_apply _ _ _ _ ?_
  rw [Shape.rowMajor_val_four, Shape.rowMajor_val_three]
  rfl

theorem padRows_pad (lat : Vec Ideal S4x4096x16x192 .f32) (ctx : Vec Ideal S4x256x16x192 .f32) (h : Fin 16) (n : Fin 17408)
    (e : Fin 256) (he : ¬ e.val < 192) : padRows lat ctx (ix3 h n e) = (0 : EReal) := by
  unfold padRows
  refine (concatenate_pair_apply_right (t := S16x17408x256) (s₁ := S16x17408x192) (s₂ := S16x17408x64) 2 _ _ concatenates_S16x17408x192_S16x17408x64_S16x17408x256_d2 _ rfl rfl (ix3 h n (⟨e.val - 192, by omega⟩ : Fin 64) : S16x17408x64.Idx) (fun a ha => by
    match a, ha with | ⟨0, _⟩, _ => rfl | ⟨1, _⟩, _ => rfl | ⟨2, _⟩, ha => exact absurd rfl ha) (by
      show e.val - 192 + 192 = e.val; omega)).trans ?_
  exact Ideal.ofBits_zero_f32

theorem valRows_lat (lat : Vec F S4x4096x16x128 .f32) (ctx : Vec F S4x256x16x128 .f32) (b : Fin 4) (n : Fin 4096) (h : Fin 16)
    (d : Fin 128) :
    valRows lat ctx (ix3 h (latRow b n) d) = FloatOps.truncf .bf16 bitsLt_bf16_f32 (lat (ix4 b n h d)) := by
  unfold valRows
  refine congrArg (FloatOps.truncf .bf16 bitsLt_bf16_f32) ?_
  refine (transpose_apply _ _ _ _ (ix3 (latRow b n) h d : S17408x16x128.Idx) (fun a => by
    match a with | ⟨0, _⟩ => rfl | ⟨1, _⟩ => rfl | ⟨2, _⟩ => rfl)).trans ?_
  refine (concatenate_pair_apply_left (t := S17408x16x128) (s₁ := S16384x16x128) (s₂ := S1024x16x128) 0 _ _ _ _ rfl (ix3 (⟨b.val * 4096 + n.val, by omega⟩ : Fin 16384) h d : S16384x16x128.Idx) (fun a => by
    match a with | ⟨0, _⟩ => rfl | ⟨1, _⟩ => rfl | ⟨2, _⟩ => rfl)).trans ?_
  refine shapeCast_apply _ _ _ _ ?_
  rw [Shape.rowMajor_val_four, Shape.rowMajor_val_three]
  rfl

theorem valRows_ctx (lat : Vec F S4x4096x16x128 .f32) (ctx : Vec F S4x256x16x128 .f32) (b : Fin 4) (n : Fin 256) (h : Fin 16)
    (d : Fin 128) :
    valRows lat ctx (ix3 h (ctxRow b n) d) = FloatOps.truncf .bf16 bitsLt_bf16_f32 (ctx (ix4 b n h d)) := by
  unfold valRows
  refine congrArg (FloatOps.truncf .bf16 bitsLt_bf16_f32) ?_
  refine (transpose_apply _ _ _ _ (ix3 (ctxRow b n) h d : S17408x16x128.Idx) (fun a => by
    match a with | ⟨0, _⟩ => rfl | ⟨1, _⟩ => rfl | ⟨2, _⟩ => rfl)).trans ?_
  refine (concatenate_pair_apply_right (t := S17408x16x128) (s₁ := S16384x16x128) (s₂ := S1024x16x128) 0 _ _ _ _ rfl rfl (ix3 (⟨b.val * 256 + n.val, by omega⟩ : Fin 1024) h d : S1024x16x128.Idx) (fun a ha => by
    match a, ha with | ⟨0, _⟩, ha => exact absurd rfl ha | ⟨1, _⟩, _ => rfl | ⟨2, _⟩, _ => rfl) (Nat.add_comm _ _)).trans ?_
  refine shapeCast_apply _ _ _ _ ?_
  rw [Shape.rowMajor_val_four, Shape.rowMajor_val_three]
  rfl

end Cert.KernelIdeal.Attn

end
-- ==== Proof.Array.lean ====
/-
  The kernel's result array: every grid point's block, and so the array, as one function of the arguments.
-/
module

public import proofs.«01_k».proof.Proof.Out
public import proofs.«01_k».proof.Proof.HostArr
public import Idealize.ShloMosaic.Lib.Pipeline.ValueKit.Geometry

@[expose] public section

set_option maxRecDepth 16384

noncomputable section

namespace Cert.KernelIdeal.Attn

open Cert.KernelIdeal Cert.KernelIdeal.Gen Idealize.ShloMosaic Idealize.ShloMosaic.TcCoe Idealize.ShloMosaic.ValueIdx
open Cert.AttnMath

/-! ## The blocks of a grid point -/

theorem index0 : ∀ t : Fin cfg0.N, win0_0.index t = ![(grid0.coords t 1).val, (grid0.coords t 0).val * 2 + (grid0.coords t 2).val, 0] :=
  (by decide +kernel : ∀ t : Fin grid0.N, win0_0.index t = ![(grid0.coords t 1).val, (grid0.coords t 0).val * 2 + (grid0.coords t 2).val, 0])
theorem index1 : ∀ t : Fin cfg0.N, win0_1.index t = ![(grid0.coords t 1).val, (grid0.coords t 0).val, 0] :=
  (by decide +kernel : ∀ t : Fin grid0.N, win0_1.index t = ![(grid0.coords t 1).val, (grid0.coords t 0).val, 0])
theorem index2 : ∀ t : Fin cfg0.N, win0_2.index t = ![(grid0.coords t 1).val, 64 + (grid0.coords t 0).val, 0] :=
  (by decide +kernel : ∀ t : Fin grid0.N, win0_2.index t = ![(grid0.coords t 1).val, 64 + (grid0.coords t 0).val, 0])
theorem index3 : ∀ t : Fin cfg0.N, win0_3.index t = ![(grid0.coords t 1).val, (grid0.coords t 0).val, 0] :=
  (by decide +kernel : ∀ t : Fin grid0.N, win0_3.index t = ![(grid0.coords t 1).val, (grid0.coords t 0).val, 0])
theorem index4 : ∀ t : Fin cfg0.N, win0_4.index t = ![(grid0.coords t 1).val, 64 + (grid0.coords t 0).val, 0] :=
  (by decide +kernel : ∀ t : Fin grid0.N, win0_4.index t = ![(grid0.coords t 1).val, 64 + (grid0.coords t 0).val, 0])
theorem index5 : ∀ t : Fin cfg0.N, win0_5.index t = ![(grid0.coords t 0).val * 2 + (grid0.coords t 2).val, (grid0.coords t 1).val] :=
  (by decide +kernel : ∀ t : Fin grid0.N, win0_5.index t = ![(grid0.coords t 0).val * 2 + (grid0.coords t 2).val, (grid0.coords t 1).val])

/-- A point's sequence, head and half of the query rows. -/
abbrev seqOf (t : Fin cfg0.N) : Fin 4 := ⟨(grid0.coords t 0).val, (grid0.coords t 0).isLt⟩
abbrev headOf (t : Fin cfg0.N) : Fin 16 := ⟨(grid0.coords t 1).val, (grid0.coords t 1).isLt⟩
abbrev halfOf (t : Fin cfg0.N) : Fin 2 := ⟨(grid0.coords t 2).val, (grid0.coords t 2).isLt⟩

variable (m : (ℓ : Loc nD τ sig) → Buf (Elt Ideal) ℓ)

theorem q_apply (c : Dev nD) (t : Fin cfg0.N) (r : Fin 2048) (e : Fin 256) :
    X0_0 m c t (ix3 (0 : Fin 1) r e) = V m c main_v12 (ix3 (headOf t) (latRow (seqOf t) ⟨(halfOf t).val * 2048 + r.val, by omega⟩) e) := by
  unfold X0_0 Pipeline.Window.fill
  rw [dif_pos (moved0_0 t _)]
  blk_simp [iblk]
  refine congrArg (V m c main_v12) ?_
  blk_ext [index0]
  show ((grid0.coords t 0).val * 2 + (grid0.coords t 2).val) * 2048 + r.val
    = (grid0.coords t 0).val * 4096 + ((grid0.coords t 2).val * 2048 + r.val)
  omega

theorem kLat_apply (c : Dev nD) (t : Fin cfg0.N) (n : Fin 4096) (e : Fin 256) :
    X0_1 m c t (ix3 (0 : Fin 1) n e) = V m c main_v19 (ix3 (headOf t) (latRow (seqOf t) n) e) := by
  unfold X0_1 Pipeline.Window.fill
  rw [dif_pos (moved0_1 t _)]
  blk_simp [iblk]
  refine congrArg (V m c main_v19) ?_
  blk_ext [index1]

theorem vLat_apply (c : Dev nD) (t : Fin cfg0.N) (n : Fin 4096) (e : Fin 128) :
    X0_3 m c t (ix3 (0 : Fin 1) n e) = V m c main_v24 (ix3 (headOf t) (latRow (seqOf t) n) e) := by
  unfold X0_3 Pipeline.Window.fill
  rw [dif_pos (moved0_3 t _)]
  blk_simp [iblk]
  refine congrArg (V m c main_v24) ?_
  blk_ext [index3]

theorem kCtx_apply (c : Dev nD) (t : Fin cfg0.N) (n : Fin 256) (e : Fin 256) :
    iblk m c 2 t (ix3 (0 : Fin 1) n e) = V m c main_v19 (ix3 (headOf t) (ctxRow (seqOf t) n) e) := by
  blk_simp [iblk]
  refine congrArg (V m c main_v19) ?_
  blk_ext [index2]
  show (64 + (grid0.coords t 0).val) * 256 + n.val = 16384 + ((grid0.coords t 0).val * 256 + n.val)
  omega

theorem vCtx_apply (c : Dev nD) (t : Fin cfg0.N) (n : Fin 256) (e : Fin 128) :
    iblk m c 4 t (ix3 (0 : Fin 1) n e) = V m c main_v24 (ix3 (headOf t) (ctxRow (seqOf t) n) e) := by
  blk_simp [iblk]
  refine congrArg (V m c main_v24) ?_
  blk_ext [index4]
  show (64 + (grid0.coords t 0).val) * 256 + n.val = 16384 + ((grid0.coords t 0).val * 256 + n.val)
  omega

/-! ## The result -/

/-- The factor of the queries, as a number. -/
def factor : EReal := qFactor (F := Ideal) ix0

/-- The score of key `j` of sequence `b` with the query of row `r`, at head `h`. -/
def headScore (q : Vec Ideal S4x4096x16x192 .f32) (kl : Vec Ideal S4x4096x16x192 .f32) (kc : Vec Ideal S4x256x16x192 .f32)
    (b : Fin 4) (r : Fin 4096) (h : Fin 16) (j : Fin 4352) : EReal :=
  ∑ e : Fin 192, q (ix4 b r h e) * factor * (if hj : j.val < 4096 then kl (ix4 b ⟨j.val, hj⟩ h e) else kc (ix4 b ⟨j.val - 4096, by omega⟩ h e))

/-- Column `d` of the value of key `j`. -/
def headVal (vl : Vec Ideal S4x4096x16x128 .f32) (vc : Vec Ideal S4x256x16x128 .f32) (b : Fin 4) (h : Fin 16) (d : Fin 128)
    (j : Fin 4352) : EReal :=
  if hj : j.val < 4096 then vl (ix4 b ⟨j.val, hj⟩ h d) else vc (ix4 b ⟨j.val - 4096, by omega⟩ h d)

/-- The kernel's result at row `n` of the tokens of all sequences and column `k` of the heads. -/
def result (q : Vec Ideal S4x4096x16x192 .f32) (kl : Vec Ideal S4x4096x16x192 .f32) (kc : Vec Ideal S4x256x16x192 .f32)
    (vl : Vec Ideal S4x4096x16x128 .f32) (vc : Vec Ideal S4x256x16x128 .f32) (n : Fin 16384) (k : Fin 2048) : EReal :=
  entry (headScore q kl kc ⟨n.val / 4096, by omega⟩ ⟨n.val % 4096, by omega⟩ ⟨k.val / 128, by omega⟩)
    (headVal vl vc ⟨n.val / 4096, by omega⟩ ⟨k.val / 128, by omega⟩ ⟨k.val % 128, by omega⟩)

theorem padded_sum (f : Fin 256 → EReal) (g : Fin 192 → EReal) (hfg : ∀ e : Fin 192, f ⟨e.val, by omega⟩ = g e)
    (hf : ∀ e : Fin 256, ¬ e.val < 192 → f e = 0) : ∑ e, f e = ∑ e, g e := by
  rw [show ∑ e : Fin 256, f e = ∑ e : Fin (192 + 64), f e from rfl, Fin.sum_univ_add]
  rw [Finset.sum_eq_zero (s := Finset.univ) (f := fun e : Fin 64 => f (Fin.natAdd 192 e)) fun e _ =>
    hf _ (by show ¬ 192 + e.val < 192; omega), add_zero]
  exact Finset.sum_congr rfl fun e _ => hfg e

/-- The scaled queries at an index. -/
theorem scaled_apply (q : Vec Ideal S4x4096x16x192 .f32) (i : S4x4096x16x192.Idx) :
    (mulf (F := Ideal) (φ := .f32) q (broadcastInDim S4x4096x16x192 ![] bcast_S_S4x4096x16x192 (qFactor (F := Ideal)))) i
      = q i * factor := by
  rw [mulf_apply]
  refine congrArg (q i * ·) ?_
  exact congrArg (qFactor (F := Ideal)) (funext fun a => a.elim0)

theorem scores_eq (c : Dev nD) (t : Fin cfg0.N) (r : Fin 2048) (j : Fin 4352) :
    scores (fun e => X0_0 m c t (ix3 (0 : Fin 1) r e)) (X0_1 m c t) (iblk m c 2 t) j
      = headScore (m ((c : Thread nD τ).loc main_arg0)) (m ((c : Thread nD τ).loc main_arg2)) (m ((c : Thread nD τ).loc main_arg3))
          (seqOf t) ⟨(halfOf t).val * 2048 + r.val, by omega⟩ (headOf t) j := by
  unfold scores headScore
  refine padded_sum _ _ (fun e => ?_) (fun e he => ?_)
  · beta_reduce
    rw [q_apply, V_q, padRows_lat _ _ _ _ _ _ e.isLt]
    refine congrArg₂ (· * ·) (scaled_apply _ _) ?_
    split
    · rw [kLat_apply, V_k, padRows_lat _ _ _ _ _ _ e.isLt]; rfl
    · rw [kCtx_apply, V_k, padRows_ctx _ _ _ _ _ _ e.isLt]; rfl
  · beta_reduce
    rw [q_apply, V_q, padRows_pad _ _ _ _ _ he, zero_mul]

theorem vals_eq (c : Dev nD) (t : Fin cfg0.N) (d : Fin 128) (j : Fin 4352) :
    vals (X0_3 m c t) (iblk m c 4 t) d j
      = headVal (m ((c : Thread nD τ).loc main_arg4)) (m ((c : Thread nD τ).loc main_arg5)) (seqOf t) (headOf t) d j := by
  unfold vals headVal
  split
  · rw [vLat_apply, V_v, valRows_lat]; rfl
  · rw [vCtx_apply, V_v, valRows_ctx]; rfl

/-- The result array after the run. -/
def resultArr (c : Dev nD) : Buf (Elt Ideal) ((c : Thread nD τ).loc main_v25) := fun y =>
  result (m ((c : Thread nD τ).loc main_arg0)) (m ((c : Thread nD τ).loc main_arg2)) (m ((c : Thread nD τ).loc main_arg3))
    (m ((c : Thread nD τ).loc main_arg4)) (m ((c : Thread nD τ).loc main_arg5)) ⟨(y 0).val, (y 0).isLt⟩ ⟨(y 1).val, (y 1).isLt⟩

theorem arr_eq (c : Dev nD) : (dats m 0 c).arrAt 5 cfg0.N = resultArr m c := by
  refine (dats m 0 c).arrAt_eq_of_covers 5 _ (by decide +kernel) fun t hf y => ?_
  blk_simp
  rw [after0_5]
  unfold outsAt0
  rw [out_eq]
  unfold tileOut resultArr result
  have h0 : (y 0).val < 2048 := (y 0).isLt
  have h1 : (y 1).val < 128 := (y 1).isLt
  have c0 : (grid0.coords t 0).val < 4 := (seqOf t).isLt
  have c1 : (grid0.coords t 1).val < 16 := (headOf t).isLt
  have c2 : (grid0.coords t 2).val < 2 := (halfOf t).isLt
  have e0 : (((win0_5.blk t).view.emb y 0 : Fin _) : ℕ) = ((grid0.coords t 0).val * 2 + (grid0.coords t 2).val) * 2048 + (y 0).val := by
    blk_simp [index5]
  have e1 : (((win0_5.blk t).view.emb y 1 : Fin _) : ℕ) = (grid0.coords t 1).val * 128 + (y 1).val := by
    blk_simp [index5]
  have hb : seqOf t = ⟨(((win0_5.blk t).view.emb y 0 : Fin _) : ℕ) / 4096, by rw [e0]; omega⟩ :=
    Fin.ext (by show (grid0.coords t 0).val = _ / 4096; rw [e0]; omega)
  have hr : (⟨(halfOf t).val * 2048 + (y 0).val, by omega⟩ : Fin 4096)
      = ⟨(((win0_5.blk t).view.emb y 0 : Fin _) : ℕ) % 4096, Nat.mod_lt _ (by omega)⟩ :=
    Fin.ext (by show (grid0.coords t 2).val * 2048 + (y 0).val = _ % 4096; rw [e0]; omega)
  have hh : headOf t = ⟨(((win0_5.blk t).view.emb y 1 : Fin _) : ℕ) / 128, by rw [e1]; omega⟩ :=
    Fin.ext (by show (grid0.coords t 1).val = _ / 128; rw [e1]; omega)
  have hd : (⟨(y 1).val, h1⟩ : Fin 128) = ⟨(((win0_5.blk t).view.emb y 1 : Fin _) : ℕ) % 128, Nat.mod_lt _ (by omega)⟩ :=
    Fin.ext (by show (y 1).val = _ % 128; rw [e1]; omega)
  refine congrArg₂ entry (funext fun j => ?_) (funext fun j => ?_)
  · exact (scores_eq m c t ⟨(y 0).val, h0⟩ j).trans (by rw [hr, hb, hh])
  · exact (vals_eq m c t ⟨(y 1).val, h1⟩ j).trans (by rw [hd, hb, hh])

end Cert.KernelIdeal.Attn

end
-- ==== Proof.Ref.lean ====
/-
  The reference's attention at an index: a softmax of real scores, times the values.
-/
module

public import proofs.«01_k».proof.Proof.Softmax
public import proofs.«01_k».proof.Proof.Gen.ReferenceIdeal.Read

@[expose] public section

set_option maxRecDepth 16384

noncomputable section

namespace Cert.ReferenceIdeal.Attn

open Cert.ReferenceIdeal Cert.ReferenceIdeal.Gen Cert.ReferenceIdeal.Read
open Idealize.ShloMosaic Idealize.ShloMosaic.TcCoe Idealize.ShloMosaic.ValueIdx Idealize.ShloMosaic.StableHlo
open Cert.AttnMath

/-- Coordinate `e` of key `j`: a latent key, or a context key after them. -/
def keyAt (kl : Vec Ideal S4x4096x16x192 .f32) (kc : Vec Ideal S4x256x16x192 .f32) (b : Fin 4) (h : Fin 16) (e : Fin 192)
    (j : Fin 4352) : EReal :=
  if hj : j.val < 4096 then kl (ix4 b ⟨j.val, hj⟩ h e) else kc (ix4 b ⟨j.val - 4096, by omega⟩ h e)

/-- Column `d` of value `j`. -/
def valAt (vl : Vec Ideal S4x4096x16x128 .f32) (vc : Vec Ideal S4x256x16x128 .f32) (b : Fin 4) (h : Fin 16) (d : Fin 128)
    (j : Fin 4352) : EReal :=
  if hj : j.val < 4096 then vl (ix4 b ⟨j.val, hj⟩ h d) else vc (ix4 b ⟨j.val - 4096, by omega⟩ h d)

theorem keys_apply (kl : Vec Ideal S4x4096x16x192 .f32) (kc : Vec Ideal S4x256x16x192 .f32) (b : Fin 4) (j : Fin 4352)
    (h : Fin 16) (e : Fin 192) : val_main_v0 (F := Ideal) kl kc (ix4 b j h e) = keyAt kl kc b h e j := by
  unfold val_main_v0 keyAt
  split
  next hj =>
    exact concatenate_pair_apply_left (t := S4x4352x16x192) (s₁ := S4x4096x16x192) (s₂ := S4x256x16x192) 1 _ _
      concatenates_S4x4096x16x192_S4x256x16x192_S4x4352x16x192_d1 _ rfl (ix4 b (⟨j.val, hj⟩ : Fin 4096) h e) (fun a => by
        match a with | ⟨0, _⟩ => rfl | ⟨1, _⟩ => rfl | ⟨2, _⟩ => rfl | ⟨3, _⟩ => rfl)
  next hj =>
    exact concatenate_pair_apply_right (t := S4x4352x16x192) (s₁ := S4x4096x16x192) (s₂ := S4x256x16x192) 1 _ _
      concatenates_S4x4096x16x192_S4x256x16x192_S4x4352x16x192_d1 _ rfl rfl (ix4 b (⟨j.val - 4096, by omega⟩ : Fin 256) h e)
      (fun a ha => by
        match a, ha with | ⟨0, _⟩, _ => rfl | ⟨1, _⟩, ha => exact absurd rfl ha | ⟨2, _⟩, _ => rfl | ⟨3, _⟩, _ => rfl)
      (by show j.val - 4096 + 4096 = j.val; omega)

theorem vals_apply (vl : Vec Ideal S4x4096x16x128 .f32) (vc : Vec Ideal S4x256x16x128 .f32) (b : Fin 4) (j : Fin 4352)
    (h : Fin 16) (d : Fin 128) : val_main_v1 (F := Ideal) vl vc (ix4 b j h d) = valAt vl vc b h d j := by
  unfold val_main_v1 valAt
  split
  next hj =>
    exact concatenate_pair_apply_left (t := S4x4352x16x128) (s₁ := S4x4096x16x128) (s₂ := S4x256x16x128) 1 _ _
      concatenates_S4x4096x16x128_S4x256x16x128_S4x4352x16x128_d1 _ rfl (ix4 b (⟨j.val, hj⟩ : Fin 4096) h d) (fun a => by
        match a with | ⟨0, _⟩ => rfl | ⟨1, _⟩ => rfl | ⟨2, _⟩ => rfl | ⟨3, _⟩ => rfl)
  next hj =>
    exact concatenate_pair_apply_right (t := S4x4352x16x128) (s₁ := S4x4096x16x128) (s₂ := S4x256x16x128) 1 _ _
      concatenates_S4x4096x16x128_S4x256x16x128_S4x4352x16x128_d1 _ rfl rfl (ix4 b (⟨j.val - 4096, by omega⟩ : Fin 256) h d)
      (fun a ha => by
        match a, ha with | ⟨0, _⟩, _ => rfl | ⟨1, _⟩, ha => exact absurd rfl ha | ⟨2, _⟩, _ => rfl | ⟨3, _⟩, _ => rfl)
      (by show j.val - 4096 + 4096 = j.val; omega)

/-- The score of key `j`. -/
theorem score_apply (q kl : Vec Ideal S4x4096x16x192 .f32) (kc : Vec Ideal S4x256x16x192 .f32) (b : Fin 4) (h : Fin 16)
    (r : Fin 4096) (j : Fin 4352) : val_main_v4 (F := Ideal) q kl kc (ix4 b h r j)
      = (∑ e : Fin 192, q (ix4 b r h e) * keyAt kl kc b h e j) * Ideal.ofBits .f32 0x3D93CD3A#32 := by
  rw [val_main_v4_apply, val_main_v3_apply, val_main_cst_apply, val_main_v2_apply]
  refine congrArg (· * Ideal.ofBits .f32 0x3D93CD3A#32) (Finset.sum_congr rfl fun e _ => ?_)
  refine congrArg₂ (· * ·) (congrArg q ?_) ?_
  · exact funext fun a => match a with | ⟨0, _⟩ => rfl | ⟨1, _⟩ => rfl | ⟨2, _⟩ => rfl | ⟨3, _⟩ => rfl
  · rw [← keys_apply]
    exact congrArg _ (funext fun a => match a with | ⟨0, _⟩ => rfl | ⟨1, _⟩ => rfl | ⟨2, _⟩ => rfl | ⟨3, _⟩ => rfl)

theorem reduces_last : S4x16x4096x4352.Reduces [3] S4x16x4096 := by decide

/-- The row maximum, for real scores. -/
theorem max_real (q kl : Vec Ideal S4x4096x16x192 .f32) (kc : Vec Ideal S4x256x16x192 .f32) (b : Fin 4) (h : Fin 16)
    (r : Fin 4096) (t : Fin 4352 → ℝ) (ht : ∀ j, val_main_v4 (F := Ideal) q kl kc (ix4 b h r j) = (t j : EReal)) :
    ∃ M : ℝ, val_main_v7 (F := Ideal) q kl kc (ix3 b h r) = (M : EReal) := by
  obtain ⟨M, hM⟩ := fold_max_real (by decide) t
  refine ⟨M, ?_⟩
  have hb : (FloatOps.ofBits (F := Ideal) .f32 0xFF800000#32 : EReal) = ⊥ := by
    simp [FloatOps.ofBits, Ideal.ofBits, Ideal.ieee]
  have h5 : val_main_v5 (F := Ideal) q kl kc (ix3 b h r) = (M : EReal) := by
    unfold val_main_v5
    refine (Host.reduce_eq_fold_single (FloatOps.maximumf (F := Ideal) (φ := .f32)) _ _ _ reduces_last h_S_ _).trans ?_
    rw [← hM]
    refine congrArg₂ (fun i f => (Finset.univ : Finset (Fin 4352)).fold max i f) hb (funext fun j => ?_)
    refine (congrArg (val_main_v4 (F := Ideal) q kl kc) ?_).trans (ht j)
    exact funext fun a => Fin.ext (by match a with | ⟨0, _⟩ => rfl | ⟨1, _⟩ => rfl | ⟨2, _⟩ => rfl | ⟨3, _⟩ => rfl)
  rw [val_main_v7_apply, val_main_v6_apply, val_main_cst_1_apply, h5, hb]
  exact max_eq_right bot_le

/-- The weight of key `j` before the division. -/
theorem weight_apply (q kl : Vec Ideal S4x4096x16x192 .f32) (kc : Vec Ideal S4x256x16x192 .f32) (b : Fin 4) (h : Fin 16)
    (r : Fin 4096) (j : Fin 4352) (M : EReal) (hM : val_main_v7 (F := Ideal) q kl kc (ix3 b h r) = M) :
    val_main_v11 (F := Ideal) q kl kc (ix4 b h r j) = Ideal.exp (val_main_v4 (F := Ideal) q kl kc (ix4 b h r j) - M) := by
  rw [val_main_v11_apply, val_main_v10_apply, val_main_v9_apply, val_main_v8_apply]
  refine congrArg (fun z => Ideal.exp (val_main_v4 (F := Ideal) q kl kc (ix4 b h r j) - z)) ?_
  refine (congrArg (val_main_v7 (F := Ideal) q kl kc) ?_).trans hM
  exact funext fun a => match a with | ⟨0, _⟩ => rfl | ⟨1, _⟩ => rfl | ⟨2, _⟩ => rfl

/-- The row sum. -/
theorem sum_apply (q kl : Vec Ideal S4x4096x16x192 .f32) (kc : Vec Ideal S4x256x16x192 .f32) (b : Fin 4) (h : Fin 16)
    (r : Fin 4096) : val_main_v12 (F := Ideal) q kl kc (ix3 b h r)
      = ∑ j : Fin 4352, val_main_v11 (F := Ideal) q kl kc (ix4 b h r j) := by
  rw [val_main_v12_apply, val_main_cst_2_apply, Ideal.ofBits_def, Ideal.ofBits_zero_f32, zero_add]
  refine Finset.sum_congr rfl fun j _ => congrArg _ ?_
  exact funext fun a => match a with | ⟨0, _⟩ => rfl | ⟨1, _⟩ => rfl | ⟨2, _⟩ => rfl | ⟨3, _⟩ => rfl

/-- The result at row `n` and column `k`, for real scores: some real is subtracted from them. -/
theorem result_apply (q kl : Vec Ideal S4x4096x16x192 .f32) (kc : Vec Ideal S4x256x16x192 .f32) (vl : Vec Ideal S4x4096x16x128 .f32)
    (vc : Vec Ideal S4x256x16x128 .f32) (n : Fin 16384) (k : Fin 2048) (b : Fin 4) (r : Fin 4096) (h : Fin 16) (d : Fin 128)
    (hn : n.val = b.val * 4096 + r.val) (hk : k.val = h.val * 128 + d.val) (t : Fin 4352 → ℝ)
    (ht : ∀ j, val_main_v4 (F := Ideal) q kl kc (ix4 b h r j) = (t j : EReal)) :
    ∃ M : ℝ, val_main_v19 (F := Ideal) q kl kc vl vc (ix2 n k)
      = ∑ j, valAt vl vc b h d j * Ideal.div (Ideal.exp ((t j : EReal) - (M : EReal))) (∑ j, Ideal.exp ((t j : EReal) - (M : EReal))) := by
  obtain ⟨M, hM⟩ := max_real q kl kc b h r t ht
  refine ⟨M, ?_⟩
  have hw : ∀ j, val_main_v11 (F := Ideal) q kl kc (ix4 b h r j) = Ideal.exp ((t j : EReal) - (M : EReal)) := fun j => by
    rw [weight_apply q kl kc b h r j _ hM, ht]
  have hs : val_main_v12 (F := Ideal) q kl kc (ix3 b h r) = ∑ j, Ideal.exp ((t j : EReal) - (M : EReal)) := by
    rw [sum_apply]
    exact Finset.sum_congr rfl fun j _ => hw j
  rw [val_main_v19_apply, val_main_v18_apply, val_main_v17_apply]
  have hi : idx_main_v17 (idx_main_v18 (ix2 n k)) = ix4 b h d r := by
    refine funext fun a => Fin.ext ?_
    match a with
    | ⟨0, _⟩ => show (n.val * 2048 + k.val) / 8388608 = b.val; omega
    | ⟨1, _⟩ => show (n.val * 2048 + k.val) / 128 % 16 = h.val; omega
    | ⟨2, _⟩ => show (n.val * 2048 + k.val) % 128 = d.val; omega
    | ⟨3, _⟩ => show (n.val * 2048 + k.val) / 2048 % 4096 = r.val; omega
  rw [hi]
  show val_main_v16 (F := Ideal) q kl kc vl vc (ix4 b h d r) = _
  rw [val_main_v16_apply]
  refine Finset.sum_congr rfl fun j _ => congrArg₂ (· * ·) ?_ ?_
  · rw [← vals_apply]
    exact congrArg _ (funext fun a => match a with | ⟨0, _⟩ => rfl | ⟨1, _⟩ => rfl | ⟨2, _⟩ => rfl | ⟨3, _⟩ => rfl)
  · rw [val_main_v15_apply, Ideal.hostDivf_def]
    refine congrArg₂ Ideal.div ?_ ?_
    · rw [← hw j]
      exact congrArg _ (funext fun a => match a with | ⟨0, _⟩ => rfl | ⟨1, _⟩ => rfl | ⟨2, _⟩ => rfl | ⟨3, _⟩ => rfl)
    · rw [val_main_v14_apply, val_main_v13_apply, ← hs]
      exact congrArg _ (funext fun a => match a with | ⟨0, _⟩ => rfl | ⟨1, _⟩ => rfl | ⟨2, _⟩ => rfl)

end Cert.ReferenceIdeal.Attn

end
-- ==== Proof.Equation.lean ====
/-
  Kernel and reference have the same entries when queries and keys are real.
-/
module

public import proofs.«01_k».proof.Proof.Array
public import proofs.«01_k».proof.Proof.Ref

@[expose] public section

set_option maxRecDepth 16384

noncomputable section

namespace Cert.AttnMath

open Idealize.ShloMosaic Idealize.ShloMosaic.ValueIdx
open Cert.KernelIdeal (S4x4096x16x192 S4x256x16x192 S4x4096x16x128 S4x256x16x128)
open Cert.KernelIdeal.Attn (headScore headVal factor result)
open Cert.ReferenceIdeal.Attn (keyAt valAt)

/-- The reference's scale, as a real. -/
def scaleReal : ℝ := 9686330 / 2 ^ 27

theorem scale_real : Ideal.ofBits .f32 0x3D93CD3A#32 = (scaleReal : EReal) := by
  unfold scaleReal
  simp [Ideal.ofBits, Ideal.ieee, -EReal.coe_mul]
  norm_num

theorem two_real : Ideal.ofBits .f32 0x40000000#32 = ((2 : ℝ) : EReal) := by
  simp [Ideal.ofBits, Ideal.ieee, -EReal.coe_mul]
  norm_num

/-- The kernel's factor is the scale divided by the logarithm of two. -/
theorem factor_real : factor = ((scaleReal * (Real.log 2)⁻¹ : ℝ) : EReal) := by
  have h : factor = Ideal.div (Ideal.ofBits .f32 0x3D93CD3A#32) (Ideal.log (Ideal.ofBits .f32 0x40000000#32)) := rfl
  rw [h, scale_real, two_real, Ideal.log_coe, if_neg (by norm_num), Ideal.div_coe (Real.log_pos one_lt_two).ne', one_div,
    ← EReal.coe_mul]

section
variable (q kl : Vec Ideal S4x4096x16x192 .f32) (kc : Vec Ideal S4x256x16x192 .f32)
variable (hq : ∀ i, ∃ x : ℝ, q i = (x : EReal)) (hkl : ∀ i, ∃ x : ℝ, kl i = (x : EReal)) (hkc : ∀ i, ∃ x : ℝ, kc i = (x : EReal))
include hq hkl hkc

/-- A score is real, and the kernel's score of the same key is it divided by the logarithm of two. -/
theorem score_both (b : Fin 4) (h : Fin 16) (r : Fin 4096) (j : Fin 4352) :
    ∃ t : ℝ, (∑ e : Fin 192, q (ix4 b r h e) * keyAt kl kc b h e j) * Ideal.ofBits .f32 0x3D93CD3A#32 = (t : EReal)
      ∧ headScore q kl kc b r h j = ((t * (Real.log 2)⁻¹ : ℝ) : EReal) := by
  have hk : ∀ e : Fin 192, ∃ y : ℝ, keyAt kl kc b h e j = (y : EReal) := fun e => by
    unfold keyAt
    split
    · exact hkl _
    · exact hkc _
  choose x hx using fun e : Fin 192 => hq (ix4 b r h e)
  choose y hy using hk
  refine ⟨(∑ e, x e * y e) * scaleReal, ?_, ?_⟩
  · rw [scale_real, EReal.coe_mul, ← sum_real]
    refine congrArg (· * (scaleReal : EReal)) (Finset.sum_congr rfl fun e _ => ?_)
    rw [hx, hy, EReal.coe_mul]
  · have hs : headScore q kl kc b r h j = ∑ e : Fin 192, ((x e * (scaleReal * (Real.log 2)⁻¹) * y e : ℝ) : EReal) := by
      unfold headScore
      refine Finset.sum_congr rfl fun e _ => ?_
      rw [EReal.coe_mul, EReal.coe_mul]
      exact congrArg₂ (· * ·) (congrArg₂ (· * ·) (hx e) factor_real) (hy e)
    rw [hs, sum_real, mul_assoc, Finset.sum_mul]
    refine congrArg _ (Finset.sum_congr rfl fun e _ => ?_)
    ring

theorem result_eq (vl : Vec Ideal S4x4096x16x128 .f32) (vc : Vec Ideal S4x256x16x128 .f32) (n : Fin 16384) (k : Fin 2048) :
    result q kl kc vl vc n k = Cert.ReferenceIdeal.Read.val_main_v19 (F := Ideal) q kl kc vl vc (ix2 n k) := by
  have ha := score_both q kl kc hq hkl hkc ⟨n.val / 4096, by omega⟩ ⟨k.val / 128, by omega⟩ ⟨n.val % 4096, by omega⟩
  choose t ht hs using ha
  obtain ⟨M, hM⟩ := Cert.ReferenceIdeal.Attn.result_apply q kl kc vl vc n k ⟨n.val / 4096, by omega⟩ ⟨n.val % 4096, by omega⟩
    ⟨k.val / 128, by omega⟩ ⟨k.val % 128, by omega⟩ (by show n.val = n.val / 4096 * 4096 + n.val % 4096; omega)
    (by show k.val = k.val / 128 * 128 + k.val % 128; omega) t
    (fun j => (Cert.ReferenceIdeal.Attn.score_apply q kl kc _ _ _ j).trans (ht j))
  rw [hM]
  exact entry_eq t M _ _ hs

end

/-- An extended real whose magnitude is below the pattern of infinity is real. -/
theorem real_of_finite (x : EReal) (hx : Ideal.cmp .olt (max x (-x)) (Ideal.ofBits .f32 0x7F800000#32) = 1#1) :
    ∃ r : ℝ, x = (r : EReal) := by
  have ht : Ideal.ofBits .f32 0x7F800000#32 = (⊤ : EReal) := by simp [Ideal.ofBits, Ideal.ieee]
  rw [ht] at hx
  have hlt : max x (-x) < ⊤ := by
    by_contra hc
    simp [Ideal.cmp, hc] at hx
  induction x with
  | bot => simp at hlt
  | coe r => exact ⟨r, rfl⟩
  | top => simp at hlt

end Cert.AttnMath

end
-- ==== Proof.Claims.lean ====
/-
  The attention's claims: frames, and equality of the results at real queries and keys.
-/
module

public import proofs.«01_k».proof.Defs
public import proofs.«01_k».proof.Proof.Equation
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent
public import proofs.«01_k».proof.Proof.Gen.Pre_finite_scores

@[expose] public section

noncomputable section

namespace Cert.Proof.Attn

open Idealize.ShloMosaic Idealize.SL.Sem

theorem frame_p : Cert.quiescent_Kernel := fun m ρ _ => Cert.Kernel.Gen.frame m ρ
theorem frame_pi : Cert.quiescent_KernelIdeal := fun m ρ _ => Cert.KernelIdeal.Gen.frame m ρ
theorem frame_pi_pre : Cert.quiescent_KernelIdeal_pre_finite_scores := fun m ρ _ => Cert.KernelIdeal.Gen.frame m ρ
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)
theorem frame_ri_pre : Cert.quiescent_ReferenceIdeal_pre_finite_scores := fun m ρ _ => frame_ri m ρ trivial

theorem algebraic : Cert.algebraic_KernelIdeal_ReferenceIdeal_pre_finite_scores := by
  intro m g m' g' hpre hargs
  refine ⟨fun c => Cert.KernelIdeal.Attn.resultArr m c, ?_, ?_⟩
  · exact (θ_run _ _ _).mono (fun r h c => ⟨(h c).1.trans (Cert.KernelIdeal.Attn.arr_eq m c), (h c).2⟩)
      (Cert.KernelIdeal.Value.run_blocks m g)
  · refine (θ_run _ _ _).mono (fun r h c => ⟨(h c).1.trans ?_, (h c).2⟩) (Cert.ReferenceIdeal.Value.run m' g')
    obtain ⟨h0, h1, h2, h3, h4, h5⟩ := hargs c
    obtain ⟨p0, p2, p3⟩ := hpre c
    rw [Cert.ReferenceIdeal.Read.val_main_v19_eq, h0, h2, h3, h4, h5]
    funext y
    have hy : y = ValueIdx.ix2 (⟨(y 0).val, (y 0).isLt⟩ : Fin 16384) (⟨(y 1).val, (y 1).isLt⟩ : Fin 2048) :=
      funext fun a => match a with | ⟨0, _⟩ => rfl | ⟨1, _⟩ => rfl
    refine (congrArg _ hy).trans (Cert.AttnMath.result_eq _ _ _ ?_ ?_ ?_ _ _ _ _).symm
    · exact fun i => Cert.AttnMath.real_of_finite _ (congrFun p0 i)
    · exact fun i => Cert.AttnMath.real_of_finite _ (congrFun p2 i)
    · exact fun i => Cert.AttnMath.real_of_finite _ (congrFun p3 i)

end Cert.Proof.Attn

end
-- ==== Proof.MergeBlock.lean ====
/-
  One grid point of the branch merge: what it leaves in the result's block and in the scratch, as functions of the
  blocks it reads.
-/
module

public import proofs.«01_k».proof.Proof.Gen.MergeIdeal.Value
public import Idealize.ShloMosaic.Lib.Pipeline.ValueKit.Geometry
public import Idealize.ShloMosaic.Lib.MatmulPlain
public import Idealize.ShloMosaic.Lib.KernelVsHost

@[expose] public section

set_option maxRecDepth 65536

noncomputable section

namespace Cert.MergeIdeal.Merge

open Cert.MergeIdeal Cert.MergeIdeal.Gen Idealize.ShloMosaic Idealize.ShloMosaic.TcCoe Idealize.ShloMosaic.ValueIdx

section Pieces
variable {F : FTy → Type} [FloatOps F]

theorem off2 : (![0, 0] : Fin 2 → Nat) = fun _ => 0 := by decide
theorem off3 : (![0, 0, 0] : Fin 3 → Nat) = fun _ => 0 := by decide

/-- The convolved branch of a row tile: what the first column's point leaves in the scratch. -/
def conv (x1 x2 : Vec F S512x2048 .bf16) (x3 x4 : Vec F S16x2048 .bf16) (x5 x6 : Vec F S512x1 .f32) (x7 : Vec F S1x3x2048 .f32) :
    FVec F S512x2048 .bf16 :=
  k0_pay1 (k0_pay3 x2)
    (k0_pay4 x2 (View.ld x4 (Rect.unit (s := S16x2048) ![0, 0] S1x2048.size inb_S16x2048_S1x2048_0_0)) x6)
    (k0_pay5 x2 (View.ld x3 (Rect.unit (s := S16x2048) ![15, 0] S1x2048.size inb_S16x2048_S1x2048_15_0)) x5
      (View.ld x7 (Rect.unit (s := S1x3x2048) ![0, 0, 0] S1x1x2048.size inb_S1x3x2048_S1x1x2048_0_0_0)))
    (k0_pay6 (View.ld x7 (Rect.unit (s := S1x3x2048) ![0, 1, 0] S1x1x2048.size inb_S1x3x2048_S1x1x2048_0_1_0)))
    (View.ld x7 (Rect.unit (s := S1x3x2048) ![0, 2, 0] S1x1x2048.size inb_S1x3x2048_S1x1x2048_0_2_0)) x1

theorem scratch_pieces (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S16x2048 .bf16) (harg5 : arg5.IsWhole) (arg6 : Memref sig .tc .vmem S16x2048 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S1x3x2048 .f32) (harg9 : arg9.IsWhole) (arg10 : Memref sig .tc .vmem S1x2048x512 .bf16) (harg10 : arg10.IsWhole) (arg11 : Memref sig .tc .vmem S1x2048x512 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x512 .bf16) (harg14 : arg14.IsWhole) (arg15 : Memref sig .tc .vmem S512x2048 .bf16) (harg15 : arg15.IsWhole) (hc0 : cond0_0 i)
    (x0 : Vec F S512x2048 .bf16) (x1 : Vec F S512x2048 .bf16) (x2 : Vec F S512x2048 .bf16) (x3 : Vec F S16x2048 .bf16) (x4 : Vec F S16x2048 .bf16) (x5 : Vec F S512x1 .f32) (x6 : Vec F S512x1 .f32) (x7 : Vec F S1x3x2048 .f32) (x8 : Vec F S1x2048x512 .bf16) (x9 : Vec F S1x2048x512 .bf16) (x10 : Vec F S512x512 .bf16) (x11 : Vec F S512x512 .bf16) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11).2.1
      = [⟨Rect.unit (s := S512x2048) ![0, 0] S512x2048.size inb_S512x2048_S512x2048_0_0, conv x1 x2 x3 x4 x5 x6 x7⟩] := by
  unfold kernelRun0_A conv
  dsimp only
  sl_unfold_run_names
  simp (disch := decide) only [View.readAt_eq_ld, Memref.IsWhole.read_unread,
    View.ld_unit_zero (S := S512x2048) (Val := Elt F) (e := .bf16) off2, View.ld_unit_zero (S := S512x1) (Val := Elt F) (e := .f32) off2]

theorem out_pieces_A (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S16x2048 .bf16) (harg5 : arg5.IsWhole) (arg6 : Memref sig .tc .vmem S16x2048 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S1x3x2048 .f32) (harg9 : arg9.IsWhole) (arg10 : Memref sig .tc .vmem S1x2048x512 .bf16) (harg10 : arg10.IsWhole) (arg11 : Memref sig .tc .vmem S1x2048x512 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x512 .bf16) (harg14 : arg14.IsWhole) (arg15 : Memref sig .tc .vmem S512x2048 .bf16) (harg15 : arg15.IsWhole) (hc0 : cond0_0 i)
    (x0 : Vec F S512x2048 .bf16) (x1 : Vec F S512x2048 .bf16) (x2 : Vec F S512x2048 .bf16) (x3 : Vec F S16x2048 .bf16) (x4 : Vec F S16x2048 .bf16) (x5 : Vec F S512x1 .f32) (x6 : Vec F S512x1 .f32) (x7 : Vec F S1x3x2048 .f32) (x8 : Vec F S1x2048x512 .bf16) (x9 : Vec F S1x2048x512 .bf16) (x10 : Vec F S512x512 .bf16) (x11 : Vec F S512x512 .bf16) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11).1
      = [⟨Rect.unit (s := S512x512) ![0, 0] S512x512.size inb_S512x512_S512x512_0_0, k0_pay2 x0 x8 (conv x1 x2 x3 x4 x5 x6 x7) x9 x10 x11⟩] := by
  unfold kernelRun0_A conv
  dsimp only
  sl_unfold_run_names
  simp (disch := decide) only [View.readAt_eq_ld, Memref.IsWhole.read_unread,
    View.ld_unit_zero (S := S512x2048) (Val := Elt F) (e := .bf16) off2, View.ld_unit_zero (S := S512x1) (Val := Elt F) (e := .f32) off2,
    View.ld_unit_zero (S := S512x512) (Val := Elt F) (e := .bf16) off2, View.ld_unit_zero (S := S1x2048x512) (Val := Elt F) (e := .bf16) off3]
  exact congrArg (fun z => [(⟨Rect.unit (s := S512x512) ![0, 0] S512x512.size inb_S512x512_S512x512_0_0, k0_pay2 x0 x8 z x9 x10 x11⟩ :
    View.Piece (Elt F) S512x512 .bf16)]) (View.readCov_unit_zero (S := S512x2048) (Val := Elt F) (e := .bf16) arg15.view off2 _ _)

theorem out_pieces_B (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S16x2048 .bf16) (harg5 : arg5.IsWhole) (arg6 : Memref sig .tc .vmem S16x2048 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S1x3x2048 .f32) (harg9 : arg9.IsWhole) (arg10 : Memref sig .tc .vmem S1x2048x512 .bf16) (harg10 : arg10.IsWhole) (arg11 : Memref sig .tc .vmem S1x2048x512 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x512 .bf16) (harg14 : arg14.IsWhole) (arg15 : Memref sig .tc .vmem S512x2048 .bf16) (harg15 : arg15.IsWhole) (hc0 : ¬cond0_0 i)
    (x0 : Vec F S512x2048 .bf16) (x1 : Vec F S512x2048 .bf16) (x2 : Vec F S512x2048 .bf16) (x3 : Vec F S16x2048 .bf16) (x4 : Vec F S16x2048 .bf16) (x5 : Vec F S512x1 .f32) (x6 : Vec F S512x1 .f32) (x7 : Vec F S1x3x2048 .f32) (x8 : Vec F S1x2048x512 .bf16) (x9 : Vec F S1x2048x512 .bf16) (x10 : Vec F S512x512 .bf16) (x11 : Vec F S512x512 .bf16) (xs0 : Vec F S512x2048 .bf16) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 xs0).1
      = [⟨Rect.unit (s := S512x512) ![0, 0] S512x512.size inb_S512x512_S512x512_0_0, k0_pay2 x0 x8 xs0 x9 x10 x11⟩] := by
  unfold kernelRun0_B
  dsimp only
  sl_unfold_run_names
  simp (disch := decide) only [View.readAt_eq_ld, Memref.IsWhole.read_unread,
    View.ld_unit_zero (S := S512x2048) (Val := Elt F) (e := .bf16) off2,
    View.ld_unit_zero (S := S512x512) (Val := Elt F) (e := .bf16) off2, View.ld_unit_zero (S := S1x2048x512) (Val := Elt F) (e := .bf16) off3]

/-- What the first column's point leaves in the scratch. -/
theorem scratch_eq (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S16x2048 .bf16) (harg5 : arg5.IsWhole) (arg6 : Memref sig .tc .vmem S16x2048 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S1x3x2048 .f32) (harg9 : arg9.IsWhole) (arg10 : Memref sig .tc .vmem S1x2048x512 .bf16) (harg10 : arg10.IsWhole) (arg11 : Memref sig .tc .vmem S1x2048x512 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x512 .bf16) (harg14 : arg14.IsWhole) (arg15 : Memref sig .tc .vmem S512x2048 .bf16) (harg15 : arg15.IsWhole) (hc0 : cond0_0 i)
    (x0 : Vec F S512x2048 .bf16) (x1 : Vec F S512x2048 .bf16) (x2 : Vec F S512x2048 .bf16) (x3 : Vec F S16x2048 .bf16) (x4 : Vec F S16x2048 .bf16) (x5 : Vec F S512x1 .f32) (x6 : Vec F S512x1 .f32) (x7 : Vec F S1x3x2048 .f32) (x8 : Vec F S1x2048x512 .bf16) (x9 : Vec F S1x2048x512 .bf16) (x10 : Vec F S512x512 .bf16) (x11 : Vec F S512x512 .bf16) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 = conv x1 x2 x3 x4 x5 x6 x7 := by
  unfold sout0_A_0
  rw [scratch_pieces, View.read_writes_junk_eq_canon]
  exact View.canon_unit_zero (S := S512x2048) (Val := Elt F) (e := .bf16) off2 _ _

/-- What it leaves in the result's block. -/
theorem out_eq_A (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S16x2048 .bf16) (harg5 : arg5.IsWhole) (arg6 : Memref sig .tc .vmem S16x2048 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S1x3x2048 .f32) (harg9 : arg9.IsWhole) (arg10 : Memref sig .tc .vmem S1x2048x512 .bf16) (harg10 : arg10.IsWhole) (arg11 : Memref sig .tc .vmem S1x2048x512 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x512 .bf16) (harg14 : arg14.IsWhole) (arg15 : Memref sig .tc .vmem S512x2048 .bf16) (harg15 : arg15.IsWhole) (hc0 : cond0_0 i)
    (x0 : Vec F S512x2048 .bf16) (x1 : Vec F S512x2048 .bf16) (x2 : Vec F S512x2048 .bf16) (x3 : Vec F S16x2048 .bf16) (x4 : Vec F S16x2048 .bf16) (x5 : Vec F S512x1 .f32) (x6 : Vec F S512x1 .f32) (x7 : Vec F S1x3x2048 .f32) (x8 : Vec F S1x2048x512 .bf16) (x9 : Vec F S1x2048x512 .bf16) (x10 : Vec F S512x512 .bf16) (x11 : Vec F S512x512 .bf16) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 = k0_pay2 x0 x8 (conv x1 x2 x3 x4 x5 x6 x7) x9 x10 x11 := by
  unfold out0_A_12
  rw [out_pieces_A, View.read_writes_junk_eq_canon]
  exact View.canon_unit_zero (S := S512x512) (Val := Elt F) (e := .bf16) off2 _ _

/-- What a later column's point leaves in the result's block, over the scratch. -/
theorem out_eq_B (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S16x2048 .bf16) (harg5 : arg5.IsWhole) (arg6 : Memref sig .tc .vmem S16x2048 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S1x3x2048 .f32) (harg9 : arg9.IsWhole) (arg10 : Memref sig .tc .vmem S1x2048x512 .bf16) (harg10 : arg10.IsWhole) (arg11 : Memref sig .tc .vmem S1x2048x512 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x512 .bf16) (harg14 : arg14.IsWhole) (arg15 : Memref sig .tc .vmem S512x2048 .bf16) (harg15 : arg15.IsWhole) (hc0 : ¬cond0_0 i)
    (x0 : Vec F S512x2048 .bf16) (x1 : Vec F S512x2048 .bf16) (x2 : Vec F S512x2048 .bf16) (x3 : Vec F S16x2048 .bf16) (x4 : Vec F S16x2048 .bf16) (x5 : Vec F S512x1 .f32) (x6 : Vec F S512x1 .f32) (x7 : Vec F S1x3x2048 .f32) (x8 : Vec F S1x2048x512 .bf16) (x9 : Vec F S1x2048x512 .bf16) (x10 : Vec F S512x512 .bf16) (x11 : Vec F S512x512 .bf16) (xs0 : Vec F S512x2048 .bf16) :
    out0_B_12 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 xs0 = k0_pay2 x0 x8 xs0 x9 x10 x11 := by
  unfold out0_B_12
  rw [out_pieces_B, View.read_writes_junk_eq_canon]
  exact View.canon_unit_zero (S := S512x512) (Val := Elt F) (e := .bf16) off2 _ _

end Pieces

/-! ## The entries -/

/-- One entry of a result block: the two branches' products, each times its gate. -/
theorem pay2_apply (x0 : Vec Ideal S512x2048 .bf16) (x8 : Vec Ideal S1x2048x512 .bf16) (ys : Vec Ideal S512x2048 .bf16)
    (x9 : Vec Ideal S1x2048x512 .bf16) (x10 x11 : Vec Ideal S512x512 .bf16) (p : Fin 512) (q : Fin 512) :
    k0_pay2 x0 x8 ys x9 x10 x11 (ix2 p q)
      = (x10 (ix2 p q) * (∑ e : Fin 2048, x0 (ix2 p e) * x8 (ix3 (0 : Fin 1) e q))
        + x11 (ix2 p q) * (∑ e : Fin 2048, ys (ix2 p e) * x9 (ix3 (0 : Fin 1) e q)) : EReal) := by
  have hw : ∀ (w : Vec Ideal S1x2048x512 .bf16) (e : Fin 2048),
      shapeCast S2048x512 w shapeCasts_S1x2048x512_S2048x512 (ix2 e q) = w (ix3 (0 : Fin 1) e q) := fun w e => by
    rw [shapeCast_dropUnit_apply]
    exact congrArg w (funext fun a => Fin.ext (by match a with | ⟨0, _⟩ => rfl | ⟨1, _⟩ => rfl | ⟨2, _⟩ => rfl))
  have hm : ∀ (x : Vec Ideal S512x2048 .bf16) (w : Vec Ideal S1x2048x512 .bf16),
      (matmul dot_S512x2048_S2048x512_S512x512_1_0_0_1_n_n none x (shapeCast S2048x512 w shapeCasts_S1x2048x512_S2048x512)
        (constant (F := Ideal) S512x512 .f32 0x00000000#32) : Vec Ideal S512x512 .f32) (ix2 p q)
        = (∑ e : Fin 2048, x (ix2 p e) * w (ix3 (0 : Fin 1) e q) : EReal) := fun x w => by
    refine (Ideal.matmul_plain_apply none _ _ _ p q).trans ?_
    rw [constant_apply, Ideal.ofBits_zero_f32, zero_add]
    exact Finset.sum_congr rfl fun e _ => congrArg (x (ix2 p e) * ·) (hw w e)
  unfold k0_pay2
  rw [shapeCast_self, shapeCast_self, shapeCast_self]
  exact congrArg₂ (· + ·) (congrArg (x10 (ix2 p q) * ·) (hm x0 x8)) (congrArg (x11 (ix2 p q) * ·) (hm ys x9))

/-- The row before row `p` of a tile: the tile's own, or the last of the block before it. -/
def before (x2 : Vec Ideal S512x2048 .bf16) (x3 : Vec Ideal S16x2048 .bf16) (p : Fin 512) (k : Fin 2048) : EReal :=
  if p.val = 0 then x3 (ix2 (15 : Fin 16) k) else x2 (ix2 (⟨p.val - 1, by omega⟩ : Fin 512) k)

/-- The row after row `p` of a tile: the tile's own, or the first of the block after it. -/
def next (x2 : Vec Ideal S512x2048 .bf16) (x4 : Vec Ideal S16x2048 .bf16) (p : Fin 512) (k : Fin 2048) : EReal :=
  if h : p.val = 511 then x4 (ix2 (0 : Fin 16) k) else x2 (ix2 (⟨p.val + 1, by omega⟩ : Fin 512) k)

theorem mask_first : ∀ p : Fin 512, IntOp.cmpi .eq (BitVec.ofNat 32 (0 * 512 + p.val)) 0#32 = if p.val = 0 then 1#1 else 0#1 := by
  decide +kernel
theorem mask_last : ∀ p : Fin 512, IntOp.cmpi .eq (BitVec.ofNat 32 (0 * 512 + p.val)) 511#32 = if p.val = 511 then 1#1 else 0#1 := by
  decide +kernel

section Spread
variable {α : Type}

/-- A column spread over the row's entries. -/
theorem col_apply (x : S512x1.Idx → α) (p : Fin 512) (k : Fin 2048) :
    broadcastTo S512x2048 x broadcasts_S512x1_S512x2048 (ix2 p k) = x (ix2 p (0 : Fin 1)) :=
  broadcastTo_apply (s := S512x1) (t := S512x2048) _ _ _ (ix2 p (0 : Fin 1) : S512x1.Idx) (fun a => by
    match a with | ⟨0, _⟩ => rfl | ⟨1, _⟩ => rfl)

/-- A row spread over the rows. -/
theorem row_apply (x : S1x2048.Idx → α) (p : Fin 512) (k : Fin 2048) :
    broadcastTo S512x2048 x broadcasts_S1x2048_S512x2048 (ix2 p k) = x (ix2 (0 : Fin 1) k) :=
  broadcastTo_apply (s := S1x2048) (t := S512x2048) _ _ _ (ix2 (0 : Fin 1) k : S1x2048.Idx) (fun a => by
    match a with | ⟨0, _⟩ => rfl | ⟨1, _⟩ => rfl)

theorem drop_apply (x : S1x1x2048.Idx → α) (k : Fin 2048) :
    shapeCast S1x2048 x shapeCasts_S1x1x2048_S1x2048 (ix2 (0 : Fin 1) k) = x (ix3 (0 : Fin 1) (0 : Fin 1) k) := by
  rw [shapeCast_dropUnit_apply]
  exact congrArg x (funext fun a => Fin.ext (by match a with | ⟨0, _⟩ => rfl | ⟨1, _⟩ => rfl | ⟨2, _⟩ => rfl))

/-- The first row swapped for another, the rest the rows before. -/
theorem before_apply (x : S512x2048.Idx → α) (y : S1x2048.Idx → α) (p : Fin 512) (k : Fin 2048) :
    select (broadcastTo S512x2048 (cmpi .eq (iota .tc S512x1 32 [0] iota_S512x1_d0_w32) (broadcast S512x1 0#32)) broadcasts_S512x1_S512x2048)
      (broadcastTo S512x2048 y broadcasts_S1x2048_S512x2048) (dynamicRotate 0 1#32 none x rotates_S512x2048_d0) (ix2 p k)
      = if p.val = 0 then y (ix2 (0 : Fin 1) k) else x (ix2 (⟨p.val - 1, by omega⟩ : Fin 512) k) := by
  rw [select_apply, row_apply, col_apply]
  refine (congrArg (fun z => Scalar.select z _ _) (mask_first p)).trans ?_
  split
  · exact select_one _ _
  · rename_i h
    refine (select_zero _ _).trans (dynamicRotate_apply (s := S512x2048) 0 1#32 x rotates_S512x2048_d0 _ _ fun b => ?_)
    match b with
    | ⟨0, _⟩ => show p.val - 1 = (p.val + 512 - 1) % 512; omega
    | ⟨1, _⟩ => rfl

/-- The last row swapped for another, the rest the rows after. -/
theorem next_apply (x : S512x2048.Idx → α) (y : S1x2048.Idx → α) (p : Fin 512) (k : Fin 2048) :
    select (broadcastTo S512x2048 (cmpi .eq (iota .tc S512x1 32 [0] iota_S512x1_d0_w32) (broadcast S512x1 511#32)) broadcasts_S512x1_S512x2048)
      (broadcastTo S512x2048 y broadcasts_S1x2048_S512x2048) (dynamicRotate 0 511#32 none x rotates_S512x2048_d0) (ix2 p k)
      = if h : p.val = 511 then y (ix2 (0 : Fin 1) k) else x (ix2 (⟨p.val + 1, by omega⟩ : Fin 512) k) := by
  rw [select_apply, row_apply, col_apply]
  refine (congrArg (fun z => Scalar.select z _ _) (mask_last p)).trans ?_
  by_cases h : p.val = 511
  · rw [if_pos h, dif_pos h]; exact select_one _ _
  · rw [if_neg h, dif_neg h]
    refine (select_zero _ _).trans (dynamicRotate_apply (s := S512x2048) 0 511#32 x rotates_S512x2048_d0 _ _ fun b => ?_)
    match b with
    | ⟨0, _⟩ => show p.val + 1 = (p.val + 512 - 511) % 512; omega
    | ⟨1, _⟩ => rfl

end Spread

theorem pay3_apply (x2 : Vec Ideal S512x2048 .bf16) (y : S512x2048.Idx) : k0_pay3 x2 y = x2 y := by
  unfold k0_pay3
  rw [shapeCast_self]
  rfl

/-- One entry of the convolved branch: `b` times the three taps over the rows before, at and after. -/
theorem conv_apply (x1 x2 : Vec Ideal S512x2048 .bf16) (x3 x4 : Vec Ideal S16x2048 .bf16) (x5 x6 : Vec Ideal S512x1 .f32)
    (x7 : Vec Ideal S1x3x2048 .f32) (p : Fin 512) (k : Fin 2048) :
    conv x1 x2 x3 x4 x5 x6 x7 (ix2 p k)
      = (x1 (ix2 p k) * ((x7 (ix3 (0 : Fin 1) (0 : Fin 3) k) * (before x2 x3 p k * x5 (ix2 p (0 : Fin 1)))
          + x7 (ix3 (0 : Fin 1) (1 : Fin 3) k) * x2 (ix2 p k))
        + x7 (ix3 (0 : Fin 1) (2 : Fin 3) k) * (next x2 x4 p k * x6 (ix2 p (0 : Fin 1)))) : EReal) := by
  unfold conv k0_pay1 k0_pay4 k0_pay5 k0_pay6 before next
  simp only [shapeCast_self]
  refine congrArg (x1 (ix2 p k) * ·) (congrArg₂ (· + ·) (congrArg₂ (· + ·) (congrArg₂ (· * ·) ?_ (congrArg₂ (· * ·) ?_ ?_))
    (congrArg₂ (· * ·) ?_ (pay3_apply _ _))) (congrArg₂ (· * ·) ?_ (congrArg₂ (· * ·) ?_ ?_)))
  · refine (row_apply _ p k).trans ((drop_apply _ k).trans (congrArg x7 (funext fun a => Fin.ext ?_)))
    match a with | ⟨0, _⟩ => rfl | ⟨1, _⟩ => rfl | ⟨2, _⟩ => show 0 + 1 * k.val = k.val; omega
  · refine (before_apply _ _ p k).trans ?_
    split
    · refine congrArg x3 (funext fun a => Fin.ext ?_)
      match a with | ⟨0, _⟩ => rfl | ⟨1, _⟩ => show 0 + 1 * k.val = k.val; omega
    · exact pay3_apply _ _
  · exact col_apply x5 p k
  · refine (row_apply _ p k).trans ((drop_apply _ k).trans (congrArg x7 (funext fun a => Fin.ext ?_)))
    match a with | ⟨0, _⟩ => rfl | ⟨1, _⟩ => rfl | ⟨2, _⟩ => show 0 + 1 * k.val = k.val; omega
  · refine (row_apply _ p k).trans ((drop_apply _ k).trans (congrArg x7 (funext fun a => Fin.ext ?_)))
    match a with | ⟨0, _⟩ => rfl | ⟨1, _⟩ => rfl | ⟨2, _⟩ => show 0 + 1 * k.val = k.val; omega
  · refine (next_apply _ _ p k).trans ?_
    split
    · refine congrArg x4 (funext fun a => Fin.ext ?_)
      match a with | ⟨0, _⟩ => rfl | ⟨1, _⟩ => show 0 + 1 * k.val = k.val; omega
    · exact pay3_apply _ _
  · exact col_apply x6 p k

end Cert.MergeIdeal.Merge

end
-- ==== Proof.Rows.lean ====
/-
  The rows of the latents and of the context of all sequences, one after another: the layout in which the calls pass
  their activations.
-/
module

public import Idealize.ShloMosaic.Lib.ValueIdx
public import Idealize.ShloMosaic.Lib.Pipeline.Value
public import Idealize.ShloMosaic.PureOps.Ideal.Laws

@[expose] public section

set_option maxRecDepth 16384

namespace Cert.Rows

open Idealize.ShloMosaic Idealize.ShloMosaic.ValueIdx

abbrev Lat : Shape := ⟨3, ![4, 4096, 2048]⟩
abbrev Ctx : Shape := ⟨3, ![4, 256, 2048]⟩
abbrev LatRows : Shape := ⟨2, ![16384, 2048]⟩
abbrev CtxRows : Shape := ⟨2, ![1024, 2048]⟩
abbrev All : Shape := ⟨2, ![17408, 2048]⟩

variable {α : Type}

/-- Row `r` of the joined rows: the latents of the four sequences, then their context. -/
def joined (lat : Lat.Idx → α) (ctx : Ctx.Idx → α) (r : Fin 17408) (k : Fin 2048) : α :=
  if h : r.val < 16384 then lat (ix3 (⟨r.val / 4096, by omega⟩ : Fin 4) (⟨r.val % 4096, by omega⟩ : Fin 4096) k)
  else ctx (ix3 (⟨(r.val - 16384) / 256, by omega⟩ : Fin 4) (⟨(r.val - 16384) % 256, by omega⟩ : Fin 256) k)

theorem joined_lat (lat : Lat.Idx → α) (ctx : Ctx.Idx → α) (r : Fin 17408) (k : Fin 2048) (h : r.val < 16384) :
    joined lat ctx r k = lat (ix3 (⟨r.val / 4096, by omega⟩ : Fin 4) (⟨r.val % 4096, by omega⟩ : Fin 4096) k) := dif_pos h

theorem joined_ctx (lat : Lat.Idx → α) (ctx : Ctx.Idx → α) (r : Fin 17408) (k : Fin 2048) (h : ¬ r.val < 16384) :
    joined lat ctx r k = ctx (ix3 (⟨(r.val - 16384) / 256, by omega⟩ : Fin 4) (⟨(r.val - 16384) % 256, by omega⟩ : Fin 256) k) :=
  dif_neg h

/-- The rows joined by the host. -/
theorem concat_apply (lat : Lat.Idx → α) (ctx : Ctx.Idx → α) (h1 : Shape.ShapeCasts Lat LatRows) (h2 : Shape.ShapeCasts Ctx CtxRows)
    (h : Shape.Concatenates [LatRows, CtxRows] All 0) (r : Fin 17408) (k : Fin 2048) :
    concatenate All 0 [⟨LatRows, shapeCast LatRows lat h1⟩, ⟨CtxRows, shapeCast CtxRows ctx h2⟩] h (ix2 r k) = joined lat ctx r k := by
  by_cases hr : r.val < 16384
  · rw [joined_lat _ _ _ _ hr]
    refine (concatenate_pair_apply_left (t := All) (s₁ := LatRows) (s₂ := CtxRows) 0 _ _ _ _ rfl (ix2 (⟨r.val, hr⟩ : Fin 16384) k : LatRows.Idx) (fun a => by
      match a with | ⟨0, _⟩ => rfl | ⟨1, _⟩ => rfl)).trans ?_
    refine shapeCast_apply _ _ _ _ ?_
    rw [Shape.rowMajor_val_three, Shape.rowMajor_val_two]
    show (r.val / 4096 * 4096 + r.val % 4096) * 2048 + k.val = r.val * 2048 + k.val
    omega
  · rw [joined_ctx _ _ _ _ hr]
    refine (concatenate_pair_apply_right (t := All) (s₁ := LatRows) (s₂ := CtxRows) 0 _ _ _ _ rfl rfl (ix2 (⟨r.val - 16384, by omega⟩ : Fin 1024) k : CtxRows.Idx) (fun a ha => by
      match a, ha with | ⟨0, _⟩, ha => exact absurd rfl ha | ⟨1, _⟩, _ => rfl) (by show r.val - 16384 + 16384 = r.val; omega)).trans ?_
    refine shapeCast_apply _ _ _ _ ?_
    rw [Shape.rowMajor_val_three, Shape.rowMajor_val_two]
    show ((r.val - 16384) / 256 * 256 + (r.val - 16384) % 256) * 2048 + k.val = (r.val - 16384) * 2048 + k.val
    omega

end Cert.Rows

end
-- ==== Proof.MergeHost.lean ====
/-
  What the host prepares for the branch merge, at an index: the joined rows, the gates, and for each row whether it is
  the first or the last of its sequence.
-/
module

public import proofs.«01_k».proof.Proof.MergeBlock
public import proofs.«01_k».proof.Proof.Rows

@[expose] public section

set_option maxRecDepth 16384

noncomputable section

namespace Cert.MergeIdeal.Merge

open Cert.MergeIdeal Cert.MergeIdeal.Gen Idealize.ShloMosaic Idealize.ShloMosaic.TcCoe Idealize.ShloMosaic.ValueIdx
open Cert.Rows

/-! ## A row's place in its sequence -/

/-- A row's position in its sequence. -/
def place (r : Nat) : Nat := if r < 16384 then r % 4096 else (r - 16384) % 256

/-- The length of a row's sequence. -/
def len (r : Nat) : Nat := if r < 16384 then 4096 else 256

/-- Two vectors joined, at an entry. -/
theorem concat1_apply {α : Type} (x : S16384.Idx → α) (y : S1024.Idx → α) (r : Fin 17408) :
    concatenate S17408 0 [⟨S16384, x⟩, ⟨S1024, y⟩] concatenates_S16384_S1024_S17408_d0 (ix1 r)
      = if h : r.val < 16384 then x (ix1 (⟨r.val, h⟩ : Fin 16384)) else y (ix1 (⟨r.val - 16384, by omega⟩ : Fin 1024)) := by
  split
  · rename_i h
    exact concatenate_pair_apply_left (t := S17408) (s₁ := S16384) (s₂ := S1024) 0 _ _ _ _ rfl (ix1 (⟨r.val, h⟩ : Fin 16384) : S16384.Idx) (fun a => by
      match a with | ⟨0, _⟩ => rfl)
  · rename_i h
    exact concatenate_pair_apply_right (t := S17408) (s₁ := S16384) (s₂ := S1024) 0 _ _ _ _ rfl rfl (ix1 (⟨r.val - 16384, by omega⟩ : Fin 1024) : S1024.Idx)
      (fun a ha => by match a, ha with | ⟨0, _⟩, ha => exact absurd rfl ha) (by show r.val - 16384 + 16384 = r.val; omega)

/-- The positions: the sequences' counts, then the context's. -/
def places : IVec S17408 32 :=
  concatenate S17408 0 [⟨S16384, shapeCast S16384 (broadcastInDim S4x4096 ![0, 1] bcast_S1x4096_S4x4096_0_1
      (shapeCast S1x4096 (iotaInDim S4096 32 0) shapeCasts_S4096_S1x4096)) shapeCasts_S4x4096_S16384⟩,
    ⟨S1024, shapeCast S1024 (broadcastInDim S4x256 ![0, 1] bcast_S1x256_S4x256_0_1
      (shapeCast S1x256 (iotaInDim S256 32 0) shapeCasts_S256_S1x256)) shapeCasts_S4x256_S1024⟩] concatenates_S16384_S1024_S17408_d0

theorem places_apply (r : Fin 17408) : places (ix1 r) = BitVec.ofNat 32 (place r.val) := by
  unfold places place
  rw [concat1_apply]
  by_cases h : r.val < 16384
  · rw [dif_pos h, if_pos h]
    refine (shapeCast_apply _ _ _ (ix2 (⟨r.val / 4096, by omega⟩ : Fin 4) (⟨r.val % 4096, by omega⟩ : Fin 4096) : S4x4096.Idx) ?_).trans ?_
    · rw [Shape.rowMajor_val_two, Shape.rowMajor_val_one]
      show r.val / 4096 * 4096 + r.val % 4096 = r.val
      omega
    refine (broadcastInDim_apply _ bcast_S1x4096_S4x4096_0_1 _ _ (ix2 (0 : Fin 1) (⟨r.val % 4096, by omega⟩ : Fin 4096)) (fun a => match a with
      | ⟨0, _⟩ => rfl | ⟨1, _⟩ => rfl)).trans ?_
    refine (shapeCast_apply _ _ _ (ix1 (⟨r.val % 4096, by omega⟩ : Fin 4096) : S4096.Idx) ?_).trans rfl
    rw [Shape.rowMajor_val_two, Shape.rowMajor_val_one]
    show r.val % 4096 = 0 * 4096 + r.val % 4096
    omega
  · rw [dif_neg h, if_neg h]
    refine (shapeCast_apply _ _ _ (ix2 (⟨(r.val - 16384) / 256, by omega⟩ : Fin 4) (⟨(r.val - 16384) % 256, by omega⟩ : Fin 256) : S4x256.Idx) ?_).trans ?_
    · rw [Shape.rowMajor_val_two, Shape.rowMajor_val_one]
      show (r.val - 16384) / 256 * 256 + (r.val - 16384) % 256 = r.val - 16384
      omega
    refine (broadcastInDim_apply _ bcast_S1x256_S4x256_0_1 _ _ (ix2 (0 : Fin 1) (⟨(r.val - 16384) % 256, by omega⟩ : Fin 256)) (fun a => match a with
      | ⟨0, _⟩ => rfl | ⟨1, _⟩ => by show _ = if (256 : Nat) = 1 then 0 else _; rw [if_neg (by decide)]; rfl)).trans ?_
    refine (shapeCast_apply _ _ _ (ix1 (⟨(r.val - 16384) % 256, by omega⟩ : Fin 256) : S256.Idx) ?_).trans rfl
    rw [Shape.rowMajor_val_two, Shape.rowMajor_val_one]
    show (r.val - 16384) % 256 = 0 * 256 + (r.val - 16384) % 256
    omega

/-- The positions' ends: each sequence's length, minus one. -/
def ends : IVec S17408 32 :=
  subi (concatenate S17408 0 [⟨S16384, broadcastInDim S16384 ![] bcast_S_S16384 (constantI S_ 32 4096#32)⟩,
    ⟨S1024, broadcastInDim S1024 ![] bcast_S_S1024 (constantI S_ 32 256#32)⟩] concatenates_S16384_S1024_S17408_d0)
    (broadcastInDim S17408 ![] bcast_S_S17408 (constantI S_ 32 1#32))

theorem ends_apply (r : Fin 17408) : ends (ix1 r) = BitVec.ofNat 32 (len r.val - 1) := by
  unfold ends len
  refine (congrArg₂ IntOp.subi (concat1_apply _ _ r) rfl).trans ?_
  by_cases h : r.val < 16384
  · rw [dif_pos h, if_pos h]; exact (by decide : IntOp.subi 4096#32 1#32 = BitVec.ofNat 32 (4096 - 1))
  · rw [dif_neg h, if_neg h]; exact (by decide : IntOp.subi 256#32 1#32 = BitVec.ofNat 32 (256 - 1))

theorem first_word : ∀ n : Fin 4096, IntOp.cmpi .ne (BitVec.ofNat 32 n.val) 0#32 = if n.val = 0 then 0#1 else 1#1 := by decide +kernel
theorem last_word : ∀ n : Fin 4096, IntOp.cmpi .ne (BitVec.ofNat 32 n.val) 4095#32 = if n.val = 4095 then 0#1 else 1#1 := by decide +kernel
theorem last_word_ctx : ∀ n : Fin 4096, IntOp.cmpi .ne (BitVec.ofNat 32 n.val) 255#32 = if n.val = 255 then 0#1 else 1#1 := by decide +kernel

theorem place_lt (r : Fin 17408) : place r.val < 4096 := by unfold place; split <;> omega

/-- A truth value as a number. -/
theorem bit_apply (p : Prop) [Decidable p] :
    (FloatOps.uitofp (F := Ideal) .f32 (if p then 0#1 else 1#1) : EReal) = if p then 0 else 1 := by
  split
  · exact (congrArg (fun n : ℕ => ((n : ℝ) : EReal)) (by decide : (0#1).toNat = 0)).trans (by simp)
  · exact (congrArg (fun n : ℕ => ((n : ℝ) : EReal)) (by decide : (1#1).toNat = 1)).trans (by simp)

/-! ## The arrays -/

variable (m : (ℓ : Loc nD τ sig) → Buf (Elt Ideal) ℓ)

/-- Zero at the first row of a sequence, one elsewhere. -/
theorem V_first (c : Dev nD) (r : Fin 17408) :
    V m c main_v15 (ix2 r (0 : Fin 1)) = (if place r.val = 0 then 0 else 1 : EReal) := by
  have e : V m c main_v15 = broadcastInDim S17408x1 ![0] bcast_S17408_S17408x1_0 (uitofp (F := Ideal) .f32
      (cmpi .ne places (broadcastInDim S17408 ![] bcast_S_S17408 (constantI S_ 32 0#32)))) := by
    unfold V places; after_results; rfl
  rw [e]
  refine (broadcastInDim_apply _ bcast_S17408_S17408x1_0 _ _ (ix1 r) (fun a => match a with | ⟨0, _⟩ => rfl)).trans ?_
  refine (congrArg (FloatOps.uitofp (F := Ideal) .f32) ((congrArg (IntOp.cmpi .ne · 0#32) (places_apply r)).trans (first_word ⟨place r.val, place_lt r⟩))).trans ?_
  exact bit_apply _

/-- Zero at the last row of a sequence, one elsewhere. -/
theorem V_last (c : Dev nD) (r : Fin 17408) :
    V m c main_v21 (ix2 r (0 : Fin 1)) = (if place r.val + 1 = len r.val then 0 else 1 : EReal) := by
  have e : V m c main_v21 = broadcastInDim S17408x1 ![0] bcast_S17408_S17408x1_0 (uitofp (F := Ideal) .f32 (cmpi .ne places ends)) := by
    unfold V places ends; after_results; rfl
  have hw : IntOp.cmpi .ne (places (ix1 r)) (ends (ix1 r)) = if place r.val + 1 = len r.val then 0#1 else 1#1 := by
    rw [places_apply, ends_apply]
    by_cases h : r.val < 16384
    · have hl : len r.val = 4096 := if_pos h
      rw [hl]
      refine (last_word ⟨place r.val, place_lt r⟩).trans ?_
      exact if_congr (by show place r.val = 4095 ↔ _; omega) rfl rfl
    · have hl : len r.val = 256 := if_neg h
      rw [hl]
      refine (last_word_ctx ⟨place r.val, place_lt r⟩).trans ?_
      exact if_congr (by show place r.val = 255 ↔ _; omega) rfl rfl
  rw [e]
  refine (broadcastInDim_apply _ bcast_S17408_S17408x1_0 _ _ (ix1 r) (fun a => match a with | ⟨0, _⟩ => rfl)).trans ?_
  exact (congrArg (FloatOps.uitofp (F := Ideal) .f32) hw).trans (bit_apply _)

/-- Both parts' rows, joined as the host joins them. -/
def rows (x : Vec Ideal S4x4096x2048 .f32) (y : Vec Ideal S4x256x2048 .f32) : Vec Ideal S17408x2048 .f32 :=
  concatenate S17408x2048 0 [⟨S16384x2048, shapeCast S16384x2048 x shapeCasts_S4x4096x2048_S16384x2048⟩,
    ⟨S1024x2048, shapeCast S1024x2048 y shapeCasts_S4x256x2048_S1024x2048⟩] concatenates_S16384x2048_S1024x2048_S17408x2048_d0

theorem rows_apply (x : Vec Ideal S4x4096x2048 .f32) (y : Vec Ideal S4x256x2048 .f32) (r : Fin 17408) (k : Fin 2048) :
    rows x y (ix2 r k) = joined x y r k :=
  concat_apply _ _ shapeCasts_S4x4096x2048_S16384x2048 shapeCasts_S4x256x2048_S1024x2048 concatenates_S16384x2048_S1024x2048_S17408x2048_d0 r k

/-- The logistic function as the host spells it. -/
def gate (g : EReal) : EReal :=
  FloatOps.hostDivf (F := Ideal) (φ := .f32) (FloatOps.ofBits .f32 0x3F800000#32)
    (FloatOps.addf (F := Ideal) (φ := .f32) (FloatOps.ofBits .f32 0x3F800000#32) (FloatOps.hostUnary (F := Ideal) (φ := .f32) .exp (FloatOps.hostNegf (F := Ideal) (φ := .f32) g)))

/-- A gate array. -/
def gates (x : Vec Ideal S17408x2048 .f32) : Vec Ideal S17408x2048 .f32 :=
  Host.divf (broadcastInDim S17408x2048 ![] bcast_S_S17408x2048 (constant (F := Ideal) S_ .f32 0x3F800000#32))
    (addf (broadcastInDim S17408x2048 ![] bcast_S_S17408x2048 (constant (F := Ideal) S_ .f32 0x3F800000#32)) (Host.exp (Host.negf x)))

theorem gates_apply (x : Vec Ideal S17408x2048 .f32) (y : S17408x2048.Idx) : gates x y = gate (x y) := rfl

theorem V_attn (c : Dev nD) (r : Fin 17408) (k : Fin 2048) : V m c main_v33 (ix2 r k)
    = joined (m ((c : Thread nD τ).loc main_arg0)) (m ((c : Thread nD τ).loc main_arg6)) r k := by
  have e : V m c main_v33 = truncf (F := Ideal) .bf16 (rows (m ((c : Thread nD τ).loc main_arg0)) (m ((c : Thread nD τ).loc main_arg6))) bitsLt_bf16_f32 := by
    unfold V rows; after_results; rfl
  rw [e]
  exact rows_apply _ _ r k

theorem V_b (c : Dev nD) (r : Fin 17408) (k : Fin 2048) : V m c main_v37 (ix2 r k)
    = joined (m ((c : Thread nD τ).loc main_arg1)) (m ((c : Thread nD τ).loc main_arg7)) r k := by
  have e : V m c main_v37 = truncf (F := Ideal) .bf16 (rows (m ((c : Thread nD τ).loc main_arg1)) (m ((c : Thread nD τ).loc main_arg7))) bitsLt_bf16_f32 := by
    unfold V rows; after_results; rfl
  rw [e]
  exact rows_apply _ _ r k

/-- An entry of the convolved branch's input: the product of its two factors. -/
def zAt (cx : Vec Ideal S4x4096x2048 .f32) (cc : Vec Ideal S4x256x2048 .f32) (ux : Vec Ideal S4x4096x2048 .f32) (uc : Vec Ideal S4x256x2048 .f32)
    (r : Fin 17408) (k : Fin 2048) : EReal := joined cx cc r k * joined ux uc r k

theorem V_z (c : Dev nD) (r : Fin 17408) (k : Fin 2048) : V m c main_v29 (ix2 r k)
    = zAt (m ((c : Thread nD τ).loc main_arg2)) (m ((c : Thread nD τ).loc main_arg8)) (m ((c : Thread nD τ).loc main_arg3))
      (m ((c : Thread nD τ).loc main_arg9)) r k := by
  have e : V m c main_v29 = truncf (F := Ideal) .bf16 (mulf (rows (m ((c : Thread nD τ).loc main_arg2)) (m ((c : Thread nD τ).loc main_arg8)))
      (rows (m ((c : Thread nD τ).loc main_arg3)) (m ((c : Thread nD τ).loc main_arg9)))) bitsLt_bf16_f32 := by
    unfold V rows; after_results; rfl
  rw [e]
  exact congrArg₂ (· * ·) (rows_apply _ _ r k) (rows_apply _ _ r k)

theorem V_ga (c : Dev nD) (r : Fin 17408) (k : Fin 2048) : V m c main_v49 (ix2 r k)
    = gate (joined (m ((c : Thread nD τ).loc main_arg4)) (m ((c : Thread nD τ).loc main_arg10)) r k) := by
  have e : V m c main_v49 = truncf (F := Ideal) .bf16 (gates (rows (m ((c : Thread nD τ).loc main_arg4)) (m ((c : Thread nD τ).loc main_arg10)))) bitsLt_bf16_f32 := by
    unfold V gates rows; after_results; rfl
  rw [e]
  exact (gates_apply _ _).trans (congrArg gate (rows_apply _ _ r k))

theorem V_gc (c : Dev nD) (r : Fin 17408) (k : Fin 2048) : V m c main_v59 (ix2 r k)
    = gate (joined (m ((c : Thread nD τ).loc main_arg5)) (m ((c : Thread nD τ).loc main_arg11)) r k) := by
  have e : V m c main_v59 = truncf (F := Ideal) .bf16 (gates (rows (m ((c : Thread nD τ).loc main_arg5)) (m ((c : Thread nD τ).loc main_arg11)))) bitsLt_bf16_f32 := by
    unfold V gates rows; after_results; rfl
  rw [e]
  exact (gates_apply _ _).trans (congrArg gate (rows_apply _ _ r k))

theorem V_wa (c : Dev nD) : V m c main_v38 = m ((c : Thread nD τ).loc main_arg13) := by
  have e : V m c main_v38 = truncf (F := Ideal) .bf16 (m ((c : Thread nD τ).loc main_arg13)) bitsLt_bf16_f32 := by
    unfold V; after_results
  exact e

theorem V_wc (c : Dev nD) : V m c main_v39 = m ((c : Thread nD τ).loc main_arg14) := by
  have e : V m c main_v39 = truncf (F := Ideal) .bf16 (m ((c : Thread nD τ).loc main_arg14)) bitsLt_bf16_f32 := by
    unfold V; after_results
  exact e

theorem V_w (c : Dev nD) : V m c main_arg12 = m ((c : Thread nD τ).loc main_arg12) := by
  unfold V; after_results

end Cert.MergeIdeal.Merge

end
-- ==== Proof.MergeArr.lean ====
/-
  The branch merge's result array: every grid point's block, the convolved branch kept in the scratch from a row tile's
  first column to its last, and so the array, as one function of the arguments.
-/
module

public import proofs.«01_k».proof.Proof.MergeHost

@[expose] public section

set_option maxRecDepth 16384

noncomputable section

namespace Cert.MergeIdeal.Merge

open Cert.MergeIdeal Cert.MergeIdeal.Gen Idealize.ShloMosaic Idealize.ShloMosaic.TcCoe Idealize.ShloMosaic.ValueIdx
open Cert.Rows

/-! ## The result -/

/-- The row before, zero before a sequence's first. -/
def prevRow (z : Fin 17408 → EReal) (r : Fin 17408) : EReal :=
  if place r.val = 0 then 0 else z ⟨r.val - 1, by omega⟩

/-- The row after, zero after a sequence's last. -/
def nextRow (z : Fin 17408 → EReal) (r : Fin 17408) : EReal :=
  if h : place r.val + 1 = len r.val then 0 else z ⟨r.val + 1, by unfold place len at h; split at h <;> omega⟩

/-- An entry of the convolved branch. -/
def convAt (bx : Vec Ideal S4x4096x2048 .f32) (bc : Vec Ideal S4x256x2048 .f32) (cx : Vec Ideal S4x4096x2048 .f32)
    (cc : Vec Ideal S4x256x2048 .f32) (ux : Vec Ideal S4x4096x2048 .f32) (uc : Vec Ideal S4x256x2048 .f32) (w : Vec Ideal S2x3x2048 .f32)
    (r : Fin 17408) (k : Fin 2048) : EReal :=
  joined bx bc r k * ((w (ix3 (0 : Fin 2) (0 : Fin 3) k) * prevRow (fun r => zAt cx cc ux uc r k) r
      + w (ix3 (0 : Fin 2) (1 : Fin 3) k) * zAt cx cc ux uc r k)
    + w (ix3 (0 : Fin 2) (2 : Fin 3) k) * nextRow (fun r => zAt cx cc ux uc r k) r)

/-- The kernel's result at row `r` and column `k`: the attention's product with its weight and the convolved branch's
    product with its own, each times its gate. -/
def result (ax bx cx ux gax gcx : Vec Ideal S4x4096x2048 .f32) (ac bc cc uc gac gcc : Vec Ideal S4x256x2048 .f32)
    (w : Vec Ideal S2x3x2048 .f32) (wa wc : Vec Ideal S2x2048x2048 .f32) (r : Fin 17408) (k : Fin 2048) : EReal :=
  gate (joined gax gac r k) * (∑ e : Fin 2048, joined ax ac r e * wa (ix3 (0 : Fin 2) e k))
    + gate (joined gcx gcc r k) * (∑ e : Fin 2048, convAt bx bc cx cc ux uc w r e * wc (ix3 (0 : Fin 2) e k))

/-! ## The blocks of a grid point -/

theorem index0 : ∀ t : Fin cfg0.N, win0_0.index t = ![t.val / 4, 0] :=
  (by decide +kernel : ∀ t : Fin grid0.N, win0_0.index t = ![t.val / 4, 0])
theorem index1 : ∀ t : Fin cfg0.N, win0_1.index t = ![t.val / 4, 0] :=
  (by decide +kernel : ∀ t : Fin grid0.N, win0_1.index t = ![t.val / 4, 0])
theorem index2 : ∀ t : Fin cfg0.N, win0_2.index t = ![t.val / 4, 0] :=
  (by decide +kernel : ∀ t : Fin grid0.N, win0_2.index t = ![t.val / 4, 0])
theorem index3 : ∀ t : Fin cfg0.N, win0_3.index t = ![t.val / 4 * 32 - 1, 0] :=
  (by decide +kernel : ∀ t : Fin grid0.N, win0_3.index t = ![t.val / 4 * 32 - 1, 0])
theorem index4 : ∀ t : Fin cfg0.N, win0_4.index t = ![min ((t.val / 4 + 1) * 32) 1087, 0] :=
  (by decide +kernel : ∀ t : Fin grid0.N, win0_4.index t = ![min ((t.val / 4 + 1) * 32) 1087, 0])
theorem index5 : ∀ t : Fin cfg0.N, win0_5.index t = ![t.val / 4, 0] :=
  (by decide +kernel : ∀ t : Fin grid0.N, win0_5.index t = ![t.val / 4, 0])
theorem index6 : ∀ t : Fin cfg0.N, win0_6.index t = ![t.val / 4, 0] :=
  (by decide +kernel : ∀ t : Fin grid0.N, win0_6.index t = ![t.val / 4, 0])
theorem index7 : ∀ t : Fin cfg0.N, win0_7.index t = ![0, 0, 0] :=
  (by decide +kernel : ∀ t : Fin grid0.N, win0_7.index t = ![0, 0, 0])
theorem index8 : ∀ t : Fin cfg0.N, win0_8.index t = ![0, 0, t.val % 4] :=
  (by decide +kernel : ∀ t : Fin grid0.N, win0_8.index t = ![0, 0, t.val % 4])
theorem index9 : ∀ t : Fin cfg0.N, win0_9.index t = ![0, 0, t.val % 4] :=
  (by decide +kernel : ∀ t : Fin grid0.N, win0_9.index t = ![0, 0, t.val % 4])
theorem index10 : ∀ t : Fin cfg0.N, win0_10.index t = ![t.val / 4, t.val % 4] :=
  (by decide +kernel : ∀ t : Fin grid0.N, win0_10.index t = ![t.val / 4, t.val % 4])
theorem index11 : ∀ t : Fin cfg0.N, win0_11.index t = ![t.val / 4, t.val % 4] :=
  (by decide +kernel : ∀ t : Fin grid0.N, win0_11.index t = ![t.val / 4, t.val % 4])
theorem index12 : ∀ t : Fin cfg0.N, win0_12.index t = ![t.val / 4, t.val % 4] :=
  (by decide +kernel : ∀ t : Fin grid0.N, win0_12.index t = ![t.val / 4, t.val % 4])

theorem pt_lt (t : Fin cfg0.N) : t.val < 136 := Nat.lt_of_lt_of_eq t.isLt N_0

/-- Row `p` and column `q` of a point's block, in the whole array. -/
abbrev rowAt (t : Fin cfg0.N) (p : Fin 512) : Fin 17408 := ⟨t.val / 4 * 512 + p.val, by have := pt_lt t; omega⟩
abbrev colAt (t : Fin cfg0.N) (q : Fin 512) : Fin 2048 := ⟨t.val % 4 * 512 + q.val, by omega⟩

variable (m : (ℓ : Loc nD τ sig) → Buf (Elt Ideal) ℓ)

theorem blk0 (c : Dev nD) (t : Fin cfg0.N) (p : Fin 512) (e : Fin 2048) :
    iblk m c 0 t (ix2 p e) = V m c main_v33 (ix2 (rowAt t p) e) := by
  blk_simp [iblk]
  refine congrArg (V m c main_v33) ?_
  blk_ext [index0]

theorem blk1 (c : Dev nD) (t : Fin cfg0.N) (p : Fin 512) (e : Fin 2048) :
    iblk m c 1 t (ix2 p e) = V m c main_v37 (ix2 (rowAt t p) e) := by
  blk_simp [iblk]
  refine congrArg (V m c main_v37) ?_
  blk_ext [index1]

theorem blk2 (c : Dev nD) (t : Fin cfg0.N) (p : Fin 512) (e : Fin 2048) :
    iblk m c 2 t (ix2 p e) = V m c main_v29 (ix2 (rowAt t p) e) := by
  blk_simp [iblk]
  refine congrArg (V m c main_v29) ?_
  blk_ext [index2]

theorem blk3 (c : Dev nD) (t : Fin cfg0.N) (p : Fin 16) (e : Fin 2048) :
    iblk m c 3 t (ix2 p e) = V m c main_v29 (ix2 (⟨(t.val / 4 * 32 - 1) * 16 + p.val, by have := pt_lt t; omega⟩ : Fin 17408) e) := by
  blk_simp [iblk]
  refine congrArg (V m c main_v29) ?_
  blk_ext [index3]

theorem blk4 (c : Dev nD) (t : Fin cfg0.N) (p : Fin 16) (e : Fin 2048) :
    iblk m c 4 t (ix2 p e) = V m c main_v29 (ix2 (⟨min ((t.val / 4 + 1) * 32) 1087 * 16 + p.val, by have := pt_lt t; omega⟩ : Fin 17408) e) := by
  blk_simp [iblk]
  refine congrArg (V m c main_v29) ?_
  blk_ext [index4]

theorem blk5 (c : Dev nD) (t : Fin cfg0.N) (p : Fin 512) :
    iblk m c 5 t (ix2 p (0 : Fin 1)) = V m c main_v15 (ix2 (rowAt t p) (0 : Fin 1)) := by
  blk_simp [iblk]
  refine congrArg (V m c main_v15) ?_
  blk_ext [index5]

theorem blk6 (c : Dev nD) (t : Fin cfg0.N) (p : Fin 512) :
    iblk m c 6 t (ix2 p (0 : Fin 1)) = V m c main_v21 (ix2 (rowAt t p) (0 : Fin 1)) := by
  blk_simp [iblk]
  refine congrArg (V m c main_v21) ?_
  blk_ext [index6]

theorem blk7 (c : Dev nD) (t : Fin cfg0.N) (a : Fin 3) (k : Fin 2048) :
    iblk m c 7 t (ix3 (0 : Fin 1) a k) = V m c main_arg12 (ix3 (0 : Fin 2) a k) := by
  blk_simp [iblk]
  refine congrArg (V m c main_arg12) ?_
  blk_ext [index7]

theorem blk8 (c : Dev nD) (t : Fin cfg0.N) (e : Fin 2048) (q : Fin 512) :
    iblk m c 8 t (ix3 (0 : Fin 1) e q) = V m c main_v38 (ix3 (0 : Fin 2) e (colAt t q)) := by
  blk_simp [iblk]
  refine congrArg (V m c main_v38) ?_
  blk_ext [index8]

theorem blk9 (c : Dev nD) (t : Fin cfg0.N) (e : Fin 2048) (q : Fin 512) :
    iblk m c 9 t (ix3 (0 : Fin 1) e q) = V m c main_v39 (ix3 (0 : Fin 2) e (colAt t q)) := by
  blk_simp [iblk]
  refine congrArg (V m c main_v39) ?_
  blk_ext [index9]

theorem blk10 (c : Dev nD) (t : Fin cfg0.N) (p q : Fin 512) :
    iblk m c 10 t (ix2 p q) = V m c main_v49 (ix2 (rowAt t p) (colAt t q)) := by
  blk_simp [iblk]
  refine congrArg (V m c main_v49) ?_
  blk_ext [index10]

theorem blk11 (c : Dev nD) (t : Fin cfg0.N) (p q : Fin 512) :
    iblk m c 11 t (ix2 p q) = V m c main_v59 (ix2 (rowAt t p) (colAt t q)) := by
  blk_simp [iblk]
  refine congrArg (V m c main_v59) ?_
  blk_ext [index11]

/-! ## The convolved branch of a row tile -/

/-- The tile's convolved branch at the point's blocks. -/
def convBlk (c : Dev nD) (t : Fin cfg0.N) : FVec Ideal S512x2048 .bf16 :=
  conv (iblk m c 1 t) (iblk m c 2 t) (iblk m c 3 t) (iblk m c 4 t) (iblk m c 5 t) (iblk m c 6 t) (iblk m c 7 t)

/-- The last row of all is the last of its sequence. -/
theorem last_place : place 17407 + 1 = len 17407 := by decide +kernel

/-- The rows convolved, of the call's own arguments. -/
def zOf (c : Dev nD) (r : Fin 17408) (k : Fin 2048) : EReal :=
  zAt (m ((c : Thread nD τ).loc main_arg2)) (m ((c : Thread nD τ).loc main_arg8)) (m ((c : Thread nD τ).loc main_arg3))
    (m ((c : Thread nD τ).loc main_arg9)) r k

theorem tile_z (c : Dev nD) (t : Fin cfg0.N) (p : Fin 512) (k : Fin 2048) : iblk m c 2 t (ix2 p k) = zOf m c (rowAt t p) k :=
  (blk2 m c t p k).trans (V_z m c _ k)

theorem before_at (c : Dev nD) (t : Fin cfg0.N) (p : Fin 512) (k : Fin 2048) (s : Fin 17408) (hs : s.val + 1 = t.val / 4 * 512 + p.val) :
    before (iblk m c 2 t) (iblk m c 3 t) p k = zOf m c s k := by
  unfold before
  by_cases h0 : p.val = 0
  · rw [if_pos h0]
    refine ((blk3 m c t (15 : Fin 16) k).trans (V_z m c _ k)).trans ?_
    refine congrArg (fun r => zOf m c r k) (Fin.ext ?_)
    show (t.val / 4 * 32 - 1) * 16 + 15 = s.val
    omega
  · rw [if_neg h0]
    refine (tile_z m c t _ k).trans (congrArg (fun r => zOf m c r k) (Fin.ext ?_))
    show t.val / 4 * 512 + (p.val - 1) = s.val
    omega

theorem next_at (c : Dev nD) (t : Fin cfg0.N) (p : Fin 512) (k : Fin 2048) (s : Fin 17408) (hs : s.val = t.val / 4 * 512 + p.val + 1) :
    next (iblk m c 2 t) (iblk m c 4 t) p k = zOf m c s k := by
  have hlt := s.isLt
  unfold next
  by_cases h0 : p.val = 511
  · rw [dif_pos h0]
    refine ((blk4 m c t (0 : Fin 16) k).trans (V_z m c _ k)).trans ?_
    refine congrArg (fun r => zOf m c r k) (Fin.ext ?_)
    show min ((t.val / 4 + 1) * 32) 1087 * 16 + 0 = s.val
    omega
  · rw [dif_neg h0]
    refine (tile_z m c t _ k).trans (congrArg (fun r => zOf m c r k) (Fin.ext ?_))
    show t.val / 4 * 512 + (p.val + 1) = s.val
    omega

theorem prev_mul (c : Dev nD) (t : Fin cfg0.N) (p : Fin 512) (k : Fin 2048) :
    before (iblk m c 2 t) (iblk m c 3 t) p k * (if place (rowAt t p).val = 0 then 0 else 1)
      = prevRow (fun r => zOf m c r k) (rowAt t p) := by
  unfold prevRow
  by_cases h : place (rowAt t p).val = 0
  · rw [if_pos h, if_pos h, mul_zero]
  · rw [if_neg h, if_neg h, mul_one]
    have hr : t.val / 4 * 512 + p.val ≠ 0 := fun e => h (by show place (t.val / 4 * 512 + p.val) = 0; rw [e]; decide +kernel)
    exact before_at m c t p k _ (by show t.val / 4 * 512 + p.val - 1 + 1 = t.val / 4 * 512 + p.val; omega)

theorem next_mul (c : Dev nD) (t : Fin cfg0.N) (p : Fin 512) (k : Fin 2048) :
    next (iblk m c 2 t) (iblk m c 4 t) p k * (if place (rowAt t p).val + 1 = len (rowAt t p).val then 0 else 1)
      = nextRow (fun r => zOf m c r k) (rowAt t p) := by
  unfold nextRow
  by_cases h : place (rowAt t p).val + 1 = len (rowAt t p).val
  · rw [if_pos h, dif_pos h, mul_zero]
  · rw [if_neg h, dif_neg h, mul_one]
    exact next_at m c t p k _ rfl

theorem convBlk_apply (c : Dev nD) (t : Fin cfg0.N) (p : Fin 512) (k : Fin 2048) : convBlk m c t (ix2 p k)
    = convAt (m ((c : Thread nD τ).loc main_arg1)) (m ((c : Thread nD τ).loc main_arg7)) (m ((c : Thread nD τ).loc main_arg2))
      (m ((c : Thread nD τ).loc main_arg8)) (m ((c : Thread nD τ).loc main_arg3)) (m ((c : Thread nD τ).loc main_arg9))
      (m ((c : Thread nD τ).loc main_arg12)) (rowAt t p) k := by
  have hw : ∀ a : Fin 3, iblk m c 7 t (ix3 (0 : Fin 1) a k) = m ((c : Thread nD τ).loc main_arg12) (ix3 (0 : Fin 2) a k) := fun a =>
    (blk7 m c t a k).trans (congrFun (V_w m c) _)
  unfold convBlk
  refine (conv_apply _ _ _ _ _ _ _ p k).trans ?_
  unfold convAt
  refine congrArg₂ (· * ·) ((blk1 m c t p k).trans (V_b m c _ k)) (congrArg₂ (· + ·) (congrArg₂ (· + ·) (congrArg₂ (· * ·) (hw 0) ?_)
    (congrArg₂ (· * ·) (hw 1) (tile_z m c t p k))) (congrArg₂ (· * ·) (hw 2) ?_))
  · exact (congrArg (_ * ·) ((blk5 m c t p).trans (V_first m c _))).trans (prev_mul m c t p k)
  · exact (congrArg (_ * ·) ((blk6 m c t p).trans (V_last m c _))).trans (next_mul m c t p k)

/-! ## What a point leaves -/

theorem snd_A (c : Dev nD) (t : Fin cfg0.N) (h0 : t.val % 4 = 0) : (outsAt0 m c t.val t.isLt).2 = convBlk m c t := by
  rw [outsAt0_A m c t h0]
  dsimp only
  rw [scratch_eq]
  unfold convBlk
  rfl

theorem snd_B (c : Dev nD) (t : Fin cfg0.N) (h0 : ¬t.val % 4 = 0) :
    (outsAt0 m c t.val t.isLt).2 = (outsAt0 m c (t.val - 1) (Nat.lt_of_le_of_lt (Nat.sub_le _ _) t.isLt)).2 := by
  rw [outsAt0_B m c t h0]
  dsimp only
  unfold sout0_B_0
  rfl

theorem fst_A (c : Dev nD) (t : Fin cfg0.N) (h0 : t.val % 4 = 0) : (outsAt0 m c t.val t.isLt).1
    = k0_pay2 (iblk m c 0 t) (iblk m c 8 t) (convBlk m c t) (iblk m c 9 t) (iblk m c 10 t) (iblk m c 11 t) := by
  rw [outsAt0_A m c t h0]
  dsimp only
  rw [out_eq_A]
  unfold convBlk
  rfl

theorem fst_B (c : Dev nD) (t : Fin cfg0.N) (h0 : ¬t.val % 4 = 0) : (outsAt0 m c t.val t.isLt).1
    = k0_pay2 (iblk m c 0 t) (iblk m c 8 t) (outsAt0 m c (t.val - 1) (Nat.lt_of_le_of_lt (Nat.sub_le _ _) t.isLt)).2
      (iblk m c 9 t) (iblk m c 10 t) (iblk m c 11 t) := by
  rw [outsAt0_B m c t h0]
  dsimp only
  rw [out_eq_B]

/-- Two points of the same row tile have the same convolved branch. -/
theorem convBlk_congr (c : Dev nD) (s t : Fin cfg0.N) (h : s.val / 4 = t.val / 4) : convBlk m c s = convBlk m c t := by
  funext y
  have hy : y = (ix2 (⟨(y 0).val, (y 0).isLt⟩ : Fin 512) (⟨(y 1).val, (y 1).isLt⟩ : Fin 2048) : S512x2048.Idx) :=
    funext fun a => Fin.ext (by match a with | ⟨0, _⟩ => rfl | ⟨1, _⟩ => rfl)
  rw [hy, convBlk_apply, convBlk_apply]
  have hr : rowAt s ⟨(y 0).val, (y 0).isLt⟩ = rowAt t ⟨(y 0).val, (y 0).isLt⟩ := Fin.ext (by
    show s.val / 4 * 512 + (y 0).val = t.val / 4 * 512 + (y 0).val
    rw [h])
  rw [hr]

/-- The scratch after a point: the row tile's convolved branch. -/
theorem scratch_at (c : Dev nD) (n : ℕ) : ∀ h : n < cfg0.N, (outsAt0 m c n h).2 = convBlk m c ⟨n, h⟩ := by
  induction n using Nat.strong_induction_on with
  | _ n ih =>
    intro h
    by_cases h0 : n % 4 = 0
    · exact snd_A m c ⟨n, h⟩ h0
    · refine (snd_B m c ⟨n, h⟩ h0).trans ((ih (n - 1) (by omega) _).trans (convBlk_congr m c _ _ ?_))
      show (n - 1) / 4 = n / 4
      omega

/-- The result's block after a point. -/
theorem after_eq (c : Dev nD) (t : Fin cfg0.N) : (outsAt0 m c t.val t.isLt).1
    = k0_pay2 (iblk m c 0 t) (iblk m c 8 t) (convBlk m c t) (iblk m c 9 t) (iblk m c 10 t) (iblk m c 11 t) := by
  by_cases h0 : t.val % 4 = 0
  · exact fst_A m c t h0
  · rw [fst_B m c t h0, scratch_at, convBlk_congr m c _ t (by show (t.val - 1) / 4 = t.val / 4; omega)]

/-! ## The array -/

/-- The result array after the run. -/
def resultArr (c : Dev nD) : Buf (Elt Ideal) ((c : Thread nD τ).loc main_v60) := fun y =>
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))
    ⟨(y 0).val, (y 0).isLt⟩ ⟨(y 1).val, (y 1).isLt⟩

theorem block_eq (c : Dev nD) (t : Fin cfg0.N) (p q : Fin 512) : (outsAt0 m c t.val t.isLt).1 (ix2 p q)
    = resultArr m c (ix2 (rowAt t p) (colAt t q)) := by
  refine (congrFun (after_eq m c t) _).trans ((pay2_apply _ _ _ _ _ _ p q).trans ?_)
  unfold resultArr result
  refine congrArg₂ (· + ·) (congrArg₂ (· * ·) ((blk10 m c t p q).trans (V_ga m c _ _)) (Finset.sum_congr rfl fun e _ => congrArg₂ (· * ·) ?_ ?_))
    (congrArg₂ (· * ·) ((blk11 m c t p q).trans (V_gc m c _ _)) (Finset.sum_congr rfl fun e _ => congrArg₂ (· * ·) ?_ ?_))
  · exact (blk0 m c t p e).trans (V_attn m c _ e)
  · exact (blk8 m c t e q).trans (congrFun (V_wa m c) _)
  · exact convBlk_apply m c t p e
  · exact (blk9 m c t e q).trans (congrFun (V_wc m c) _)

theorem arr_eq (c : Dev nD) : (dats m 0 c).arrAt 12 cfg0.N = resultArr m c := by
  refine (dats m 0 c).arrAt_eq_of_covers 12 _ (by decide +kernel) fun t hf y => ?_
  blk_simp
  rw [after0_12]
  have h0 : (y 0).val < 512 := (y 0).isLt
  have h1 : (y 1).val < 512 := (y 1).isLt
  have e0 : (((win0_12.blk t).view.emb y 0 : Fin _) : ℕ) = t.val / 4 * 512 + (y 0).val := by
    blk_simp [index12]
  have e1 : (((win0_12.blk t).view.emb y 1 : Fin _) : ℕ) = t.val % 4 * 512 + (y 1).val := by
    blk_simp [index12]
  have hy : y = (ix2 (⟨(y 0).val, h0⟩ : Fin 512) (⟨(y 1).val, h1⟩ : Fin 512) : S512x512.Idx) :=
    funext fun a => Fin.ext (by match a with | ⟨0, _⟩ => rfl | ⟨1, _⟩ => rfl)
  refine (congrArg (outsAt0 m c t.val t.isLt).1 hy).trans ((block_eq m c t _ _).trans ?_)
  unfold resultArr
  refine congrArg₂ (result _ _ _ _ _ _ _ _ _ _ _ _ _ _ _) (Fin.ext ?_) (Fin.ext ?_)
  · exact e0.symm
  · exact e1.symm

end Cert.MergeIdeal.Merge

end
-- ==== Proof.MergeRef.lean ====
/-
  The merge's reference at an index: the same convolution over a sequence's rows, the same products and gates.
-/
module

public import proofs.«01_k».proof.Proof.MergeArr
public import proofs.«01_k».proof.Proof.Gen.MergeReferenceIdeal.Read
public import Idealize.ShloMosaic.Lib.KernelVsHost

@[expose] public section

set_option maxRecDepth 16384

noncomputable section

namespace Cert.MergeReferenceIdeal.Merge

open Cert.MergeReferenceIdeal Cert.MergeReferenceIdeal.Gen Cert.MergeReferenceIdeal.Read
open Idealize.ShloMosaic Idealize.ShloMosaic.TcCoe Idealize.ShloMosaic.ValueIdx
open Cert.Rows Cert.MergeIdeal.Merge

/-! ## The weights of the layer -/

theorem taps_apply (w : Vec Ideal S2x3x2048 .f32) (a : Fin 3) (k : Fin 2048) :
    val_main_v1 (F := Ideal) w (ix2 a k) = w (ix3 (0 : Fin 2) a k) := by
  rw [val_main_v1_apply, val_main_v0_apply]
  refine congrArg w (funext fun a' => Fin.ext ?_)
  match a' with
  | ⟨0, _⟩ => rfl
  | ⟨1, _⟩ => show (a.val * 2048 + k.val) / 2048 % 3 = a.val; omega
  | ⟨2, _⟩ => show (a.val * 2048 + k.val) % 2048 = k.val; omega

theorem wa_apply (w : Vec Ideal S2x2048x2048 .f32) (e k : Fin 2048) :
    val_main_v3 (F := Ideal) w (ix2 e k) = w (ix3 (0 : Fin 2) e k) := by
  rw [val_main_v3_apply, val_main_v2_apply]
  refine congrArg w (funext fun a => Fin.ext ?_)
  match a with
  | ⟨0, _⟩ => rfl
  | ⟨1, _⟩ => show (e.val * 2048 + k.val) / 2048 % 2048 = e.val; omega
  | ⟨2, _⟩ => show (e.val * 2048 + k.val) % 2048 = k.val; omega

theorem wc_apply (w : Vec Ideal S2x2048x2048 .f32) (e k : Fin 2048) :
    val_main_v5 (F := Ideal) w (ix2 e k) = w (ix3 (0 : Fin 2) e k) := by
  rw [val_main_v5_apply, val_main_v4_apply]
  refine congrArg w (funext fun a => Fin.ext ?_)
  match a with
  | ⟨0, _⟩ => rfl
  | ⟨1, _⟩ => show (e.val * 2048 + k.val) / 2048 % 2048 = e.val; omega
  | ⟨2, _⟩ => show (e.val * 2048 + k.val) % 2048 = k.val; omega

/-- A row of the taps, read at the one row and a column. -/
theorem tap_of {w : Vec Ideal S2x3x2048 .f32} {a : Fin 3} {k : Fin 2048} {i : S3x2048.Idx} (h0 : (i 0).val = a.val) (h1 : (i 1).val = k.val) :
    val_main_v1 (F := Ideal) w i = w (ix3 (0 : Fin 2) a k) :=
  (congrArg (val_main_v1 (F := Ideal) w) (funext fun b => Fin.ext (by
    match b with
    | ⟨0, _⟩ => exact h0
    | ⟨1, _⟩ => exact h1))).trans (taps_apply w a k)

variable (w : Vec Ideal S2x3x2048 .f32) (b : Fin 4) (n : Fin 4096) (j : Fin 256) (k : Fin 2048)

theorem lat_tap0 : val_main_v13 (F := Ideal) w (ix3 b n k) = w (ix3 (0 : Fin 2) (0 : Fin 3) k) := by
  rw [val_main_v13_apply, val_main_v12_apply, val_main_v10_apply, val_main_v9_apply]
  exact tap_of rfl (Nat.mod_eq_of_lt k.isLt)
theorem lat_tap1 : val_main_v21 (F := Ideal) w (ix3 b n k) = w (ix3 (0 : Fin 2) (1 : Fin 3) k) := by
  rw [val_main_v21_apply, val_main_v20_apply, val_main_v18_apply, val_main_v17_apply]
  exact tap_of rfl (Nat.mod_eq_of_lt k.isLt)
theorem lat_tap2 : val_main_v28 (F := Ideal) w (ix3 b n k) = w (ix3 (0 : Fin 2) (2 : Fin 3) k) := by
  rw [val_main_v28_apply, val_main_v27_apply, val_main_v25_apply, val_main_v24_apply]
  exact tap_of rfl (Nat.mod_eq_of_lt k.isLt)
theorem ctx_tap0 : val_main_v55 (F := Ideal) w (ix3 b j k) = w (ix3 (0 : Fin 2) (0 : Fin 3) k) := by
  rw [val_main_v55_apply, val_main_v54_apply, val_main_v52_apply, val_main_v51_apply]
  exact tap_of rfl (Nat.mod_eq_of_lt k.isLt)
theorem ctx_tap1 : val_main_v63 (F := Ideal) w (ix3 b j k) = w (ix3 (0 : Fin 2) (1 : Fin 3) k) := by
  rw [val_main_v63_apply, val_main_v62_apply, val_main_v60_apply, val_main_v59_apply]
  exact tap_of rfl (Nat.mod_eq_of_lt k.isLt)
theorem ctx_tap2 : val_main_v70 (F := Ideal) w (ix3 b j k) = w (ix3 (0 : Fin 2) (2 : Fin 3) k) := by
  rw [val_main_v70_apply, val_main_v69_apply, val_main_v67_apply, val_main_v66_apply]
  exact tap_of rfl (Nat.mod_eq_of_lt k.isLt)

/-! ## A sequence's rows between two rows of zeros -/

theorem padded_in {N : Nat} (z : (⟨3, ![4, N, 2048]⟩ : Shape).Idx → EReal) (v : S_.Idx → EReal)
    (h : (⟨3, ![4, N, 2048]⟩ : Shape).Pads ![0, 1, 0] ![0, 1, 0] ![0, 0, 0] ⟨3, ![4, N + 2, 2048]⟩) (hu : 0 < S_.numel)
    (i : (⟨3, ![4, N + 2, 2048]⟩ : Shape).Idx) (b : Fin 4) (n : Fin N) (k : Fin 2048) (h0 : (i 0).val = b.val) (h1 : (i 1).val = n.val + 1)
    (h2 : (i 2).val = k.val) :
    pad ⟨3, ![4, N + 2, 2048]⟩ ![0, 1, 0] ![0, 1, 0] ![0, 0, 0] z v h hu i = z (ix3 b n k) :=
  pad_apply_of_inside _ _ _ z v h hu i (ix3 b n k) (by
    intro a
    match a with
    | ⟨0, _⟩ => show (i 0).val = 0 + b.val * (0 + 1); omega
    | ⟨1, _⟩ => show (i 1).val = 1 + n.val * (0 + 1); omega
    | ⟨2, _⟩ => show (i 2).val = 0 + k.val * (0 + 1); omega)

theorem padded_out {N : Nat} (z : (⟨3, ![4, N, 2048]⟩ : Shape).Idx → EReal) (v : S_.Idx → EReal) (hv : ∀ i, v i = 0)
    (h : (⟨3, ![4, N, 2048]⟩ : Shape).Pads ![0, 1, 0] ![0, 1, 0] ![0, 0, 0] ⟨3, ![4, N + 2, 2048]⟩) (hu : 0 < S_.numel)
    (i : (⟨3, ![4, N + 2, 2048]⟩ : Shape).Idx) (h1 : (i 1).val = 0 ∨ (i 1).val = N + 1) :
    pad ⟨3, ![4, N + 2, 2048]⟩ ![0, 1, 0] ![0, 1, 0] ![0, 0, 0] z v h hu i = 0 :=
  (pad_apply_of_not_inside _ _ _ z v h hu i (1 : Fin 3) (by
    intro hin
    have e1 : 1 ≤ (i 1).val := hin.1
    have e2 : ((i 1).val - 1) / (0 + 1) < N := hin.2.2
    rw [Nat.zero_add, Nat.div_one] at e2
    omega)).trans (hv _)

theorem zero_lat (i : S_.Idx) : (val_main_call0_v0 (F := Ideal) i : EReal) = 0 := by
  rw [val_main_call0_v0_apply, val_main_c_apply]; exact sitofp_zero (φ := .f32)
theorem zero_ctx (i : S_.Idx) : (val_main_call1_v0 (F := Ideal) i : EReal) = 0 := by
  rw [val_main_call1_v0_apply, val_main_c_4_apply]; exact sitofp_zero (φ := .f32)

/-! ## The convolved branch -/

/-- The sequence and the place of the rows beside a row of the same sequence. -/
theorem beside (q : Nat) : (q % 256 ≠ 0 → q / 256 = (q - 1) / 256 ∧ q % 256 = (q - 1) % 256 + 1)
    ∧ (q % 256 + 1 ≠ 256 → q / 256 = (q + 1) / 256 ∧ q % 256 + 1 = (q + 1) % 256) := by omega

theorem ctx_beside {r : Nat} (h : ¬ r < 16384) :
    ((r - 16384) % 256 ≠ 0 → (r - 16384) / 256 = (r - 1 - 16384) / 256 ∧ (r - 16384) % 256 = (r - 1 - 16384) % 256 + 1)
    ∧ ((r - 16384) % 256 + 1 ≠ 256 → (r - 16384) / 256 = (r + 1 - 16384) / 256 ∧ (r - 16384) % 256 + 1 = (r + 1 - 16384) % 256) := by
  rw [Nat.sub_add_comm (Nat.le_of_not_lt h), Nat.sub_right_comm]
  exact beside (r - 16384)

variable (cx ux bx : Vec Ideal S4x4096x2048 .f32) (cc uc bc : Vec Ideal S4x256x2048 .f32) (r : Fin 17408)

/-- A latent row of the branch convolved. -/
theorem z_lat (h : r.val < 16384) : zAt cx cc ux uc r k
    = val_main_v7 (F := Ideal) cx ux (ix3 (⟨r.val / 4096, by omega⟩ : Fin 4) (⟨r.val % 4096, by omega⟩ : Fin 4096) k) := by
  unfold zAt; rw [joined_lat _ _ _ _ h, joined_lat _ _ _ _ h]; rfl
theorem z_ctx (h : ¬ r.val < 16384) : zAt cx cc ux uc r k
    = val_main_v49 (F := Ideal) cc uc (ix3 (⟨(r.val - 16384) / 256, by omega⟩ : Fin 4) (⟨(r.val - 16384) % 256, by omega⟩ : Fin 256) k) := by
  unfold zAt; rw [joined_ctx _ _ _ _ h, joined_ctx _ _ _ _ h]; rfl

theorem lat_row {s : Fin 17408} (h : s.val < 16384) (i : S4x4098x2048.Idx) (h0 : (i 0).val = s.val / 4096) (h1 : (i 1).val = s.val % 4096 + 1)
    (h2 : (i 2).val = k.val) : val_main_v8 (F := Ideal) cx ux i = zAt cx cc ux uc s k := by
  rw [z_lat k cx ux cc uc s h]
  unfold val_main_v8
  exact padded_in (N := 4096) _ _ _ _ i _ _ k h0 h1 h2
theorem ctx_row {s : Fin 17408} (h : ¬ s.val < 16384) (i : S4x258x2048.Idx) (h0 : (i 0).val = (s.val - 16384) / 256)
    (h1 : (i 1).val = (s.val - 16384) % 256 + 1) (h2 : (i 2).val = k.val) : val_main_v50 (F := Ideal) cc uc i = zAt cx cc ux uc s k := by
  rw [z_ctx k cx ux cc uc s h]
  unfold val_main_v50
  exact padded_in (N := 256) _ _ _ _ i _ _ k h0 h1 h2

theorem lat_prev (h : r.val < 16384) (i : S4x4098x2048.Idx) (h0 : (i 0).val = r.val / 4096) (h1 : (i 1).val = r.val % 4096)
    (h2 : (i 2).val = k.val) : val_main_v8 (F := Ideal) cx ux i = prevRow (fun r => zAt cx cc ux uc r k) r := by
  unfold prevRow place
  rw [if_pos h]
  by_cases hp : r.val % 4096 = 0
  · rw [if_pos hp]
    unfold val_main_v8
    exact padded_out (N := 4096) _ _ zero_lat _ _ i (Or.inl (h1.trans hp))
  · rw [if_neg hp]
    exact lat_row k cx ux cc uc (s := ⟨r.val - 1, by omega⟩) (by show r.val - 1 < 16384; omega) i
      (by show (i 0).val = (r.val - 1) / 4096; omega) (by show (i 1).val = (r.val - 1) % 4096 + 1; omega) h2
theorem ctx_prev (h : ¬ r.val < 16384) (i : S4x258x2048.Idx) (h0 : (i 0).val = (r.val - 16384) / 256) (h1 : (i 1).val = (r.val - 16384) % 256)
    (h2 : (i 2).val = k.val) : val_main_v50 (F := Ideal) cc uc i = prevRow (fun r => zAt cx cc ux uc r k) r := by
  unfold prevRow place
  rw [if_neg h]
  by_cases hp : (r.val - 16384) % 256 = 0
  · rw [if_pos hp]
    unfold val_main_v50
    exact padded_out (N := 256) _ _ zero_ctx _ _ i (Or.inl (h1.trans hp))
  · rw [if_neg hp]
    exact ctx_row k cx ux cc uc (s := ⟨r.val - 1, by omega⟩) (by show ¬ r.val - 1 < 16384; omega) i
      (h0.trans ((ctx_beside h).1 hp).1) (h1.trans ((ctx_beside h).1 hp).2) h2

theorem lat_next (h : r.val < 16384) (i : S4x4098x2048.Idx) (h0 : (i 0).val = r.val / 4096) (h1 : (i 1).val = r.val % 4096 + 1 + 1)
    (h2 : (i 2).val = k.val) : val_main_v8 (F := Ideal) cx ux i = nextRow (fun r => zAt cx cc ux uc r k) r := by
  unfold nextRow
  have e : (place r.val + 1 = len r.val) = (r.val % 4096 + 1 = 4096) := by unfold place len; rw [if_pos h, if_pos h]
  by_cases hp : r.val % 4096 + 1 = 4096
  · rw [dif_pos (e.mpr hp)]
    unfold val_main_v8
    exact padded_out (N := 4096) _ _ zero_lat _ _ i (Or.inr (h1.trans (congrArg (· + 1) hp)))
  · rw [dif_neg (fun q => hp (e.mp q))]
    exact lat_row k cx ux cc uc (s := ⟨r.val + 1, by omega⟩) (by show r.val + 1 < 16384; omega) i
      (by show (i 0).val = (r.val + 1) / 4096; omega) (by show (i 1).val = (r.val + 1) % 4096 + 1; omega) h2
theorem ctx_next (h : ¬ r.val < 16384) (i : S4x258x2048.Idx) (h0 : (i 0).val = (r.val - 16384) / 256)
    (h1 : (i 1).val = (r.val - 16384) % 256 + 1 + 1)
    (h2 : (i 2).val = k.val) : val_main_v50 (F := Ideal) cc uc i = nextRow (fun r => zAt cx cc ux uc r k) r := by
  unfold nextRow
  have e : (place r.val + 1 = len r.val) = ((r.val - 16384) % 256 + 1 = 256) := by unfold place len; rw [if_neg h, if_neg h]
  by_cases hp : (r.val - 16384) % 256 + 1 = 256
  · rw [dif_pos (e.mpr hp)]
    unfold val_main_v50
    exact padded_out (N := 256) _ _ zero_ctx _ _ i (Or.inr (h1.trans (congrArg (· + 1) hp)))
  · rw [dif_neg (fun q => hp (e.mp q))]
    exact ctx_row k cx ux cc uc (s := ⟨r.val + 1, by omega⟩) (by show ¬ r.val + 1 < 16384; omega) i
      (h0.trans ((ctx_beside h).2 hp).1) (h1.trans (congrArg (· + 1) ((ctx_beside h).2 hp).2)) h2

theorem lat_conv (h : r.val < 16384) :
    val_main_v31 (F := Ideal) bx cx ux w (ix3 (⟨r.val / 4096, by omega⟩ : Fin 4) (⟨r.val % 4096, by omega⟩ : Fin 4096) k)
      = convAt bx bc cx cc ux uc w r k := by
  unfold convAt
  rw [val_main_v31_apply, val_main_v30_apply, val_main_v23_apply, val_main_v16_apply, val_main_v15_apply, val_main_cst_apply,
    val_main_v14_apply, val_main_v22_apply, val_main_v29_apply, lat_tap0, lat_tap1, lat_tap2, val_main_v11_apply, val_main_v19_apply,
    val_main_v26_apply, joined_lat _ _ _ _ h]
  refine congrArg₂ (· * ·) rfl (congrArg₂ (· + ·) (congrArg₂ (· + ·) (((congrArg (· + _) Ideal.ofBits_zero_f32).trans (zero_add _)).trans (congrArg₂ (· * ·) rfl ?_))
    (congrArg₂ (· * ·) rfl ?_)) (congrArg₂ (· * ·) rfl ?_))
  · exact lat_prev k cx ux cc uc r h _ rfl rfl rfl
  · exact lat_row k cx ux cc uc h _ rfl (Nat.add_comm _ _) rfl
  · exact lat_next k cx ux cc uc r h _ rfl (Nat.add_comm _ _) rfl
theorem ctx_conv (h : ¬ r.val < 16384) :
    val_main_v73 (F := Ideal) bc cc uc w (ix3 (⟨(r.val - 16384) / 256, by omega⟩ : Fin 4) (⟨(r.val - 16384) % 256, by omega⟩ : Fin 256) k)
      = convAt bx bc cx cc ux uc w r k := by
  unfold convAt
  rw [val_main_v73_apply, val_main_v72_apply, val_main_v65_apply, val_main_v58_apply, val_main_v57_apply, val_main_cst_5_apply,
    val_main_v56_apply, val_main_v64_apply, val_main_v71_apply, ctx_tap0, ctx_tap1, ctx_tap2, val_main_v53_apply, val_main_v61_apply,
    val_main_v68_apply, joined_ctx _ _ _ _ h]
  refine congrArg₂ (· * ·) rfl (congrArg₂ (· + ·) (congrArg₂ (· + ·) (((congrArg (· + _) Ideal.ofBits_zero_f32).trans (zero_add _)).trans (congrArg₂ (· * ·) rfl ?_))
    (congrArg₂ (· * ·) rfl ?_)) (congrArg₂ (· * ·) rfl ?_))
  · exact ctx_prev k cx ux cc uc r h _ rfl rfl rfl
  · exact ctx_row k cx ux cc uc h _ rfl (Nat.add_comm _ _) rfl
  · exact ctx_next k cx ux cc uc r h _ rfl (Nat.add_comm _ _) rfl

/-! ## The gates -/

theorem lat_gate_a (g : Vec Ideal S4x4096x2048 .f32) (i : S4x4096x2048.Idx) : val_main_v38 (F := Ideal) g i = gate (g i) := by
  rw [val_main_v38_apply, val_main_v37_apply, val_main_cst_1_apply, val_main_v36_apply, val_main_v35_apply, val_main_cst_0_apply,
    val_main_v34_apply, val_main_v33_apply]; rfl
theorem lat_gate_c (g : Vec Ideal S4x4096x2048 .f32) (i : S4x4096x2048.Idx) : val_main_v45 (F := Ideal) g i = gate (g i) := by
  rw [val_main_v45_apply, val_main_v44_apply, val_main_cst_3_apply, val_main_v43_apply, val_main_v42_apply, val_main_cst_2_apply,
    val_main_v41_apply, val_main_v40_apply]; rfl
theorem ctx_gate_a (g : Vec Ideal S4x256x2048 .f32) (i : S4x256x2048.Idx) : val_main_v80 (F := Ideal) g i = gate (g i) := by
  rw [val_main_v80_apply, val_main_v79_apply, val_main_cst_7_apply, val_main_v78_apply, val_main_v77_apply, val_main_cst_6_apply,
    val_main_v76_apply, val_main_v75_apply]; rfl
theorem ctx_gate_c (g : Vec Ideal S4x256x2048 .f32) (i : S4x256x2048.Idx) : val_main_v87 (F := Ideal) g i = gate (g i) := by
  rw [val_main_v87_apply, val_main_v86_apply, val_main_cst_9_apply, val_main_v85_apply, val_main_v84_apply, val_main_cst_8_apply,
    val_main_v83_apply, val_main_v82_apply]; rfl

/-! ## The result -/

theorem ref_apply (ax bx cx ux gax gcx : Vec Ideal S4x4096x2048 .f32) (ac bc cc uc gac gcc : Vec Ideal S4x256x2048 .f32)
    (w : Vec Ideal S2x3x2048 .f32) (wa wc : Vec Ideal S2x2048x2048 .f32) (r : Fin 17408) (k : Fin 2048) :
    val_main_v93 (F := Ideal) ax bx cx ux gax gcx ac bc cc uc gac gcc w wa wc (ix2 r k)
      = result ax bx cx ux gax gcx ac bc cc uc gac gcc w wa wc r k := by
  have e : val_main_v93 (F := Ideal) ax bx cx ux gax gcx ac bc cc uc gac gcc w wa wc (ix2 r k)
      = val_main_v92 (F := Ideal) ax bx cx ux gax gcx ac bc cc uc gac gcc w wa wc (ix2 r k) := rfl
  rw [e]
  unfold val_main_v92 val_main_v90 val_main_v91
  refine (concat_apply (val_main_v47 (F := Ideal) ax bx cx ux gax gcx w wa wc) (val_main_v89 (F := Ideal) ac bc cc uc gac gcc w wa wc)
    shapeCasts_S4x4096x2048_S16384x2048 shapeCasts_S4x256x2048_S1024x2048 concatenates_S16384x2048_S1024x2048_S17408x2048_d0 r k).trans ?_
  unfold result
  by_cases h : r.val < 16384
  · simp only [joined_lat _ _ _ _ h]
    rw [val_main_v47_apply, val_main_v39_apply, val_main_v46_apply, lat_gate_a, lat_gate_c, val_main_v6_apply, val_main_v32_apply]
    refine congrArg₂ (· + ·) (congrArg₂ (· * ·) rfl (Finset.sum_congr rfl fun e _ => congrArg₂ (· * ·) ?_ ?_))
      (congrArg₂ (· * ·) rfl (Finset.sum_congr rfl fun e _ => congrArg₂ (· * ·) ?_ ?_))
    · exact congrArg ax (funext fun a => Fin.ext (by match a with | ⟨0, _⟩ => rfl | ⟨1, _⟩ => rfl | ⟨2, _⟩ => rfl))
    · exact (congrArg (val_main_v3 (F := Ideal) wa) (funext fun a => Fin.ext (by match a with | ⟨0, _⟩ => rfl | ⟨1, _⟩ => rfl))).trans (wa_apply wa e k)
    · exact (congrArg (val_main_v31 (F := Ideal) bx cx ux w) (funext fun a => Fin.ext (by
        match a with | ⟨0, _⟩ => rfl | ⟨1, _⟩ => rfl | ⟨2, _⟩ => rfl))).trans (lat_conv w e cx ux bx cc uc bc r h)
    · exact (congrArg (val_main_v5 (F := Ideal) wc) (funext fun a => Fin.ext (by match a with | ⟨0, _⟩ => rfl | ⟨1, _⟩ => rfl))).trans (wc_apply wc e k)
  · simp only [joined_ctx _ _ _ _ h]
    rw [val_main_v89_apply, val_main_v81_apply, val_main_v88_apply, ctx_gate_a, ctx_gate_c, val_main_v48_apply, val_main_v74_apply]
    refine congrArg₂ (· + ·) (congrArg₂ (· * ·) rfl (Finset.sum_congr rfl fun e _ => congrArg₂ (· * ·) ?_ ?_))
      (congrArg₂ (· * ·) rfl (Finset.sum_congr rfl fun e _ => congrArg₂ (· * ·) ?_ ?_))
    · exact congrArg ac (funext fun a => Fin.ext (by match a with | ⟨0, _⟩ => rfl | ⟨1, _⟩ => rfl | ⟨2, _⟩ => rfl))
    · exact (congrArg (val_main_v3 (F := Ideal) wa) (funext fun a => Fin.ext (by match a with | ⟨0, _⟩ => rfl | ⟨1, _⟩ => rfl))).trans (wa_apply wa e k)
    · exact (congrArg (val_main_v73 (F := Ideal) bc cc uc w) (funext fun a => Fin.ext (by
        match a with | ⟨0, _⟩ => rfl | ⟨1, _⟩ => rfl | ⟨2, _⟩ => rfl))).trans (ctx_conv w e cx ux bx cc uc bc r h)
    · exact (congrArg (val_main_v5 (F := Ideal) wc) (funext fun a => Fin.ext (by match a with | ⟨0, _⟩ => rfl | ⟨1, _⟩ => rfl))).trans (wc_apply wc e k)

end Cert.MergeReferenceIdeal.Merge

end
-- ==== Proof.MergeClaims.lean ====
/-
  The merge's claims: frames, and equality of the results.
-/
module

public import proofs.«01_k».proof.Defs
public import proofs.«01_k».proof.Proof.MergeRef
public import proofs.«01_k».proof.Proof.Gen.Merge.Frame
public import proofs.«01_k».proof.Proof.Gen.MergeReferenceIdeal.Run
public import Idealize.ShloMosaic.Lib.Quiescent

@[expose] public section

noncomputable section

namespace Cert.Proof.Merge

open Idealize.ShloMosaic Idealize.SL.Sem

theorem frame_p : Cert.quiescent_Merge := fun m ρ _ => Cert.Merge.Gen.frame m ρ
theorem frame_pi : Cert.quiescent_MergeIdeal := fun m ρ _ => Cert.MergeIdeal.Gen.frame m ρ
theorem frame_ri : Cert.quiescent_MergeReferenceIdeal := fun m ρ _ =>
  (θ_run Cert.MergeReferenceIdeal.defs _ _).mono (fun r h => ⟨fun c => (h c).2, sem_eq_zero_of_no_sems (by decide) r.2⟩)
    (Cert.MergeReferenceIdeal.Value.run m ρ)

theorem algebraic : Cert.algebraic_MergeIdeal_MergeReferenceIdeal := by
  intro m g m' g' hpre hargs
  refine ⟨fun c => Cert.MergeIdeal.Merge.resultArr m c, ?_, ?_⟩
  · exact (θ_run _ _ _).mono (fun r h c => ⟨(h c).1.trans (Cert.MergeIdeal.Merge.arr_eq m c), (h c).2⟩)
      (Cert.MergeIdeal.Value.run_blocks m g)
  · refine (θ_run _ _ _).mono (fun r h c => ⟨(h c).1.trans ?_, (h c).2⟩) (Cert.MergeReferenceIdeal.Value.run m' g')
    obtain ⟨h0, h1, h2, h3, h4, h5, h6, h7, h8, h9, h10, h11, h12, h13, h14⟩ := hargs c
    rw [Cert.MergeReferenceIdeal.Read.val_main_v93_eq, h0, h1, h2, h3, h4, h5, h6, h7, h8, h9, h10, h11, h12, h13, h14]
    funext y
    have hy : y = ValueIdx.ix2 (⟨(y 0).val, (y 0).isLt⟩ : Fin 17408) (⟨(y 1).val, (y 1).isLt⟩ : Fin 2048) :=
      funext fun a => match a with | ⟨0, _⟩ => rfl | ⟨1, _⟩ => rfl
    exact (congrArg _ hy).trans (Cert.MergeReferenceIdeal.Merge.ref_apply _ _ _ _ _ _ _ _ _ _ _ _ _ _ _ _ _)

end Cert.Proof.Merge

end
-- ==== Proof.OutArr.lean ====
/-
  The output projection's result array: what the host prepares, every grid point's block, and so the array, as one
  function of the arguments.
-/
module

public import proofs.«01_k».proof.Proof.Gen.OutProjIdeal.Value
public import proofs.«01_k».proof.Proof.Rows
public import Idealize.ShloMosaic.Lib.Pipeline.ValueKit.Geometry
public import Idealize.ShloMosaic.Lib.MatmulPlain

@[expose] public section

set_option maxRecDepth 16384

noncomputable section

namespace Cert.OutProjIdeal.Out

open Cert.OutProjIdeal Cert.OutProjIdeal.Gen Idealize.ShloMosaic Idealize.ShloMosaic.TcCoe Idealize.ShloMosaic.ValueIdx
open Cert.Rows

/-! ## The arrays the host prepares -/

variable (m : (ℓ : Loc nD τ sig) → Buf (Elt Ideal) ℓ)

/-- The modulation of the sequences, of the context, and three rows of zeros. -/
def modRows (mx : Vec Ideal S4x12288 .f32) (mc : Vec Ideal S12288 .f32) : Vec Ideal S8x12288 .f32 :=
  concatenate S8x12288 0 [⟨S4x12288, mx⟩, ⟨S1x12288, broadcastInDim S1x12288 ![1] bcast_S12288_S1x12288_1 mc⟩,
    ⟨S3x12288, broadcastInDim S3x12288 ![] bcast_S_S3x12288 (constant (F := Ideal) S_ .f32 0x00000000#32)⟩]
    concatenates_S4x12288_S1x12288_S3x12288_S8x12288_d0

theorem V_m (c : Dev nD) (r : Fin 17408) (k : Fin 2048) : V m c main_v6 (ix2 r k)
    = joined (m ((c : Thread nD τ).loc main_arg0)) (m ((c : Thread nD τ).loc main_arg1)) r k := by
  have e : V m c main_v6 = truncf (F := Ideal) .bf16 (concatenate S17408x2048 0 [⟨S16384x2048, shapeCast S16384x2048 (m ((c : Thread nD τ).loc main_arg0)) shapeCasts_S4x4096x2048_S16384x2048⟩,
      ⟨S1024x2048, shapeCast S1024x2048 (m ((c : Thread nD τ).loc main_arg1)) shapeCasts_S4x256x2048_S1024x2048⟩] concatenates_S16384x2048_S1024x2048_S17408x2048_d0) bitsLt_bf16_f32 := by
    unfold V; after_results; rfl
  rw [e]
  exact concat_apply _ _ shapeCasts_S4x4096x2048_S16384x2048 shapeCasts_S4x256x2048_S1024x2048 concatenates_S16384x2048_S1024x2048_S17408x2048_d0 r k

theorem V_x (c : Dev nD) (r : Fin 17408) (k : Fin 2048) : V m c main_v10 (ix2 r k)
    = joined (m ((c : Thread nD τ).loc main_arg2)) (m ((c : Thread nD τ).loc main_arg3)) r k := by
  have e : V m c main_v10 = concatenate S17408x2048 0 [⟨S16384x2048, shapeCast S16384x2048 (m ((c : Thread nD τ).loc main_arg2)) shapeCasts_S4x4096x2048_S16384x2048⟩,
      ⟨S1024x2048, shapeCast S1024x2048 (m ((c : Thread nD τ).loc main_arg3)) shapeCasts_S4x256x2048_S1024x2048⟩] concatenates_S16384x2048_S1024x2048_S17408x2048_d0 := by
    unfold V; after_results; rfl
  rw [e]
  exact concat_apply _ _ _ _ _ r k

theorem V_w (c : Dev nD) : V m c main_v7 = m ((c : Thread nD τ).loc main_arg6) := by
  have e : V m c main_v7 = truncf (F := Ideal) .bf16 (m ((c : Thread nD τ).loc main_arg6)) bitsLt_bf16_f32 := by
    unfold V; after_results
  exact e

theorem V_mod (c : Dev nD) : V m c main_v11
    = shapeCast S48x1x2048 (modRows (m ((c : Thread nD τ).loc main_arg4)) (m ((c : Thread nD τ).loc main_arg5))) shapeCasts_S8x12288_S48x1x2048 := by
  unfold V; after_results
  refine congrArg (fun z => shapeCast S48x1x2048 z shapeCasts_S8x12288_S48x1x2048) ?_
  unfold modRows
  refine StableHlo.concatenate_congr _ _ ?_ _ _
  refine congrArg₂ List.cons (congrArg (Sigma.mk S4x12288) ?_) (congrArg₂ List.cons (congrArg (Sigma.mk S1x12288) ?_)
    (congrArg₂ List.cons (congrArg (Sigma.mk S3x12288) ?_) rfl))
  · refine (StableHlo.unary_result_ne (r := main_arg4) _ _ _ _ _ _ (by decide)).trans ?_
    refine (StableHlo.nullary_result_ne (r := main_arg4) _ _ _ _ (by decide)).trans ?_
    exact StableHlo.unary_result_ne (r := main_arg4) _ _ _ _ _ _ (by decide)
  · refine (StableHlo.unary_result_ne (r := main_v0) _ _ _ _ _ _ (by decide)).trans ?_
    refine (StableHlo.nullary_result_ne (r := main_v0) _ _ _ _ (by decide)).trans ?_
    exact StableHlo.unary_result _ main_v0 _ _ _ _
  · refine (StableHlo.unary_result _ main_v1 _ _ _ _).trans ?_
    exact congrArg (broadcastInDim S3x12288 ![] bcast_S_S3x12288) (StableHlo.nullary_result main_cst _ _ _)

/-- The gate's third of the modulation at the row a tile reads: sequence `b`'s for `b < 4`, the context's for `b = 4`. -/
def gateRow (mx : Vec Ideal S4x12288 .f32) (mc : Vec Ideal S12288 .f32) (b : Nat) (k : Fin 2048) : EReal :=
  if h : b < 4 then mx (ix2 (⟨b, h⟩ : Fin 4) (⟨4096 + k.val, by omega⟩ : Fin 12288)) else mc (ix1 (⟨4096 + k.val, by omega⟩ : Fin 12288))

theorem modRows_apply (mx : Vec Ideal S4x12288 .f32) (mc : Vec Ideal S12288 .f32) (b : Nat) (hb : b < 5) (n : Fin 48)
    (hn : n.val = b * 6 + 2) (k : Fin 2048) :
    shapeCast S48x1x2048 (modRows mx mc) shapeCasts_S8x12288_S48x1x2048 (ix3 n (0 : Fin 1) k) = gateRow mx mc b k := by
  refine (shapeCast_apply _ _ _ (ix2 (⟨b, by omega⟩ : Fin 8) (⟨4096 + k.val, by omega⟩ : Fin 12288) : S8x12288.Idx) ?_).trans ?_
  · rw [Shape.rowMajor_val_three, Shape.rowMajor_val_two]
    show b * 12288 + (4096 + k.val) = (n.val * 1 + 0) * 2048 + k.val
    omega
  · unfold modRows gateRow
    split
    · rename_i h
      refine concatenate_apply_piece (t := S8x12288) 0 [⟨S4x12288, mx⟩, ⟨S1x12288, broadcastInDim S1x12288 ![1] bcast_S12288_S1x12288_1 mc⟩,
        ⟨S3x12288, broadcastInDim S3x12288 ![] bcast_S_S3x12288 (constant (F := Ideal) S_ .f32 0x00000000#32)⟩] concatenates_S4x12288_S1x12288_S3x12288_S8x12288_d0
        (ix2 (⟨b, by omega⟩ : Fin 8) (⟨4096 + k.val, by omega⟩ : Fin 12288) : S8x12288.Idx) 0 (by simp) S4x12288 mx rfl rfl 0 rfl
        (ix2 (⟨b, h⟩ : Fin 4) (⟨4096 + k.val, by omega⟩ : Fin 12288) : S4x12288.Idx) (fun a ha => by
          match a, ha with | ⟨0, _⟩, ha => exact absurd rfl ha | ⟨1, _⟩, _ => rfl) (by show 0 + b = b; omega)
    · rename_i h
      refine (concatenate_apply_piece (t := S8x12288) 0 [⟨S4x12288, mx⟩, ⟨S1x12288, broadcastInDim S1x12288 ![1] bcast_S12288_S1x12288_1 mc⟩,
        ⟨S3x12288, broadcastInDim S3x12288 ![] bcast_S_S3x12288 (constant (F := Ideal) S_ .f32 0x00000000#32)⟩] concatenates_S4x12288_S1x12288_S3x12288_S8x12288_d0
        (ix2 (⟨b, by omega⟩ : Fin 8) (⟨4096 + k.val, by omega⟩ : Fin 12288) : S8x12288.Idx) 1 (by simp) S1x12288 _ rfl rfl 4 rfl
        (ix2 (0 : Fin 1) (⟨4096 + k.val, by omega⟩ : Fin 12288) : S1x12288.Idx) (fun a ha => by
          match a, ha with | ⟨0, _⟩, ha => exact absurd rfl ha | ⟨1, _⟩, _ => rfl) (by show 4 + 0 = b; omega)).trans ?_
      exact broadcastInDim_apply _ bcast_S12288_S1x12288_1 mc _ (ix1 (⟨4096 + k.val, by omega⟩ : Fin 12288)) (fun a => match a with
        | ⟨0, _⟩ => rfl)

/-! ## The block of a grid point -/

theorem off2 : (![0, 0] : Fin 2 → Nat) = fun _ => 0 := by decide
theorem off3 : (![0, 0, 0] : Fin 3 → Nat) = fun _ => 0 := by decide

/-- One entry of a block: the residual plus the gate times the row's product with the column. -/
theorem pay_apply (x0 : Vec Ideal S512x2048 .bf16) (x1 : Vec Ideal S1x2048x1024 .bf16) (x2 : Vec Ideal S512x1024 .f32)
    (x3 : Vec Ideal S1x1x1024 .f32) (p : Fin 512) (q : Fin 1024) :
    out0_4 x0 x1 x2 x3 (ix2 p q) = (x2 (ix2 p q) + x3 (ix3 (0 : Fin 1) (0 : Fin 1) q)
      * ∑ e : Fin 2048, x0 (ix2 p e) * x1 (ix3 (0 : Fin 1) e q) : EReal) := by
  unfold out0_4
  refine (congrFun (View.canon_unit_zero (S := S512x1024) (Val := Elt Ideal) (e := .f32) off2 _ _) _).trans ?_
  rw [View.ld_unit_zero (S := S512x2048) (Val := Elt Ideal) (e := .bf16) off2, View.ld_unit_zero (S := S1x2048x1024) (Val := Elt Ideal) (e := .bf16) off3,
    View.ld_unit_zero (S := S512x1024) (Val := Elt Ideal) (e := .f32) off2, View.ld_unit_zero (S := S1x1x1024) (Val := Elt Ideal) (e := .f32) off3]
  unfold k0_pay1
  rw [addf_apply, mulf_apply]
  refine congrArg₂ (· + ·) (congrFun (shapeCast_self _ _) _) (congrArg₂ (· * ·) ?_ ?_)
  · refine (broadcastTo_apply (s := S1x1024) (t := S512x1024) _ _ _ (ix2 (0 : Fin 1) q : S1x1024.Idx) (fun a => by match a with | ⟨0, _⟩ => rfl | ⟨1, _⟩ => rfl)).trans ?_
    rw [shapeCast_dropUnit_apply]
    exact congrArg x3 (funext fun a => Fin.ext (by match a with | ⟨0, _⟩ => rfl | ⟨1, _⟩ => rfl | ⟨2, _⟩ => rfl))
  · refine (Ideal.matmul_plain_apply none _ _ _ p q).trans ?_
    rw [constant_apply, Ideal.ofBits_zero_f32, zero_add]
    refine Finset.sum_congr rfl fun e _ => ?_
    refine congrArg₂ (· * ·) (congrFun (shapeCast_self _ _) _) ?_
    rw [shapeCast_dropUnit_apply]
    exact congrArg x1 (funext fun a => Fin.ext (by match a with | ⟨0, _⟩ => rfl | ⟨1, _⟩ => rfl | ⟨2, _⟩ => rfl))

/-! ## The blocks of a grid point -/

theorem index0 : ∀ t : Fin cfg0.N, win0_0.index t = ![(grid0.coords t 0).val, 0] :=
  (by decide +kernel : ∀ t : Fin grid0.N, win0_0.index t = ![(grid0.coords t 0).val, 0])
theorem index1 : ∀ t : Fin cfg0.N, win0_1.index t = ![0, 0, (grid0.coords t 1).val] :=
  (by decide +kernel : ∀ t : Fin grid0.N, win0_1.index t = ![0, 0, (grid0.coords t 1).val])
theorem index2 : ∀ t : Fin cfg0.N, win0_2.index t = ![(grid0.coords t 0).val, (grid0.coords t 1).val] :=
  (by decide +kernel : ∀ t : Fin grid0.N, win0_2.index t = ![(grid0.coords t 0).val, (grid0.coords t 1).val])
theorem index3 : ∀ t : Fin cfg0.N, win0_3.index t = ![min ((grid0.coords t 0).val / 8) 4 * 6 + 2, 0, (grid0.coords t 1).val] :=
  (by decide +kernel : ∀ t : Fin grid0.N, win0_3.index t = ![min ((grid0.coords t 0).val / 8) 4 * 6 + 2, 0, (grid0.coords t 1).val])
theorem index4 : ∀ t : Fin cfg0.N, win0_4.index t = ![(grid0.coords t 0).val, (grid0.coords t 1).val] :=
  (by decide +kernel : ∀ t : Fin grid0.N, win0_4.index t = ![(grid0.coords t 0).val, (grid0.coords t 1).val])

theorem rowTile_lt (t : Fin cfg0.N) : (grid0.coords t 0).val < 34 := (grid0.coords t 0).isLt
theorem colTile_lt (t : Fin cfg0.N) : (grid0.coords t 1).val < 2 := (grid0.coords t 1).isLt

/-- Row `p` and column `q` of a point's block, in the whole array. -/
abbrev rowAt (t : Fin cfg0.N) (p : Fin 512) : Fin 17408 :=
  ⟨(grid0.coords t 0).val * 512 + p.val, by have := rowTile_lt t; omega⟩
abbrev colAt (t : Fin cfg0.N) (q : Fin 1024) : Fin 2048 :=
  ⟨(grid0.coords t 1).val * 1024 + q.val, by have := colTile_lt t; omega⟩

theorem m_apply (c : Dev nD) (t : Fin cfg0.N) (p : Fin 512) (e : Fin 2048) :
    iblk m c 0 t (ix2 p e) = V m c main_v6 (ix2 (rowAt t p) e) := by
  blk_simp [iblk]
  refine congrArg (V m c main_v6) ?_
  blk_ext [index0]

theorem w_apply (c : Dev nD) (t : Fin cfg0.N) (e : Fin 2048) (q : Fin 1024) :
    iblk m c 1 t (ix3 (0 : Fin 1) e q) = V m c main_v7 (ix3 (0 : Fin 2) e (colAt t q)) := by
  blk_simp [iblk]
  refine congrArg (V m c main_v7) ?_
  blk_ext [index1]

theorem x_apply (c : Dev nD) (t : Fin cfg0.N) (p : Fin 512) (q : Fin 1024) :
    iblk m c 2 t (ix2 p q) = V m c main_v10 (ix2 (rowAt t p) (colAt t q)) := by
  blk_simp [iblk]
  refine congrArg (V m c main_v10) ?_
  blk_ext [index2]

theorem g_apply (c : Dev nD) (t : Fin cfg0.N) (q : Fin 1024) :
    iblk m c 3 t (ix3 (0 : Fin 1) (0 : Fin 1) q)
      = V m c main_v11 (ix3 (⟨min ((grid0.coords t 0).val / 8) 4 * 6 + 2, by omega⟩ : Fin 48) (0 : Fin 1) (colAt t q)) := by
  blk_simp [iblk]
  refine congrArg (V m c main_v11) ?_
  blk_ext [index3]

/-! ## The result -/

/-- The kernel's result at row `r` and column `k`: the residual plus the gate times the merged row's product with the
    column of the weight. -/
def result (mx : Vec Ideal S4x4096x2048 .f32) (mc : Vec Ideal S4x256x2048 .f32) (x : Vec Ideal S4x4096x2048 .f32)
    (ctx : Vec Ideal S4x256x2048 .f32) (gx : Vec Ideal S4x12288 .f32) (gc : Vec Ideal S12288 .f32) (w : Vec Ideal S2x2048x2048 .f32)
    (r : Fin 17408) (k : Fin 2048) : EReal :=
  joined x ctx r k + gateRow gx gc (min (r.val / 4096) 4) k * ∑ e : Fin 2048, joined mx mc r e * w (ix3 (0 : Fin 2) e k)

/-- The result array after the run. -/
def resultArr (c : Dev nD) : Buf (Elt Ideal) ((c : Thread nD τ).loc main_v12) := fun y =>
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) ⟨(y 0).val, (y 0).isLt⟩ ⟨(y 1).val, (y 1).isLt⟩

theorem block_eq (c : Dev nD) (t : Fin cfg0.N) (p : Fin 512) (q : Fin 1024) :
    out0_4 (iblk m c 0 t) (iblk m c 1 t) (iblk m c 2 t) (iblk m c 3 t) (ix2 p q)
      = result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (rowAt t p) (colAt t q) := by
  refine (pay_apply _ _ _ _ p q).trans ?_
  unfold result
  refine congrArg₂ (· + ·) ((x_apply m c t p q).trans (V_x m c _ _)) (congrArg₂ (· * ·) ?_ (Finset.sum_congr rfl fun e _ => congrArg₂ (· * ·) ?_ ?_))
  · refine (g_apply m c t q).trans ?_
    rw [V_mod, modRows_apply _ _ (min ((grid0.coords t 0).val / 8) 4) (by omega) _ rfl]
    refine congrArg (fun b => gateRow _ _ b _) ?_
    have := p.isLt
    show min ((grid0.coords t 0).val / 8) 4 = min (((grid0.coords t 0).val * 512 + p.val) / 4096) 4
    omega
  · exact (m_apply m c t p e).trans (V_m m c _ _)
  · exact (w_apply m c t e q).trans (congrFun (V_w m c) _)

theorem arr_eq (c : Dev nD) : (dats m 0 c).arrAt 4 cfg0.N = resultArr m c := by
  refine (dats m 0 c).arrAt_eq_of_covers 4 _ (by decide +kernel) fun t hf y => ?_
  blk_simp
  rw [after0_4]
  have h0 : (y 0).val < 512 := (y 0).isLt
  have h1 : (y 1).val < 1024 := (y 1).isLt
  have e0 : (((win0_4.blk t).view.emb y 0 : Fin _) : ℕ) = (grid0.coords t 0).val * 512 + (y 0).val := by
    blk_simp [index4]
  have e1 : (((win0_4.blk t).view.emb y 1 : Fin _) : ℕ) = (grid0.coords t 1).val * 1024 + (y 1).val := by
    blk_simp [index4]
  have hy : y = (ix2 (⟨(y 0).val, h0⟩ : Fin 512) (⟨(y 1).val, h1⟩ : Fin 1024) : S512x1024.Idx) :=
    funext fun a => Fin.ext (by match a with | ⟨0, _⟩ => rfl | ⟨1, _⟩ => rfl)
  refine (congrArg (out0_4 _ _ _ _) hy).trans ((block_eq m c t _ _).trans ?_)
  unfold resultArr
  refine congrArg₂ (result _ _ _ _ _ _ _) (Fin.ext ?_) (Fin.ext ?_)
  · exact e0.symm
  · exact e1.symm

end Cert.OutProjIdeal.Out

end
-- ==== Proof.OutRef.lean ====
/-
  The output projection's reference at an index: the same residual, gate and product.
-/
module

public import proofs.«01_k».proof.Proof.OutArr
public import proofs.«01_k».proof.Proof.Gen.OutProjReferenceIdeal.Read

@[expose] public section

set_option maxRecDepth 16384

noncomputable section

namespace Cert.OutProjReferenceIdeal.Out

open Cert.OutProjReferenceIdeal Cert.OutProjReferenceIdeal.Gen Cert.OutProjReferenceIdeal.Read
open Idealize.ShloMosaic Idealize.ShloMosaic.TcCoe Idealize.ShloMosaic.ValueIdx
open Cert.Rows Cert.OutProjIdeal.Out

theorem weight_apply (w : Vec Ideal S2x2048x2048 .f32) (e k : Fin 2048) :
    val_main_v14 (F := Ideal) w (ix2 e k) = w (ix3 (0 : Fin 2) e k) := by
  rw [val_main_v14_apply, val_main_v13_apply]
  refine congrArg w (funext fun a => Fin.ext ?_)
  match a with
  | ⟨0, _⟩ => rfl
  | ⟨1, _⟩ => show (e.val * 2048 + k.val) / 2048 % 2048 = e.val; omega
  | ⟨2, _⟩ => show (e.val * 2048 + k.val) % 2048 = k.val; omega

theorem lat_apply (m x : Vec Ideal S4x4096x2048 .f32) (g : Vec Ideal S4x12288 .f32) (w : Vec Ideal S2x2048x2048 .f32)
    (b : Fin 4) (n : Fin 4096) (k : Fin 2048) :
    val_main_v18 (F := Ideal) m x g w (ix3 b n k)
      = (x (ix3 b n k) + g (ix2 b (⟨4096 + k.val, by omega⟩ : Fin 12288)) * ∑ e : Fin 2048, m (ix3 b n e) * w (ix3 (0 : Fin 2) e k) : EReal) := by
  rw [val_main_v18_apply, val_main_v17_apply, val_main_v16_apply, val_main_v6_apply, val_main_v2_apply, val_main_v15_apply]
  refine congrArg₂ (· + ·) rfl (congrArg₂ (· * ·) ?_ (Finset.sum_congr rfl fun e _ => congrArg₂ (· * ·) ?_ ?_))
  · exact congrArg g (funext fun a => Fin.ext (by match a with | ⟨0, _⟩ => rfl | ⟨1, _⟩ => rfl))
  · exact congrArg m (funext fun a => Fin.ext (by match a with | ⟨0, _⟩ => rfl | ⟨1, _⟩ => rfl | ⟨2, _⟩ => rfl))
  · refine Eq.trans (congrArg _ (funext fun a => Fin.ext (by match a with | ⟨0, _⟩ => rfl | ⟨1, _⟩ => rfl))) (weight_apply w e k)

theorem ctx_apply (m x : Vec Ideal S4x256x2048 .f32) (g : Vec Ideal S12288 .f32) (w : Vec Ideal S2x2048x2048 .f32)
    (b : Fin 4) (n : Fin 256) (k : Fin 2048) :
    val_main_v25 (F := Ideal) m x g w (ix3 b n k)
      = (x (ix3 b n k) + g (ix1 (⟨4096 + k.val, by omega⟩ : Fin 12288)) * ∑ e : Fin 2048, m (ix3 b n e) * w (ix3 (0 : Fin 2) e k) : EReal) := by
  rw [val_main_v25_apply, val_main_v24_apply, val_main_v23_apply, val_main_v22_apply, val_main_v9_apply, val_main_v21_apply]
  refine congrArg₂ (· + ·) rfl (congrArg₂ (· * ·) ?_ (Finset.sum_congr rfl fun e _ => congrArg₂ (· * ·) ?_ ?_))
  · exact congrArg g (funext fun a => Fin.ext (by match a with | ⟨0, _⟩ => rfl))
  · exact congrArg m (funext fun a => Fin.ext (by match a with | ⟨0, _⟩ => rfl | ⟨1, _⟩ => rfl | ⟨2, _⟩ => rfl))
  · refine Eq.trans (congrArg (val_main_v14 (F := Ideal) w) (funext fun a => Fin.ext (by match a with | ⟨0, _⟩ => rfl | ⟨1, _⟩ => rfl))) (weight_apply w e k)

theorem ref_apply (x0 : Vec Ideal S4x4096x2048 .f32) (x1 : Vec Ideal S4x256x2048 .f32) (x2 : Vec Ideal S4x4096x2048 .f32)
    (x3 : Vec Ideal S4x256x2048 .f32) (x4 : Vec Ideal S4x12288 .f32) (x5 : Vec Ideal S12288 .f32) (x6 : Vec Ideal S2x2048x2048 .f32)
    (r : Fin 17408) (k : Fin 2048) :
    val_main_v28 (F := Ideal) x0 x1 x2 x3 x4 x5 x6 (ix2 r k) = result x0 x1 x2 x3 x4 x5 x6 r k := by
  unfold val_main_v28 val_main_v26 val_main_v27
  refine (concat_apply (val_main_v18 (F := Ideal) x0 x2 x4 x6) (val_main_v25 (F := Ideal) x1 x3 x5 x6) shapeCasts_S4x4096x2048_S16384x2048
    shapeCasts_S4x256x2048_S1024x2048 concatenates_S16384x2048_S1024x2048_S17408x2048_d0 r k).trans ?_
  unfold result gateRow
  by_cases h : r.val < 16384
  · simp only [joined_lat _ _ _ _ h]
    rw [dif_pos (by omega : min (r.val / 4096) 4 < 4)]
    refine (lat_apply _ _ _ _ _ _ _).trans ?_
    refine congrArg₂ (· + ·) rfl (congrArg₂ (· * ·) (congrArg x4 ?_) rfl)
    exact funext fun a => Fin.ext (by
      match a with
      | ⟨0, _⟩ => show r.val / 4096 = min (r.val / 4096) 4; omega
      | ⟨1, _⟩ => rfl)
  · simp only [joined_ctx _ _ _ _ h]
    rw [dif_neg (by omega : ¬ min (r.val / 4096) 4 < 4)]
    exact ctx_apply _ _ _ _ _ _ _

end Cert.OutProjReferenceIdeal.Out

end
-- ==== Proof.OutClaims.lean ====
/-
  The output projection's claims: frames, and equality of the results.
-/
module

public import proofs.«01_k».proof.Defs
public import proofs.«01_k».proof.Proof.OutRef
public import proofs.«01_k».proof.Proof.Gen.OutProj.Frame
public import proofs.«01_k».proof.Proof.Gen.OutProjReferenceIdeal.Run
public import Idealize.ShloMosaic.Lib.Quiescent

@[expose] public section

noncomputable section

namespace Cert.Proof.Out

open Idealize.ShloMosaic Idealize.SL.Sem

theorem frame_p : Cert.quiescent_OutProj := fun m ρ _ => Cert.OutProj.Gen.frame m ρ
theorem frame_pi : Cert.quiescent_OutProjIdeal := fun m ρ _ => Cert.OutProjIdeal.Gen.frame m ρ
theorem frame_ri : Cert.quiescent_OutProjReferenceIdeal := fun m ρ _ =>
  (θ_run Cert.OutProjReferenceIdeal.defs _ _).mono (fun r h => ⟨fun c => (h c).2, sem_eq_zero_of_no_sems (by decide) r.2⟩)
    (Cert.OutProjReferenceIdeal.Value.run m ρ)

theorem algebraic : Cert.algebraic_OutProjIdeal_OutProjReferenceIdeal := by
  intro m g m' g' hpre hargs
  refine ⟨fun c => Cert.OutProjIdeal.Out.resultArr m c, ?_, ?_⟩
  · exact (θ_run _ _ _).mono (fun r h c => ⟨(h c).1.trans (Cert.OutProjIdeal.Out.arr_eq m c), (h c).2⟩)
      (Cert.OutProjIdeal.Value.run_blocks m g)
  · refine (θ_run _ _ _).mono (fun r h c => ⟨(h c).1.trans ?_, (h c).2⟩) (Cert.OutProjReferenceIdeal.Value.run m' g')
    obtain ⟨h0, h1, h2, h3, h4, h5, h6⟩ := hargs c
    rw [Cert.OutProjReferenceIdeal.Read.val_main_v28_eq, h0, h1, h2, h3, h4, h5, h6]
    funext y
    have hy : y = ValueIdx.ix2 (⟨(y 0).val, (y 0).isLt⟩ : Fin 17408) (⟨(y 1).val, (y 1).isLt⟩ : Fin 2048) :=
      funext fun a => match a with | ⟨0, _⟩ => rfl | ⟨1, _⟩ => rfl
    exact (congrArg _ hy).trans (Cert.OutProjReferenceIdeal.Out.ref_apply _ _ _ _ _ _ _ _ _)

end Cert.Proof.Out

end
-- ==== Proof.InRun.lean ====
/-
  One grid point of the input projection, run: what it leaves in its results' blocks and in the scratch, as functions of
  the blocks it reads.
-/
module

public import proofs.«01_k».proof.Proof.Gen.InProjIdeal.Frame
public import Idealize.ShloMosaic.Lib.Pipeline.Value
public import Idealize.ShloMosaic.Lib.Pipeline.TableIdle

@[expose] public section

set_option maxRecDepth 16384

noncomputable section

namespace Cert.InProjIdeal.InP

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What a point computes -/

/-- The normalised and modulated rows of a tile. -/
def hBlk (x : Vec F S512x2048 .f32) (ln sh sc : Vec F S1x1x2048 .f32) : FVec F S512x2048 .bf16 :=
  truncf .bf16 (addf (mulf (mulf (mulf x (broadcastTo S512x2048 (rsqrt (addf (divf (shapeCast S512x1
      (multiReduction .add [1] S512 (mulf x x) 0x00000000#32 reduces_S512x2048_S512 (.inl rfl) rfl) shapeCasts_S512_S512x1)
      (broadcast S512x1 (Scalar.ofBits .f32 0x45000000#32))) (broadcast S512x1 (Scalar.ofBits .f32 0x358637BD#32))))
      broadcasts_S512x1_S512x2048))
    (broadcastTo S512x2048 (shapeCast S1x2048 ln shapeCasts_S1x1x2048_S1x2048) broadcasts_S1x2048_S512x2048))
    (broadcastTo S512x2048 (addf (broadcast S1x2048 (Scalar.ofBits .f32 0x3F800000#32))
      (shapeCast S1x2048 sc shapeCasts_S1x1x2048_S1x2048)) broadcasts_S1x2048_S512x2048))
    (broadcastTo S512x2048 (shapeCast S1x2048 sh shapeCasts_S1x1x2048_S1x2048) broadcasts_S1x2048_S512x2048)) bitsLt_bf16_f32

/-- The small projections of a tile. -/
def psBlk (h : FVec F S512x2048 .bf16) (w : Vec F S1x2048x896 .bf16) : FVec F S512x896 .f32 :=
  matmul dot_S512x2048_S2048x896_S512x896_1_0_0_1_n_n none h (shapeCast S2048x896 w shapeCasts_S1x2048x896_S2048x896)
    (constant S512x896 .f32 0x00000000#32)

/-- A tile of rows against a block of one wide segment's columns. -/
def prod (h : FVec F S512x2048 .bf16) (w : Vec F S1x512x2048 .bf16) : FVec F S512x512 .f32 :=
  matmul dot_S512x2048_S512x2048_S512x512_1_1_0_0_n_n none h (shapeCast S512x2048 w shapeCasts_S1x512x2048_S512x2048)
    (constant S512x512 .f32 0x00000000#32)

def bBlk (h : FVec F S512x2048 .bf16) (w : Vec F S1x512x2048 .bf16) : FVec F S512x512 .bf16 := truncf .bf16 (prod h w) bitsLt_bf16_f32

def zBlk (h : FVec F S512x2048 .bf16) (w w' : Vec F S1x512x2048 .bf16) : FVec F S512x512 .bf16 :=
  truncf .bf16 (mulf (prod h w) (prod h w')) bitsLt_bf16_f32

/-- The sigmoid of a product, as the kernel spells it. -/
def gBlk (h : FVec F S512x2048 .bf16) (w : Vec F S1x512x2048 .bf16) : FVec F S512x512 .bf16 :=
  truncf .bf16 (divf (broadcast S512x512 (Scalar.ofBits .f32 0x3F800000#32))
    (addf (broadcast S512x512 (Scalar.ofBits .f32 0x3F800000#32))
      (exp (subf (broadcast S512x512 (Scalar.ofBits .f32 0x00000000#32)) (prod h w))))) bitsLt_bf16_f32

/-! ## The condition of the body's branch -/

abbrev first (i : grid0.Coords) : Prop := k0_cond1 i = 1#1

/-- It holds at the first of a row tile's four points. -/
theorem first_iff : ∀ t : Fin cfg0.N, first (grid0.coords t) ↔ t.val % 4 = 0 := fun t => by
  have ht : t.val < 136 := Nat.lt_of_lt_of_eq t.isLt N_0
  have e1 : (grid0.coords t 1).val = t.val / 1 % 4 := Pipeline.Grid.coords_val t 1 (by decide) rfl
  simp only [first, k0_cond1, e1]
  word_cmp

theorem off2 : (![0, 0] : Fin 2 → Nat) = fun _ => 0 := by decide
theorem off3 : (![0, 0, 0] : Fin 3 → Nat) = fun _ => 0 := by decide

/-- A buffer of which the whole was stored last holds what was stored. -/
theorem stored {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e) :
    v.read (Elt F) (v.writes (Elt F) f [⟨Rect.unit off S.size inb, w⟩]) = w := by
  rw [View.read_writes_eq_canon v f _ (fun y => ⟨_, List.mem_singleton_self _, by
    subst h; show y ∈ (Rect.whole S).set; rw [Rect.set_whole]; exact Finset.mem_univ y⟩)]
  exact View.canon_unit_zero h inb w

section Run
variable (c : Dev nD) (i : grid0.Coords) (arg2 : Memref sig .tc .vmem S512x2048 .f32) (arg3 : Memref sig .tc .vmem S1x1x2048 .f32) (arg4 : Memref sig .tc .vmem S1x1x2048 .f32) (arg5 : Memref sig .tc .vmem S1x1x2048 .f32) (arg6 : Memref sig .tc .vmem S1x2048x896 .bf16) (arg7 : Memref sig .tc .vmem S1x512x2048 .bf16) (arg8 : Memref sig .tc .vmem S1x512x2048 .bf16) (arg9 : Memref sig .tc .vmem S1x512x2048 .bf16) (arg10 : Memref sig .tc .vmem S1x512x2048 .bf16) (arg11 : Memref sig .tc .vmem S1x512x2048 .bf16) (arg12 : Memref sig .tc .vmem S512x896 .f32) (arg13 : Memref sig .tc .vmem S512x512 .bf16) (arg14 : Memref sig .tc .vmem S512x512 .bf16) (arg15 : Memref sig .tc .vmem S512x512 .bf16) (arg16 : Memref sig .tc .vmem S512x512 .bf16) (arg17 : Memref sig .tc .vmem S512x2048 .bf16)
  (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole)
  (x0 : Vec F S512x2048 .f32) (x1 : Vec F S1x1x2048 .f32) (x2 : Vec F S1x1x2048 .f32) (x3 : Vec F S1x1x2048 .f32) (x4 : Vec F S1x2048x896 .bf16) (x5 : Vec F S1x512x2048 .bf16) (x6 : Vec F S1x512x2048 .bf16) (x7 : Vec F S1x512x2048 .bf16) (x8 : Vec F S1x512x2048 .bf16) (x9 : Vec F S1x512x2048 .bf16)

set_option maxHeartbeats 4000000 in
theorem run_later (hc : ¬first i) (y : Vec F S512x896 .f32) (h : Vec F S512x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare y ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare h
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare y ∗ owns (c : Thread nD τ) arg13 fullShare (bBlk h x5) ∗ owns (c : Thread nD τ) arg14 fullShare (zBlk h x6 x7) ∗ owns (c : Thread nD τ) arg15 fullShare (gBlk h x8) ∗ owns (c : Thread nD τ) arg16 fullShare (gBlk h x9) ∗ owns (c : Thread nD τ) arg17 fullShare h) -∗ K ⟨⟩))
    ⊢ wp frame (wpE (defs₀ (F := F)) Variants.none c none) E (cc0_in_projection i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  unfold cc0_in_projection k0_part1
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg17.eq_unread hfs
  sl_exec (disch := sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr
    swap; · iexact H11
    ipureintro
    sl_unfold_run_names
    refine (stored _ _ off2 _ _).trans ?_
    simp (disch := decide) only [View.readAt_eq_ld, Memref.IsWhole.read_unread, shapeCast_self,
      View.ld_unit_zero (S := S512x2048) (Val := Elt F) (e := .bf16) off2, View.ld_unit_zero (S := S512x2048) (Val := Elt F) (e := .f32) off2,
      View.ld_unit_zero (S := S1x512x2048) (Val := Elt F) (e := .bf16) off3, View.ld_unit_zero (S := S1x2048x896) (Val := Elt F) (e := .bf16) off3,
      View.ld_unit_zero (S := S1x1x2048) (Val := Elt F) (e := .f32) off3,
      View.readCov_unit_zero (S := S512x2048) (Val := Elt F) (e := .bf16) arg17.view off2]
    rfl
  isplitl [H12]
  · iexists _; isplitr
    swap; · iexact H12
    ipureintro
    sl_unfold_run_names
    refine (stored _ _ off2 _ _).trans ?_
    simp (disch := decide) only [View.readAt_eq_ld, Memref.IsWhole.read_unread, shapeCast_self,
      View.ld_unit_zero (S := S512x2048) (Val := Elt F) (e := .bf16) off2, View.ld_unit_zero (S := S512x2048) (Val := Elt F) (e := .f32) off2,
      View.ld_unit_zero (S := S1x512x2048) (Val := Elt F) (e := .bf16) off3, View.ld_unit_zero (S := S1x2048x896) (Val := Elt F) (e := .bf16) off3,
      View.ld_unit_zero (S := S1x1x2048) (Val := Elt F) (e := .f32) off3,
      View.readCov_unit_zero (S := S512x2048) (Val := Elt F) (e := .bf16) arg17.view off2]
    rfl
  isplitl [H13]
  · iexists _; isplitr
    swap; · iexact H13
    ipureintro
    sl_unfold_run_names
    refine (stored _ _ off2 _ _).trans ?_
    simp (disch := decide) only [View.readAt_eq_ld, Memref.IsWhole.read_unread, shapeCast_self,
      View.ld_unit_zero (S := S512x2048) (Val := Elt F) (e := .bf16) off2, View.ld_unit_zero (S := S512x2048) (Val := Elt F) (e := .f32) off2,
      View.ld_unit_zero (S := S1x512x2048) (Val := Elt F) (e := .bf16) off3, View.ld_unit_zero (S := S1x2048x896) (Val := Elt F) (e := .bf16) off3,
      View.ld_unit_zero (S := S1x1x2048) (Val := Elt F) (e := .f32) off3,
      View.readCov_unit_zero (S := S512x2048) (Val := Elt F) (e := .bf16) arg17.view off2]
    rfl
  isplitl [H14]
  · iexists _; isplitr
    swap; · iexact H14
    ipureintro
    sl_unfold_run_names
    refine (stored _ _ off2 _ _).trans ?_
    simp (disch := decide) only [View.readAt_eq_ld, Memref.IsWhole.read_unread, shapeCast_self,
      View.ld_unit_zero (S := S512x2048) (Val := Elt F) (e := .bf16) off2, View.ld_unit_zero (S := S512x2048) (Val := Elt F) (e := .f32) off2,
      View.ld_unit_zero (S := S1x512x2048) (Val := Elt F) (e := .bf16) off3, View.ld_unit_zero (S := S1x2048x896) (Val := Elt F) (e := .bf16) off3,
      View.ld_unit_zero (S := S1x1x2048) (Val := Elt F) (e := .f32) off3,
      View.readCov_unit_zero (S := S512x2048) (Val := Elt F) (e := .bf16) arg17.view off2]
    rfl
  iexists _; isplitr; · ipureintro; exact harg17.read_unread _
  iexact HS

set_option maxHeartbeats 4000000 in
theorem run_first (hc : first i) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (psBlk (hBlk x0 x1 x2 x3) x4) ∗ owns (c : Thread nD τ) arg13 fullShare (bBlk (hBlk x0 x1 x2 x3) x5) ∗ owns (c : Thread nD τ) arg14 fullShare (zBlk (hBlk x0 x1 x2 x3) x6 x7) ∗ owns (c : Thread nD τ) arg15 fullShare (gBlk (hBlk x0 x1 x2 x3) x8) ∗ owns (c : Thread nD τ) arg16 fullShare (gBlk (hBlk x0 x1 x2 x3) x9) ∗ owns (c : Thread nD τ) arg17 fullShare (hBlk x0 x1 x2 x3)) -∗ K ⟨⟩))
    ⊢ wp frame (wpE (defs₀ (F := F)) Variants.none c none) E (cc0_in_projection i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  unfold cc0_in_projection k0_part1
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%ds, %fs, -, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
  sl_exec (disch := sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr
    swap; · iexact H10
    ipureintro
    sl_unfold_run_names
    refine (stored _ _ off2 _ _).trans ?_
    simp (disch := decide) only [View.readAt_eq_ld, Memref.IsWhole.read_unread, shapeCast_self,
      View.ld_unit_zero (S := S512x2048) (Val := Elt F) (e := .bf16) off2, View.ld_unit_zero (S := S512x2048) (Val := Elt F) (e := .f32) off2,
      View.ld_unit_zero (S := S1x512x2048) (Val := Elt F) (e := .bf16) off3, View.ld_unit_zero (S := S1x2048x896) (Val := Elt F) (e := .bf16) off3,
      View.ld_unit_zero (S := S1x1x2048) (Val := Elt F) (e := .f32) off3,
      View.readCov_unit_zero (S := S512x2048) (Val := Elt F) (e := .bf16) arg17.view off2]
    rfl
  isplitl [H11]
  · iexists _; isplitr
    swap; · iexact H11
    ipureintro
    sl_unfold_run_names
    refine (stored _ _ off2 _ _).trans ?_
    simp (disch := decide) only [View.readAt_eq_ld, Memref.IsWhole.read_unread, shapeCast_self,
      View.ld_unit_zero (S := S512x2048) (Val := Elt F) (e := .bf16) off2, View.ld_unit_zero (S := S512x2048) (Val := Elt F) (e := .f32) off2,
      View.ld_unit_zero (S := S1x512x2048) (Val := Elt F) (e := .bf16) off3, View.ld_unit_zero (S := S1x2048x896) (Val := Elt F) (e := .bf16) off3,
      View.ld_unit_zero (S := S1x1x2048) (Val := Elt F) (e := .f32) off3,
      View.readCov_unit_zero (S := S512x2048) (Val := Elt F) (e := .bf16) arg17.view off2]
    rfl
  isplitl [H12]
  · iexists _; isplitr
    swap; · iexact H12
    ipureintro
    sl_unfold_run_names
    refine (stored _ _ off2 _ _).trans ?_
    simp (disch := decide) only [View.readAt_eq_ld, Memref.IsWhole.read_unread, shapeCast_self,
      View.ld_unit_zero (S := S512x2048) (Val := Elt F) (e := .bf16) off2, View.ld_unit_zero (S := S512x2048) (Val := Elt F) (e := .f32) off2,
      View.ld_unit_zero (S := S1x512x2048) (Val := Elt F) (e := .bf16) off3, View.ld_unit_zero (S := S1x2048x896) (Val := Elt F) (e := .bf16) off3,
      View.ld_unit_zero (S := S1x1x2048) (Val := Elt F) (e := .f32) off3,
      View.readCov_unit_zero (S := S512x2048) (Val := Elt F) (e := .bf16) arg17.view off2]
    rfl
  isplitl [H13]
  · iexists _; isplitr
    swap; · iexact H13
    ipureintro
    sl_unfold_run_names
    refine (stored _ _ off2 _ _).trans ?_
    simp (disch := decide) only [View.readAt_eq_ld, Memref.IsWhole.read_unread, shapeCast_self,
      View.ld_unit_zero (S := S512x2048) (Val := Elt F) (e := .bf16) off2, View.ld_unit_zero (S := S512x2048) (Val := Elt F) (e := .f32) off2,
      View.ld_unit_zero (S := S1x512x2048) (Val := Elt F) (e := .bf16) off3, View.ld_unit_zero (S := S1x2048x896) (Val := Elt F) (e := .bf16) off3,
      View.ld_unit_zero (S := S1x1x2048) (Val := Elt F) (e := .f32) off3,
      View.readCov_unit_zero (S := S512x2048) (Val := Elt F) (e := .bf16) arg17.view off2]
    rfl
  isplitl [H14]
  · iexists _; isplitr
    swap; · iexact H14
    ipureintro
    sl_unfold_run_names
    refine (stored _ _ off2 _ _).trans ?_
    simp (disch := decide) only [View.readAt_eq_ld, Memref.IsWhole.read_unread, shapeCast_self,
      View.ld_unit_zero (S := S512x2048) (Val := Elt F) (e := .bf16) off2, View.ld_unit_zero (S := S512x2048) (Val := Elt F) (e := .f32) off2,
      View.ld_unit_zero (S := S1x512x2048) (Val := Elt F) (e := .bf16) off3, View.ld_unit_zero (S := S1x2048x896) (Val := Elt F) (e := .bf16) off3,
      View.ld_unit_zero (S := S1x1x2048) (Val := Elt F) (e := .f32) off3,
      View.readCov_unit_zero (S := S512x2048) (Val := Elt F) (e := .bf16) arg17.view off2]
    rfl
  iexists _; isplitr
  swap; · iexact HS
  ipureintro
  sl_unfold_run_names
  refine (stored _ _ off2 _ _).trans ?_
  simp (disch := decide) only [View.readAt_eq_ld, Memref.IsWhole.read_unread, shapeCast_self,
    View.ld_unit_zero (S := S512x2048) (Val := Elt F) (e := .bf16) off2, View.ld_unit_zero (S := S512x2048) (Val := Elt F) (e := .f32) off2,
    View.ld_unit_zero (S := S1x512x2048) (Val := Elt F) (e := .bf16) off3, View.ld_unit_zero (S := S1x2048x896) (Val := Elt F) (e := .bf16) off3,
    View.ld_unit_zero (S := S1x1x2048) (Val := Elt F) (e := .f32) off3,
    View.readCov_unit_zero (S := S512x2048) (Val := Elt F) (e := .bf16) arg17.view off2]
  rfl

end Run

end Cert.InProjIdeal.InP

end
-- ==== Proof.InFrame.lean ====
/-
  The input projection's run over the grid: the normalised rows of a row tile are kept in the scratch from its first
  point to its last, and so is its block of the small projections in its buffer, which is written back at the last.
-/
module

public import proofs.«01_k».proof.Proof.InRun

@[expose] public section

set_option maxRecDepth 16384

noncomputable section

namespace Cert.InProjIdeal.InP

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold after a point -/

/-- The scratch: the normalised rows of the point's tile. -/
def hAt (c : Dev nD) (t : Fin cfg0.N) : FVec F S512x2048 .bf16 :=
  hBlk (iblk m c 0 t) (iblk m c 1 t) (iblk m c 2 t) (iblk m c 3 t)

/-- The tile's block of the small projections. -/
def psAt (c : Dev nD) (t : Fin cfg0.N) : FVec F S512x896 .f32 := psBlk (hAt m c t) (iblk m c 4 t)

abbrev scr : Memref sig .tc .vmem S512x2048 .bf16 := Memref.whole cc0_scratch0

theorem ΦA_eq (c : Dev nD) : (Pipeline.ΦA spec0 c : sProp 𝕄)
    = iprop(iprop((∃ d, owns (c : Thread nD τ) scr fullShare d)) ∗ (∃ r, prngReg c r)) := by
  unfold Pipeline.ΦA; rw [scopedRest0_eq]; simp only [scr, owns_whole]; try rfl

/-- Before a point: at first the scratch at anything, later the rows of the tile of the point before. -/
def Kept (c : Dev nD) : (n : ℕ) → n ≤ cfg0.N → sProp 𝕄
  | 0, _ => Pipeline.ΦA spec0 c
  | n + 1, hn => iprop(owns (c : Thread nD τ) scr fullShare (hAt m c ⟨n, hn⟩) ∗ (∃ r, prngReg c r))

theorem kept_any (c : Dev nD) : ∀ (n : ℕ) (hn : n ≤ cfg0.N), Kept m c n hn ⊢ (Pipeline.ΦA spec0 c : sProp 𝕄)
  | 0, _ => .rfl
  | n + 1, hn => by
    rw [ΦA_eq]
    show (iprop(owns (c : Thread nD τ) scr fullShare (hAt m c ⟨n, hn⟩) ∗ (∃ r, prngReg c r)) : sProp 𝕄) ⊢ _
    iintro ⟨H, Hg⟩
    isplitl [H]
    · iexists _; iexact H
    iexact Hg

/-- The proof data: the inputs' buffers at their blocks, the results' at what the point computes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => psAt m c t
    | ⟨11, _⟩ => bBlk (hAt m c t) (iblk m c 5 t)
    | ⟨12, _⟩ => zBlk (hAt m c t) (iblk m c 6 t) (iblk m c 7 t)
    | ⟨13, _⟩ => gBlk (hAt m c t) (iblk m c 8 t)
    | ⟨14, _⟩ => gBlk (hAt m c t) (iblk m c 9 t)
  Φ t := Kept m c t.val (Nat.le_of_lt_succ t.isLt)
  q w := Pipeline.shareOf spec0 w
  owed _ := 0

/-- The buffers when the call is entered: after the host's operations before it. -/
theorem V_host (c : Dev nD) (b : Ref sig .tc) : V m c b = StableHlo.after hostOps0 (fun b => m (c, b)) (Proc.devRef .tc b) :=
  congrArg (fun l => StableHlo.after l (fun b => m (c, b)) (Proc.devRef .tc b)) (List.append_nil (hostOps0 (F := F)))

theorem A_eq (c : Dev nD) (w : Fin cfg0.W) : (dats m 0 c).A w = V m c (Pipeline.arrRef spec0 w) := by
  dsimp only [dats]

theorem kept_castSucc (c : Dev nD) (t : Fin cfg0.N) : (dats m 0 c).Φ t.castSucc = Kept m c t.val (Nat.le_of_lt t.isLt) := by
  dsimp only [dats]; exact Pipeline.Dat.Φ_castSucc (Kept m c) t

theorem kept_succ (c : Dev nD) (t : Fin cfg0.N) : (dats m 0 c).Φ t.succ
    = iprop(owns (c : Thread nD τ) scr fullShare (hAt m c t) ∗ (∃ r, prngReg c r)) := rfl

/-! ## From a tile's first point to its last -/

theorem same0 : ∀ t : Fin cfg0.N, t.val % 4 ≠ 0 → win0_0.index t = win0_0.index ⟨t.val - 1, Nat.lt_of_le_of_lt (Nat.sub_le _ _) t.isLt⟩ :=
  (by decide +kernel : ∀ t : Fin grid0.N, t.val % 4 ≠ 0 → win0_0.index t = win0_0.index ⟨t.val - 1, Nat.lt_of_le_of_lt (Nat.sub_le _ _) t.isLt⟩)
theorem same1 : ∀ t : Fin cfg0.N, t.val % 4 ≠ 0 → win0_1.index t = win0_1.index ⟨t.val - 1, Nat.lt_of_le_of_lt (Nat.sub_le _ _) t.isLt⟩ :=
  (by decide +kernel : ∀ t : Fin grid0.N, t.val % 4 ≠ 0 → win0_1.index t = win0_1.index ⟨t.val - 1, Nat.lt_of_le_of_lt (Nat.sub_le _ _) t.isLt⟩)
theorem same2 : ∀ t : Fin cfg0.N, t.val % 4 ≠ 0 → win0_2.index t = win0_2.index ⟨t.val - 1, Nat.lt_of_le_of_lt (Nat.sub_le _ _) t.isLt⟩ :=
  (by decide +kernel : ∀ t : Fin grid0.N, t.val % 4 ≠ 0 → win0_2.index t = win0_2.index ⟨t.val - 1, Nat.lt_of_le_of_lt (Nat.sub_le _ _) t.isLt⟩)
theorem same3 : ∀ t : Fin cfg0.N, t.val % 4 ≠ 0 → win0_3.index t = win0_3.index ⟨t.val - 1, Nat.lt_of_le_of_lt (Nat.sub_le _ _) t.isLt⟩ :=
  (by decide +kernel : ∀ t : Fin grid0.N, t.val % 4 ≠ 0 → win0_3.index t = win0_3.index ⟨t.val - 1, Nat.lt_of_le_of_lt (Nat.sub_le _ _) t.isLt⟩)
theorem same4 : ∀ t : Fin cfg0.N, t.val % 4 ≠ 0 → win0_4.index t = win0_4.index ⟨t.val - 1, Nat.lt_of_le_of_lt (Nat.sub_le _ _) t.isLt⟩ :=
  (by decide +kernel : ∀ t : Fin grid0.N, t.val % 4 ≠ 0 → win0_4.index t = win0_4.index ⟨t.val - 1, Nat.lt_of_le_of_lt (Nat.sub_le _ _) t.isLt⟩)

/-- Two points that stage the same block of an array find the same in it. -/
theorem block_same (c : Dev nD) (w : Fin cfg0.W) (hclip : ∀ i a, (cfg0.win w).clip i a = none) (t t' : Fin cfg0.N)
    (h : (cfg0.win w).index t = (cfg0.win w).index t') (d) : (dats m 0 c).fetched w t d = (dats m 0 c).fetched w t' d :=
  (dats m 0 c).fetched_congr w h (funext fun a => (hclip _ a).trans (hclip _ a).symm) d

theorem carry0 (c : Dev nD) (t t' : Fin cfg0.N) (h : win0_0.index t = win0_0.index t') : iblk m c 0 t = iblk m c 0 t' :=
  block_same m c 0 (fun _ _ => rfl) t t' h (fun _ => Classical.choice inferInstance)
theorem carry1 (c : Dev nD) (t t' : Fin cfg0.N) (h : win0_1.index t = win0_1.index t') : iblk m c 1 t = iblk m c 1 t' :=
  block_same m c 1 (fun _ _ => rfl) t t' h (fun _ => Classical.choice inferInstance)
theorem carry2 (c : Dev nD) (t t' : Fin cfg0.N) (h : win0_2.index t = win0_2.index t') : iblk m c 2 t = iblk m c 2 t' :=
  block_same m c 2 (fun _ _ => rfl) t t' h (fun _ => Classical.choice inferInstance)
theorem carry3 (c : Dev nD) (t t' : Fin cfg0.N) (h : win0_3.index t = win0_3.index t') : iblk m c 3 t = iblk m c 3 t' :=
  block_same m c 3 (fun _ _ => rfl) t t' h (fun _ => Classical.choice inferInstance)
theorem carry4 (c : Dev nD) (t t' : Fin cfg0.N) (h : win0_4.index t = win0_4.index t') : iblk m c 4 t = iblk m c 4 t' :=
  block_same m c 4 (fun _ _ => rfl) t t' h (fun _ => Classical.choice inferInstance)

/-- So the point before computed the same rows, -/
theorem hAt_carry (c : Dev nD) (t : Fin cfg0.N) (h : t.val % 4 ≠ 0) :
    hAt m c ⟨t.val - 1, Nat.lt_of_le_of_lt (Nat.sub_le _ _) t.isLt⟩ = hAt m c t := by
  unfold hAt
  rw [carry0 m c t _ (same0 t h), carry1 m c t _ (same1 t h), carry2 m c t _ (same2 t h), carry3 m c t _ (same3 t h)]

/-- and the same block of the small projections. -/
theorem psAt_carry (c : Dev nD) (t : Fin cfg0.N) (h : t.val % 4 ≠ 0) :
    psAt m c ⟨t.val - 1, Nat.lt_of_le_of_lt (Nat.sub_le _ _) t.isLt⟩ = psAt m c t := by
  unfold psAt
  rw [hAt_carry m c t h, carry4 m c t _ (same4 t h)]

/-- At a later point of a tile the scratch holds the tile's rows. -/
theorem kept_later (c : Dev nD) (t : Fin cfg0.N) (h : t.val % 4 ≠ 0) :
    Kept m c t.val (Nat.le_of_lt t.isLt) = iprop(owns (c : Thread nD τ) scr fullShare (hAt m c t) ∗ (∃ r, prngReg c r)) := by
  rw [← hAt_carry m c t h]
  obtain ⟨n, hn⟩ := t
  cases n with
  | zero => exact absurd (Nat.zero_mod _) h
  | succ n => rfl

/-- The small projections' buffer is stored at a tile's first point only. -/
theorem idle_later : ∀ t : Fin cfg0.N, t.val % 4 ≠ 0 → cfg0.idle 10 (grid0.coords t) = true := fun t h => by
  have hc : ¬ first (grid0.coords t) := fun hc => h ((first_iff t).mp hc)
  show (!(k0_cond1 (grid0.coords t) == 1#1)) = true
  rw [beq_eq_false_iff_ne.mpr hc]; rfl

theorem idle_first (t : Fin cfg0.N) (h : t.val % 4 = 0) : cfg0.idle 10 (grid0.coords t) = false := by
  have hc : first (grid0.coords t) := (first_iff t).mpr h
  show (!(k0_cond1 (grid0.coords t) == 1#1)) = false
  rw [beq_iff_eq.mpr hc]; rfl

/-- The points before which it was written back, or nothing was stored yet: a tile's first. -/
theorem fresh_step : ∀ t : Fin cfg0.N, decide ((t.val + 1) % 4 = 0)
    = ((cfg0.win 10).flush t || (cfg0.idle 10 (cfg0.grid.coords t) && decide (t.val % 4 = 0))) := fun t => by
  have hf := flush0_10 t
  by_cases h : t.val % 4 = 0
  · have hi : cfg0.idle 10 (cfg0.grid.coords t) = false := idle_first t h
    have hf' : (cfg0.win 10).flush t = false := by rw [Bool.eq_false_iff]; intro hh; have := hf.mp hh; omega
    rw [hi, hf', Bool.false_or, Bool.false_and, decide_eq_false (by omega)]
  · rw [decide_eq_false h, Bool.and_false, Bool.or_false]
    by_cases h3 : t.val % 4 = 3
    · rw [hf.mpr h3, decide_eq_true (by omega)]
    · rw [decide_eq_false (by omega)]
      exact (Bool.eq_false_iff.mpr fun hh => h3 (hf.mp hh)).symm

theorem fresh_iff (t : Fin cfg0.N) : cfg0.fresh 10 t.val = decide (t.val % 4 = 0) :=
  Pipeline.Cfg.fresh_tab cfg0 10 (fun n => decide (n % 4 = 0)) rfl fresh_step t.val (Nat.le_of_lt t.isLt)

/-- At a later point of a tile it holds the tile's block still. -/
theorem before_ps (c : Dev nD) (t : Fin cfg0.N) (h : t.val % 4 ≠ 0) (d) : (dats m 0 c).before 10 t d = psAt m c t := by
  rw [Dat.before_out_traj _ 10 rfl (fun _ _ => rfl) (fun t _ hi hf => ?_) t.val t rfl d,
    if_neg (by rw [fresh_iff, decide_eq_false h]; exact Bool.false_ne_true)]
  · exact psAt_carry m c t h
  · have h' : t.val % 4 ≠ 0 := fun h0 => by rw [fresh_iff, decide_eq_true h0] at hf; exact absurd hf (by decide)
    exact (psAt_carry m c t h').symm

/-! ## The body at a point -/

theorem leaves_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

/-- The small projections' buffer, as a later point leaves it. -/
theorem leaves_ps (c : Dev nD) (t : Fin cfg0.N) (h : t.val % 4 ≠ 0) :
    owns (c : Thread nD τ) (win0_10.stage (cfg0.slots t 10)) fullShare (psAt m c t) ⊢ ((dats m 0 c).leavesExact 10 t : sProp 𝕄) := by
  have hi : cfg0.idle 10 (cfg0.grid.coords t) = true := idle_later t h
  cases hf : (cfg0.win 10).flush t
  · rw [Dat.leavesExact_idle _ 10 t hi hf]
    iintro H
    iexists (fun _ => Classical.choice inferInstance)
    rw [before_ps m c t h]
    iexact H
  · unfold Dat.leavesExact
    rw [hi, hf]
    exact .rfl

theorem before0 (c : Dev nD) (t : Fin cfg0.N) (d) : (dats m 0 c).before 0 t d = iblk m c 0 t :=
  before0_0_of m (dats m 0 c) (A_eq m c 0) (fun _ => rfl) t d
theorem before1 (c : Dev nD) (t : Fin cfg0.N) (d) : (dats m 0 c).before 1 t d = iblk m c 1 t :=
  before0_1_of m (dats m 0 c) (A_eq m c 1) (fun _ => rfl) t d
theorem before2 (c : Dev nD) (t : Fin cfg0.N) (d) : (dats m 0 c).before 2 t d = iblk m c 2 t :=
  before0_2_of m (dats m 0 c) (A_eq m c 2) (fun _ => rfl) t d
theorem before3 (c : Dev nD) (t : Fin cfg0.N) (d) : (dats m 0 c).before 3 t d = iblk m c 3 t :=
  before0_3_of m (dats m 0 c) (A_eq m c 3) (fun _ => rfl) t d
theorem before4 (c : Dev nD) (t : Fin cfg0.N) (d) : (dats m 0 c).before 4 t d = iblk m c 4 t :=
  before0_4_of m (dats m 0 c) (A_eq m c 4) (fun _ => rfl) t d
theorem before5 (c : Dev nD) (t : Fin cfg0.N) (d) : (dats m 0 c).before 5 t d = iblk m c 5 t :=
  before0_5_of m (dats m 0 c) (A_eq m c 5) (fun _ => rfl) t d
theorem before6 (c : Dev nD) (t : Fin cfg0.N) (d) : (dats m 0 c).before 6 t d = iblk m c 6 t :=
  before0_6_of m (dats m 0 c) (A_eq m c 6) (fun _ => rfl) t d
theorem before7 (c : Dev nD) (t : Fin cfg0.N) (d) : (dats m 0 c).before 7 t d = iblk m c 7 t :=
  before0_7_of m (dats m 0 c) (A_eq m c 7) (fun _ => rfl) t d
theorem before8 (c : Dev nD) (t : Fin cfg0.N) (d) : (dats m 0 c).before 8 t d = iblk m c 8 t :=
  before0_8_of m (dats m 0 c) (A_eq m c 8) (fun _ => rfl) t d
theorem before9 (c : Dev nD) (t : Fin cfg0.N) (d) : (dats m 0 c).before 9 t d = iblk m c 9 t :=
  before0_9_of m (dats m 0 c) (A_eq m c 9) (fun _ => rfl) t d

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))

/-- and what it gives back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t)

set_option maxHeartbeats 3200000 in
theorem sound_first (c : Dev nD) (t : Fin cfg0.N) (h0 : t.val % 4 = 0) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9]
  rw [show (dats m 0 c).owesAt () t.succ = (dats m 0 c).owesAt () t.castSucc from rfl, kept_castSucc, kept_succ]
  rw [leaves_live m c 0 t rfl, leaves_live m c 1 t rfl, leaves_live m c 2 t rfl, leaves_live m c 3 t rfl, leaves_live m c 4 t rfl, leaves_live m c 5 t rfl, leaves_live m c 6 t rfl, leaves_live m c 7 t rfl, leaves_live m c 8 t rfl, leaves_live m c 9 t rfl, leaves_live m c 11 t rfl, leaves_live m c 12 t rfl, leaves_live m c 13 t rfl, leaves_live m c 14 t rfl, leaves_live m c 10 t (idle_first t h0)]
  have hany := kept_any m c t.val (Nat.le_of_lt t.isLt)
  rw [ΦA_eq] at hany
  iintro ⟨HK, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  icases hany $$ HK with ⟨HS, Hg⟩
  iapply (run_first c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) ((first_iff t).mpr h0) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [HS]; · iexact HS
  iintro ⟨H0, H1, H2, H3, H4, H5, H6, H7, H8, H9, H10, H11, H12, H13, H14, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

set_option maxHeartbeats 3200000 in
theorem sound_later (c : Dev nD) (t : Fin cfg0.N) (h0 : t.val % 4 ≠ 0) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before_ps m c t h0]
  rw [show (dats m 0 c).owesAt () t.succ = (dats m 0 c).owesAt () t.castSucc from rfl, kept_castSucc, kept_succ]
  rw [kept_later m c t h0]
  rw [leaves_live m c 0 t rfl, leaves_live m c 1 t rfl, leaves_live m c 2 t rfl, leaves_live m c 3 t rfl, leaves_live m c 4 t rfl, leaves_live m c 5 t rfl, leaves_live m c 6 t rfl, leaves_live m c 7 t rfl, leaves_live m c 8 t rfl, leaves_live m c 9 t rfl, leaves_live m c 11 t rfl, leaves_live m c 12 t rfl, leaves_live m c 13 t rfl, leaves_live m c 14 t rfl]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (run_later c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (fun h => h0 ((first_iff t).mp h)) (psAt m c t) (hAt m c t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [HS]; · iexact HS
  iintro ⟨H0, H1, H2, H3, H4, H5, H6, H7, H8, H9, H10, H11, H12, H13, H14, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iapply (leaves_ps m c t h0); iexact H10
  isplitl [H11]; · iexact H11
  isplitl [H12]; · iexact H12
  isplitl [H13]; · iexact H13
  iexact H14

/-- The body's obligation, at every point. -/
theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  by_cases h : t.val % 4 = 0
  · exact triple_restated (sound_first m c t h) rfl .rfl fun _ => .rfl
  · exact triple_restated (sound_later m c t h) rfl .rfl fun _ => .rfl

theorem enter (c : Dev nD) : Pipeline.ΦA spec0 c ⊢ (dats m 0 c).Φ 0 := Entails.refl _

theorem leave (c : Dev nD) : (dats m 0 c).Φ (Fin.last cfg0.N) ⊢ Pipeline.ΦA spec0 c := by
  rw [show (dats m 0 c).Φ (Fin.last cfg0.N) = Kept m c cfg0.N (Nat.le_refl _) from rfl]
  exact kept_any m c _ _

/-! ## The run and the frame -/

/-- What the buffers hold at the end: the host's operations after the call, of what the call leaves. -/
abbrev W (c : Dev nD) (b : Ref sig .tc) : Buf (Elt F) ((c.tc : Thread nD τ).loc b) := Pipeline.afterTail₀ cfgs (dats m) 0 (V0 m) [hostOps1] c b

theorem W_host (c : Dev nD) (b : Ref sig .tc) : W m c b
    = StableHlo.after hostOps1 (Pipeline.withArrays spec0 c (V0 m c) fun w => (dats m 0 c).arrAt w cfg0.N) (Proc.devRef .tc b) :=
  congrArg (fun l => StableHlo.after l (Pipeline.withArrays spec0 c (V0 m c) fun w => (dats m 0 c).arrAt w cfg0.N) (Proc.devRef .tc b))
    (List.append_nil (hostOps1 (F := F)))

set_option backward.isDefEq.respectTransparency.types false in
theorem run_quiescent : θ_run defs (onTc (τ := τ) (main (F := F))) (s₀ m ρ)
    (fun r => (Pipeline.FramePost cfgs (dats m) 0 (W m)) r ∧ r.2.sem = fun _ => 0) :=
  Pipeline.θ_run_frame_around_track_shared (Q' := _) cfgs (dats m) (0 : Fin 1) launch₀0 defs₀ Variants.none m ρ main
    (hbody := fun c => (obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hin := enter m) (hout := leave m)

theorem run_post : θ_run defs (onTc (τ := τ) (main (F := F))) (s₀ m ρ) (Pipeline.FramePost cfgs (dats m) 0 (W m)) :=
  (θ_run defs _ _).mono (fun _ h => h.1) (run_quiescent m ρ)

/-- The run leaves the arguments as they were. -/
theorem unchanged : θ_run defs (onTc (τ := τ) (main (F := F))) ⟨m, fun _ => 0, ρ⟩ (fun r => ∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)) :=
  frame_of m ρ (dats m) (A_eq m) (run_post m ρ)

end Cert.InProjIdeal.InP
-- ==== Proof.InArr.lean ====
/-
  The input projection's result arrays: what the host prepares, every grid point's blocks, and so the arrays, as
  functions of the arguments.
-/
module

public import proofs.«01_k».proof.Proof.InFrame
public import proofs.«01_k».proof.Proof.Rows
public import Idealize.ShloMosaic.Lib.Pipeline.ValueKit.Geometry
public import Idealize.ShloMosaic.Lib.MatmulPlain

@[expose] public section

set_option maxRecDepth 16384

noncomputable section

namespace Cert.InProjIdeal.InP

open Cert.InProjIdeal Cert.InProjIdeal.Gen Idealize.ShloMosaic Idealize.ShloMosaic.TcCoe Idealize.ShloMosaic.ValueIdx
open Idealize.SL.Sem
open Cert.Rows

/-! ## The results, of the arguments -/

/-- The number a bit pattern of a 32-bit float denotes. -/
abbrev num (b : BitVec 32) : EReal := FloatOps.ofBits (F := Ideal) .f32 b

/-- A row over its root mean square, times the layer's weight, scaled and shifted. -/
def normed (x ln sh sc : Fin 2048 → EReal) (k : Fin 2048) : EReal :=
  x k * Ideal.rsqrt (Ideal.div (∑ e : Fin 2048, x e * x e) (num 0x45000000#32) + num 0x358637BD#32) * ln k
    * (num 0x3F800000#32 + sc k) + sh k

/-- The `j`-th sixth of the modulation a row reads: sequence `b`'s for `b < 4`, the context's for `b = 4`. -/
def modRow (mx : Vec Ideal S4x12288 .f32) (mc : Vec Ideal S12288 .f32) (b : Nat) (j : Fin 6) (k : Fin 2048) : EReal :=
  if h : b < 4 then mx (ix2 (⟨b, h⟩ : Fin 4) (⟨j.val * 2048 + k.val, by omega⟩ : Fin 12288))
  else mc (ix1 (⟨j.val * 2048 + k.val, by omega⟩ : Fin 12288))

/-- A row of the activations as the projections read it. -/
def hRow (x : Vec Ideal S4x4096x2048 .f32) (ctx : Vec Ideal S4x256x2048 .f32) (mx : Vec Ideal S4x12288 .f32) (mc : Vec Ideal S12288 .f32)
    (ln : Vec Ideal S2x2048 .f32) (r : Fin 17408) : Fin 2048 → EReal :=
  normed (joined x ctx r) (fun k => ln (ix2 (0 : Fin 2) k)) (modRow mx mc (min (r.val / 4096) 4) 0) (modRow mx mc (min (r.val / 4096) 4) 1)

/-- Segment `s` of the wide projections at row `r` and column `k`. -/
def proj (x : Vec Ideal S4x4096x2048 .f32) (ctx : Vec Ideal S4x256x2048 .f32) (mx : Vec Ideal S4x12288 .f32) (mc : Vec Ideal S12288 .f32)
    (ln : Vec Ideal S2x2048 .f32) (w : Vec Ideal S2x2048x11072 .f32) (s : Fin 5) (r : Fin 17408) (k : Fin 2048) : EReal :=
  ∑ e : Fin 2048, hRow x ctx mx mc ln r e * w (ix3 (0 : Fin 2) e (⟨832 + (s.val * 2048 + k.val), by omega⟩ : Fin 11072))

/-- The logistic function. -/
def logit (v : EReal) : EReal := Ideal.div (num 0x3F800000#32) (num 0x3F800000#32 + Ideal.exp (-v))

/-! ## The arrays the host prepares -/

section Host
variable (m : (ℓ : Loc nD τ sig) → Buf (Elt Ideal) ℓ)

/-- The modulation of the sequences, of the context, and three rows of zeros. -/
def modRows (mx : Vec Ideal S4x12288 .f32) (mc : Vec Ideal S12288 .f32) : Vec Ideal S8x12288 .f32 :=
  concatenate S8x12288 0 [⟨S4x12288, mx⟩, ⟨S1x12288, broadcastInDim S1x12288 ![1] bcast_S12288_S1x12288_1 mc⟩,
    ⟨S3x12288, broadcastInDim S3x12288 ![] bcast_S_S3x12288 (constant (F := Ideal) S_ .f32 0x00000000#32)⟩]
    concatenates_S4x12288_S1x12288_S3x12288_S8x12288_d0

theorem V_x (c : Dev nD) (r : Fin 17408) (k : Fin 2048) : V m c main_v2 (ix2 r k)
    = joined (m ((c : Thread nD τ).loc main_arg0)) (m ((c : Thread nD τ).loc main_arg1)) r k := by
  have e : V m c main_v2 = concatenate S17408x2048 0 [⟨S16384x2048, shapeCast S16384x2048 (m ((c : Thread nD τ).loc main_arg0)) shapeCasts_S4x4096x2048_S16384x2048⟩,
      ⟨S1024x2048, shapeCast S1024x2048 (m ((c : Thread nD τ).loc main_arg1)) shapeCasts_S4x256x2048_S1024x2048⟩] concatenates_S16384x2048_S1024x2048_S17408x2048_d0 := by
    rw [V_host]; after_results; rfl
  rw [e]
  exact concat_apply _ _ _ _ _ r k

theorem V_mod (c : Dev nD) : V m c main_v6
    = shapeCast S48x1x2048 (modRows (m ((c : Thread nD τ).loc main_arg2)) (m ((c : Thread nD τ).loc main_arg3))) shapeCasts_S8x12288_S48x1x2048 := by
  rw [V_host]; after_results
  refine congrArg (fun z => shapeCast S48x1x2048 z shapeCasts_S8x12288_S48x1x2048) ?_
  unfold modRows
  refine StableHlo.concatenate_congr _ _ ?_ _ _
  refine congrArg₂ List.cons (congrArg (Sigma.mk S4x12288) ?_) (congrArg₂ List.cons (congrArg (Sigma.mk S1x12288) ?_)
    (congrArg₂ List.cons (congrArg (Sigma.mk S3x12288) ?_) rfl))
  · refine (StableHlo.unary_result_ne (r := main_arg2) _ _ _ _ _ _ (by decide)).trans ?_
    refine (StableHlo.nullary_result_ne (r := main_arg2) _ _ _ _ (by decide)).trans ?_
    exact StableHlo.unary_result_ne (r := main_arg2) _ _ _ _ _ _ (by decide)
  · refine (StableHlo.unary_result_ne (r := main_v3) _ _ _ _ _ _ (by decide)).trans ?_
    refine (StableHlo.nullary_result_ne (r := main_v3) _ _ _ _ (by decide)).trans ?_
    exact StableHlo.unary_result _ main_v3 _ _ _ _
  · refine (StableHlo.unary_result _ main_v4 _ _ _ _).trans ?_
    exact congrArg (broadcastInDim S3x12288 ![] bcast_S_S3x12288) (StableHlo.nullary_result main_cst _ _ _)

theorem V_w (c : Dev nD) (n : Fin 10240) (e : Fin 2048) : V m c main_v18 (ix3 (0 : Fin 2) n e)
    = m ((c : Thread nD τ).loc main_arg5) (ix3 (0 : Fin 2) e (⟨832 + n.val, by omega⟩ : Fin 11072)) := by
  have h : V m c main_v18 = truncf (F := Ideal) .bf16 (transpose S2x10240x2048 [0, 2, 1] (extractStridedSlice S2x2048x10240 ![0, 0, 832]
      (m ((c : Thread nD τ).loc main_arg5)) slices_S2x2048x11072_S2x2048x10240_0_0_832) transposes_S2x2048x10240_S2x10240x2048_0_2_1) bitsLt_bf16_f32 := by
    rw [V_host]; after_results
  rw [h, truncf_apply]
  refine (transpose_apply _ _ transposes_S2x2048x10240_S2x10240x2048_0_2_1 _ (ix3 (0 : Fin 2) e n : S2x2048x10240.Idx)
    (fun a => by match a with | ⟨0, _⟩ => rfl | ⟨1, _⟩ => rfl | ⟨2, _⟩ => rfl)).trans ?_
  exact extractStridedSlice_apply ![0, 0, 832] (m ((c : Thread nD τ).loc main_arg5)) slices_S2x2048x11072_S2x2048x10240_0_0_832
    (ix3 (0 : Fin 2) e n : S2x2048x10240.Idx) (ix3 (0 : Fin 2) e (⟨832 + n.val, by omega⟩ : Fin 11072))
    (fun a => match a with | ⟨0, _⟩ => rfl | ⟨1, _⟩ => (Nat.zero_add _).symm | ⟨2, _⟩ => rfl)

theorem V_ln (c : Dev nD) (k : Fin 2048) : V m c main_v19 (ix3 (0 : Fin 2) (0 : Fin 1) k)
    = m ((c : Thread nD τ).loc main_arg4) (ix2 (0 : Fin 2) k) := by
  have h : V m c main_v19 = broadcastInDim S2x1x2048 ![0, 2] bcast_S2x2048_S2x1x2048_0_2 (m ((c : Thread nD τ).loc main_arg4)) := by
    rw [V_host]; after_results
  rw [h]
  exact broadcastInDim_apply _ bcast_S2x2048_S2x1x2048_0_2 _ _ (ix2 (0 : Fin 2) k) (fun a => match a with | ⟨0, _⟩ => rfl | ⟨1, _⟩ => rfl)

theorem modRows_apply (mx : Vec Ideal S4x12288 .f32) (mc : Vec Ideal S12288 .f32) (b : Nat) (hb : b < 5) (j : Fin 6) (n : Fin 48)
    (hn : n.val = b * 6 + j.val) (k : Fin 2048) :
    shapeCast S48x1x2048 (modRows mx mc) shapeCasts_S8x12288_S48x1x2048 (ix3 n (0 : Fin 1) k) = modRow mx mc b j k := by
  refine (shapeCast_apply _ _ _ (ix2 (⟨b, by omega⟩ : Fin 8) (⟨j.val * 2048 + k.val, by omega⟩ : Fin 12288) : S8x12288.Idx) ?_).trans ?_
  · rw [Shape.rowMajor_val_three, Shape.rowMajor_val_two]
    show b * 12288 + (j.val * 2048 + k.val) = (n.val * 1 + 0) * 2048 + k.val
    omega
  · unfold modRows modRow
    split
    · rename_i h
      refine concatenate_apply_piece (t := S8x12288) 0 [⟨S4x12288, mx⟩, ⟨S1x12288, broadcastInDim S1x12288 ![1] bcast_S12288_S1x12288_1 mc⟩,
        ⟨S3x12288, broadcastInDim S3x12288 ![] bcast_S_S3x12288 (constant (F := Ideal) S_ .f32 0x00000000#32)⟩] concatenates_S4x12288_S1x12288_S3x12288_S8x12288_d0
        (ix2 (⟨b, by omega⟩ : Fin 8) (⟨j.val * 2048 + k.val, by omega⟩ : Fin 12288) : S8x12288.Idx) 0 (by simp) S4x12288 mx rfl rfl 0 rfl
        (ix2 (⟨b, h⟩ : Fin 4) (⟨j.val * 2048 + k.val, by omega⟩ : Fin 12288) : S4x12288.Idx) (fun a ha => by
          match a, ha with | ⟨0, _⟩, ha => exact absurd rfl ha | ⟨1, _⟩, _ => rfl) (by show 0 + b = b; omega)
    · rename_i h
      refine (concatenate_apply_piece (t := S8x12288) 0 [⟨S4x12288, mx⟩, ⟨S1x12288, broadcastInDim S1x12288 ![1] bcast_S12288_S1x12288_1 mc⟩,
        ⟨S3x12288, broadcastInDim S3x12288 ![] bcast_S_S3x12288 (constant (F := Ideal) S_ .f32 0x00000000#32)⟩] concatenates_S4x12288_S1x12288_S3x12288_S8x12288_d0
        (ix2 (⟨b, by omega⟩ : Fin 8) (⟨j.val * 2048 + k.val, by omega⟩ : Fin 12288) : S8x12288.Idx) 1 (by simp) S1x12288 _ rfl rfl 4 rfl
        (ix2 (0 : Fin 1) (⟨j.val * 2048 + k.val, by omega⟩ : Fin 12288) : S1x12288.Idx) (fun a ha => by
          match a, ha with | ⟨0, _⟩, ha => exact absurd rfl ha | ⟨1, _⟩, _ => rfl) (by show 4 + 0 = b; omega)).trans ?_
      exact broadcastInDim_apply _ bcast_S12288_S1x12288_1 mc _ (ix1 (⟨j.val * 2048 + k.val, by omega⟩ : Fin 12288)) (fun a => match a with
        | ⟨0, _⟩ => rfl)

end Host

/-! ## The entries of a block -/

theorem row_apply (v : Vec Ideal S1x1x2048 .f32) (k : Fin 2048) :
    shapeCast S1x2048 v shapeCasts_S1x1x2048_S1x2048 (ix2 (0 : Fin 1) k) = v (ix3 (0 : Fin 1) (0 : Fin 1) k) := by
  rw [shapeCast_dropUnit_apply]
  exact congrArg v (funext fun a => Fin.ext (by match a with | ⟨0, _⟩ => rfl | ⟨1, _⟩ => rfl | ⟨2, _⟩ => rfl))

theorem wide_apply (v : Vec Ideal S1x2048 .f32) (p : Fin 512) (k : Fin 2048) :
    broadcastTo S512x2048 v broadcasts_S1x2048_S512x2048 (ix2 p k) = v (ix2 (0 : Fin 1) k) :=
  broadcastTo_apply (s := S1x2048) (t := S512x2048) _ _ _ (ix2 (0 : Fin 1) k : S1x2048.Idx) (fun a => by match a with | ⟨0, _⟩ => rfl | ⟨1, _⟩ => rfl)

theorem tall_apply (v : Vec Ideal S512x1 .f32) (p : Fin 512) (k : Fin 2048) :
    broadcastTo S512x2048 v broadcasts_S512x1_S512x2048 (ix2 p k) = v (ix2 p (0 : Fin 1)) :=
  broadcastTo_apply (s := S512x1) (t := S512x2048) _ _ _ (ix2 p (0 : Fin 1) : S512x1.Idx) (fun a => by match a with | ⟨0, _⟩ => rfl | ⟨1, _⟩ => rfl)

theorem lift_row (p : Fin 512) (e : Fin 2048) : reduces_S512x2048_S512.lift (ix1 p) e = (ix2 p e : S512x2048.Idx) :=
  funext fun a => Fin.ext (by match a with | ⟨0, _⟩ => rfl | ⟨1, _⟩ => rfl)

theorem squares_apply (x : Vec Ideal S512x2048 .f32) (p : Fin 512) :
    shapeCast S512x1 (multiReduction (F := Ideal) .add [1] S512 (mulf x x) 0x00000000#32 reduces_S512x2048_S512 (.inl rfl) rfl) shapeCasts_S512_S512x1
      (ix2 p (0 : Fin 1)) = (∑ e : Fin 2048, x (ix2 p e) * x (ix2 p e) : EReal) := by
  refine (shapeCast_apply _ _ _ (ix1 p) (by
    rw [Shape.rowMajor_val_one, Shape.rowMajor_val_two]
    show p.val = p.val * 1 + 0
    omega)).trans ?_
  refine (Ideal.multiReduction_add_single _ _ _ _ _ _).trans ?_
  exact Finset.sum_congr rfl fun e _ => congrArg (fun i => (x i * x i : EReal)) (lift_row p e)

theorem hBlk_apply (x : Vec Ideal S512x2048 .f32) (ln sh sc : Vec Ideal S1x1x2048 .f32) (p : Fin 512) (k : Fin 2048) :
    hBlk x ln sh sc (ix2 p k) = normed (fun e => x (ix2 p e)) (fun e => ln (ix3 (0 : Fin 1) (0 : Fin 1) e))
      (fun e => sh (ix3 (0 : Fin 1) (0 : Fin 1) e)) (fun e => sc (ix3 (0 : Fin 1) (0 : Fin 1) e)) k := by
  unfold hBlk normed
  rw [truncf_apply, addf_apply, mulf_apply, mulf_apply, mulf_apply, wide_apply, wide_apply, wide_apply, tall_apply, row_apply, row_apply]
  refine congrArg₂ (· + ·) (congrArg₂ (· * ·) (congrArg (· * _) (congrArg (_ * ·) ?_)) ?_) rfl
  · exact congrArg (fun z => Ideal.rsqrt (Ideal.div z (num 0x45000000#32) + num 0x358637BD#32)) (squares_apply x p)
  · exact congrArg (num 0x3F800000#32 + ·) (row_apply sc k)

theorem prod_apply (h : Vec Ideal S512x2048 .bf16) (w : Vec Ideal S1x512x2048 .bf16) (p q : Fin 512) :
    prod h w (ix2 p q) = (∑ e : Fin 2048, h (ix2 p e) * w (ix3 (0 : Fin 1) q e) : EReal) := by
  unfold prod
  refine (Ideal.matmul_transposedRhs_apply none _ _ _ p q).trans ?_
  rw [constant_apply, Ideal.ofBits_zero_f32, zero_add]
  refine Finset.sum_congr rfl fun e _ => congrArg (h (ix2 p e) * ·) ?_
  rw [shapeCast_dropUnit_apply]
  exact congrArg w (funext fun a => Fin.ext (by match a with | ⟨0, _⟩ => rfl | ⟨1, _⟩ => rfl | ⟨2, _⟩ => rfl))

theorem gBlk_apply (h : Vec Ideal S512x2048 .bf16) (w : Vec Ideal S1x512x2048 .bf16) (y : S512x512.Idx) :
    gBlk h w y = logit (prod h w y) := by
  show Ideal.div (num 0x3F800000#32) (num 0x3F800000#32 + Ideal.exp (num 0x00000000#32 - prod h w y)) = _
  unfold logit
  rw [show num 0x00000000#32 = 0 from Ideal.ofBits_zero_f32, zero_sub]

/-! ## The blocks of a grid point -/

theorem index0 : ∀ t : Fin cfg0.N, win0_0.index t = ![t.val / 4, 0] :=
  (by decide +kernel : ∀ t : Fin grid0.N, win0_0.index t = ![t.val / 4, 0])
theorem index1 : ∀ t : Fin cfg0.N, win0_1.index t = ![0, 0, 0] :=
  (by decide +kernel : ∀ t : Fin grid0.N, win0_1.index t = ![0, 0, 0])
theorem index2 : ∀ t : Fin cfg0.N, win0_2.index t = ![min (t.val / 4 / 8) 4 * 6 + 0, 0, 0] :=
  (by decide +kernel : ∀ t : Fin grid0.N, win0_2.index t = ![min (t.val / 4 / 8) 4 * 6 + 0, 0, 0])
theorem index3 : ∀ t : Fin cfg0.N, win0_3.index t = ![min (t.val / 4 / 8) 4 * 6 + 1, 0, 0] :=
  (by decide +kernel : ∀ t : Fin grid0.N, win0_3.index t = ![min (t.val / 4 / 8) 4 * 6 + 1, 0, 0])
theorem index5 : ∀ t : Fin cfg0.N, win0_5.index t = ![0, 0 * 4 + t.val % 4, 0] :=
  (by decide +kernel : ∀ t : Fin grid0.N, win0_5.index t = ![0, 0 * 4 + t.val % 4, 0])
theorem index6 : ∀ t : Fin cfg0.N, win0_6.index t = ![0, 1 * 4 + t.val % 4, 0] :=
  (by decide +kernel : ∀ t : Fin grid0.N, win0_6.index t = ![0, 1 * 4 + t.val % 4, 0])
theorem index7 : ∀ t : Fin cfg0.N, win0_7.index t = ![0, 2 * 4 + t.val % 4, 0] :=
  (by decide +kernel : ∀ t : Fin grid0.N, win0_7.index t = ![0, 2 * 4 + t.val % 4, 0])
theorem index8 : ∀ t : Fin cfg0.N, win0_8.index t = ![0, 3 * 4 + t.val % 4, 0] :=
  (by decide +kernel : ∀ t : Fin grid0.N, win0_8.index t = ![0, 3 * 4 + t.val % 4, 0])
theorem index9 : ∀ t : Fin cfg0.N, win0_9.index t = ![0, 4 * 4 + t.val % 4, 0] :=
  (by decide +kernel : ∀ t : Fin grid0.N, win0_9.index t = ![0, 4 * 4 + t.val % 4, 0])
theorem index11 : ∀ t : Fin cfg0.N, win0_11.index t = ![t.val / 4, t.val % 4] :=
  (by decide +kernel : ∀ t : Fin grid0.N, win0_11.index t = ![t.val / 4, t.val % 4])
theorem index12 : ∀ t : Fin cfg0.N, win0_12.index t = ![t.val / 4, t.val % 4] :=
  (by decide +kernel : ∀ t : Fin grid0.N, win0_12.index t = ![t.val / 4, t.val % 4])
theorem index13 : ∀ t : Fin cfg0.N, win0_13.index t = ![t.val / 4, t.val % 4] :=
  (by decide +kernel : ∀ t : Fin grid0.N, win0_13.index t = ![t.val / 4, t.val % 4])
theorem index14 : ∀ t : Fin cfg0.N, win0_14.index t = ![t.val / 4, t.val % 4] :=
  (by decide +kernel : ∀ t : Fin grid0.N, win0_14.index t = ![t.val / 4, t.val % 4])

theorem pt_lt (t : Fin cfg0.N) : t.val < 136 := Nat.lt_of_lt_of_eq t.isLt N_0

/-- Row `p` and column `q` of a point's block, in the whole array. -/
abbrev rowAt (t : Fin cfg0.N) (p : Fin 512) : Fin 17408 := ⟨t.val / 4 * 512 + p.val, by have := pt_lt t; omega⟩
abbrev colAt (t : Fin cfg0.N) (q : Fin 512) : Fin 2048 := ⟨t.val % 4 * 512 + q.val, by omega⟩

variable (m : (ℓ : Loc nD τ sig) → Buf (Elt Ideal) ℓ)

theorem blk0 (c : Dev nD) (t : Fin cfg0.N) (p : Fin 512) (e : Fin 2048) :
    iblk m c 0 t (ix2 p e) = V m c main_v2 (ix2 (rowAt t p) e) := by
  blk_simp [iblk]
  refine congrArg (V m c main_v2) ?_
  blk_ext [index0]

theorem blk1 (c : Dev nD) (t : Fin cfg0.N) (e : Fin 2048) :
    iblk m c 1 t (ix3 (0 : Fin 1) (0 : Fin 1) e) = V m c main_v19 (ix3 (0 : Fin 2) (0 : Fin 1) e) := by
  blk_simp [iblk]
  refine congrArg (V m c main_v19) ?_
  blk_ext [index1]

theorem blk2 (c : Dev nD) (t : Fin cfg0.N) (e : Fin 2048) : iblk m c 2 t (ix3 (0 : Fin 1) (0 : Fin 1) e)
    = V m c main_v6 (ix3 (⟨min (t.val / 4 / 8) 4 * 6 + 0, by omega⟩ : Fin 48) (0 : Fin 1) e) := by
  blk_simp [iblk]
  refine congrArg (V m c main_v6) ?_
  blk_ext [index2]

theorem blk3 (c : Dev nD) (t : Fin cfg0.N) (e : Fin 2048) : iblk m c 3 t (ix3 (0 : Fin 1) (0 : Fin 1) e)
    = V m c main_v6 (ix3 (⟨min (t.val / 4 / 8) 4 * 6 + 1, by omega⟩ : Fin 48) (0 : Fin 1) e) := by
  blk_simp [iblk]
  refine congrArg (V m c main_v6) ?_
  blk_ext [index3]

/-- A block of the weights: some columns of segment `s`, as rows. -/
def Seg (c : Dev nD) (t : Fin cfg0.N) (s : Fin 5) (w : Vec Ideal S1x512x2048 .bf16) : Prop :=
  ∀ (q : Fin 512) (e : Fin 2048), w (ix3 (0 : Fin 1) q e)
    = V m c main_v18 (ix3 (0 : Fin 2) (⟨s.val * 2048 + (t.val % 4 * 512 + q.val), by omega⟩ : Fin 10240) e)

theorem seg5 (c : Dev nD) (t : Fin cfg0.N) : Seg m c t 0 (iblk m c 5 t) := fun q e => by
  blk_simp [iblk]
  refine congrArg (V m c main_v18) ?_
  blk_ext [index5]
  show t.val % 4 * 512 + q.val = 0 * 2048 + (t.val % 4 * 512 + q.val)
  omega
theorem seg6 (c : Dev nD) (t : Fin cfg0.N) : Seg m c t 1 (iblk m c 6 t) := fun q e => by
  blk_simp [iblk]
  refine congrArg (V m c main_v18) ?_
  blk_ext [index6]
  show (1 * 4 + t.val % 4) * 512 + q.val = 1 * 2048 + (t.val % 4 * 512 + q.val)
  omega
theorem seg7 (c : Dev nD) (t : Fin cfg0.N) : Seg m c t 2 (iblk m c 7 t) := fun q e => by
  blk_simp [iblk]
  refine congrArg (V m c main_v18) ?_
  blk_ext [index7]
  show (2 * 4 + t.val % 4) * 512 + q.val = 2 * 2048 + (t.val % 4 * 512 + q.val)
  omega
theorem seg8 (c : Dev nD) (t : Fin cfg0.N) : Seg m c t 3 (iblk m c 8 t) := fun q e => by
  blk_simp [iblk]
  refine congrArg (V m c main_v18) ?_
  blk_ext [index8]
  show (3 * 4 + t.val % 4) * 512 + q.val = 3 * 2048 + (t.val % 4 * 512 + q.val)
  omega
theorem seg9 (c : Dev nD) (t : Fin cfg0.N) : Seg m c t 4 (iblk m c 9 t) := fun q e => by
  blk_simp [iblk]
  refine congrArg (V m c main_v18) ?_
  blk_ext [index9]
  show (4 * 4 + t.val % 4) * 512 + q.val = 4 * 2048 + (t.val % 4 * 512 + q.val)
  omega

/-! ## The arrays -/

/-- Segment `s` of the projections, of the call's own arguments. -/
def projOf (c : Dev nD) (s : Fin 5) (r : Fin 17408) (k : Fin 2048) : EReal :=
  proj (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) s r k

theorem hAt_apply (c : Dev nD) (t : Fin cfg0.N) (p : Fin 512) (e : Fin 2048) : hAt m c t (ix2 p e)
    = hRow (m ((c : Thread nD τ).loc main_arg0)) (m ((c : Thread nD τ).loc main_arg1)) (m ((c : Thread nD τ).loc main_arg2))
    (m ((c : Thread nD τ).loc main_arg3)) (m ((c : Thread nD τ).loc main_arg4)) (rowAt t p) e := by
  unfold hAt
  refine (hBlk_apply _ _ _ _ p e).trans ?_
  unfold hRow
  have hb : min (t.val / 4 / 8) 4 = min ((t.val / 4 * 512 + p.val) / 4096) 4 := by have := p.isLt; omega
  have e0 : (fun e => iblk m c 0 t (ix2 p e)) = joined (m ((c : Thread nD τ).loc main_arg0)) (m ((c : Thread nD τ).loc main_arg1)) (rowAt t p) :=
    funext fun e => (blk0 m c t p e).trans (V_x m c _ e)
  have e1 : (fun e => iblk m c 1 t (ix3 (0 : Fin 1) (0 : Fin 1) e)) = fun k => m ((c : Thread nD τ).loc main_arg4) (ix2 (0 : Fin 2) k) :=
    funext fun e => (blk1 m c t e).trans (V_ln m c e)
  have e2 : (fun e => iblk m c 2 t (ix3 (0 : Fin 1) (0 : Fin 1) e)) = modRow (m ((c : Thread nD τ).loc main_arg2)) (m ((c : Thread nD τ).loc main_arg3)) (min ((t.val / 4 * 512 + p.val) / 4096) 4) 0 :=
    funext fun e => (blk2 m c t e).trans (by rw [V_mod, modRows_apply _ _ (min (t.val / 4 / 8) 4) (by omega) 0 _ rfl, hb])
  have e3 : (fun e => iblk m c 3 t (ix3 (0 : Fin 1) (0 : Fin 1) e)) = modRow (m ((c : Thread nD τ).loc main_arg2)) (m ((c : Thread nD τ).loc main_arg3)) (min ((t.val / 4 * 512 + p.val) / 4096) 4) 1 :=
    funext fun e => (blk3 m c t e).trans (by rw [V_mod, modRows_apply _ _ (min (t.val / 4 / 8) 4) (by omega) 1 _ rfl, hb])
  rw [e0, e1, e2, e3]

/-- A tile against a block of a segment's weights: that segment of the projections. -/
theorem prod_at (c : Dev nD) (t : Fin cfg0.N) (s : Fin 5) (w : Vec Ideal S1x512x2048 .bf16) (hw : Seg m c t s w) (p q : Fin 512) :
    prod (hAt m c t) w (ix2 p q) = projOf m c s (rowAt t p) (colAt t q) := by
  refine (prod_apply _ _ p q).trans ?_
  unfold projOf proj
  exact Finset.sum_congr rfl fun e _ => congrArg₂ (· * ·) (hAt_apply m c t p e) ((hw q e).trans (V_w m c _ e))

/-- A block read at an index of it, in the whole array. -/
theorem entry (t : Fin cfg0.N) (B : S512x512.Idx → EReal) (G : Fin 17408 → Fin 2048 → EReal)
    (h : ∀ p q, B (ix2 p q) = G (rowAt t p) (colAt t q)) (y : S512x512.Idx) (r : Fin 17408) (k : Fin 2048)
    (hr : r.val = t.val / 4 * 512 + (y 0).val) (hk : k.val = t.val % 4 * 512 + (y 1).val) : B y = G r k := by
  have hy : y = (ix2 (⟨(y 0).val, (y 0).isLt⟩ : Fin 512) (⟨(y 1).val, (y 1).isLt⟩ : Fin 512) : S512x512.Idx) :=
    funext fun a => Fin.ext (by match a with | ⟨0, _⟩ => rfl | ⟨1, _⟩ => rfl)
  exact (congrArg B hy).trans ((h _ _).trans (congrArg₂ G (Fin.ext hr.symm) (Fin.ext hk.symm)))

/-- The arrays after the run. -/
def bArr (c : Dev nD) : Buf (Elt Ideal) ((c : Thread nD τ).loc main_v20_1) := fun y =>
  projOf m c 0 ⟨(y 0).val, (y 0).isLt⟩ ⟨(y 1).val, (y 1).isLt⟩
def zArr (c : Dev nD) : Buf (Elt Ideal) ((c : Thread nD τ).loc main_v20_2) := fun y =>
  (projOf m c 1 ⟨(y 0).val, (y 0).isLt⟩ ⟨(y 1).val, (y 1).isLt⟩ * projOf m c 2 ⟨(y 0).val, (y 0).isLt⟩ ⟨(y 1).val, (y 1).isLt⟩ : EReal)
def gaArr (c : Dev nD) : Buf (Elt Ideal) ((c : Thread nD τ).loc main_v20_3) := fun y =>
  logit (projOf m c 3 ⟨(y 0).val, (y 0).isLt⟩ ⟨(y 1).val, (y 1).isLt⟩)
def gcArr (c : Dev nD) : Buf (Elt Ideal) ((c : Thread nD τ).loc main_v20_4) := fun y =>
  logit (projOf m c 4 ⟨(y 0).val, (y 0).isLt⟩ ⟨(y 1).val, (y 1).isLt⟩)

theorem b_eq (c : Dev nD) : (dats m 0 c).arrAt 11 cfg0.N = bArr m c := by
  refine (dats m 0 c).arrAt_eq_of_covers 11 _ (by decide +kernel) fun t hf y => ?_
  blk_simp
  exact entry t (bBlk (hAt m c t) (iblk m c 5 t)) (projOf m c 0) (prod_at m c t 0 _ (seg5 m c t)) y _ _ (by blk_simp [index11]) (by blk_simp [index11])

theorem z_eq (c : Dev nD) : (dats m 0 c).arrAt 12 cfg0.N = zArr m c := by
  refine (dats m 0 c).arrAt_eq_of_covers 12 _ (by decide +kernel) fun t hf y => ?_
  blk_simp
  exact entry t (zBlk (hAt m c t) (iblk m c 6 t) (iblk m c 7 t)) (fun r k => projOf m c 1 r k * projOf m c 2 r k)
    (fun p q => congrArg₂ (· * ·) (prod_at m c t 1 _ (seg6 m c t) p q) (prod_at m c t 2 _ (seg7 m c t) p q)) y _ _ (by blk_simp [index12]) (by blk_simp [index12])

theorem ga_eq (c : Dev nD) : (dats m 0 c).arrAt 13 cfg0.N = gaArr m c := by
  refine (dats m 0 c).arrAt_eq_of_covers 13 _ (by decide +kernel) fun t hf y => ?_
  blk_simp
  exact entry t (gBlk (hAt m c t) (iblk m c 8 t)) (fun r k => logit (projOf m c 3 r k))
    (fun p q => (gBlk_apply _ _ _).trans (congrArg logit (prod_at m c t 3 _ (seg8 m c t) p q))) y _ _ (by blk_simp [index13]) (by blk_simp [index13])

theorem gc_eq (c : Dev nD) : (dats m 0 c).arrAt 14 cfg0.N = gcArr m c := by
  refine (dats m 0 c).arrAt_eq_of_covers 14 _ (by decide +kernel) fun t hf y => ?_
  blk_simp
  exact entry t (gBlk (hAt m c t) (iblk m c 9 t)) (fun r k => logit (projOf m c 4 r k))
    (fun p q => (gBlk_apply _ _ _).trans (congrArg logit (prod_at m c t 4 _ (seg9 m c t) p q))) y _ _ (by blk_simp [index14]) (by blk_simp [index14])

end Cert.InProjIdeal.InP

end
-- ==== Proof.InSmall.lean ====
/-
  The input projection's first result, the small projections: the columns of the weights the host lines up, a tile's
  block, and so the array, as a function of the arguments.
-/
module

public import proofs.«01_k».proof.Proof.InArr
public import Idealize.ShloMosaic.Lib.Claim

@[expose] public section

set_option maxRecDepth 16384

noncomputable section

namespace Cert.InProjIdeal.InP

open Cert.InProjIdeal Cert.InProjIdeal.Gen Idealize.ShloMosaic Idealize.ShloMosaic.TcCoe Idealize.ShloMosaic.ValueIdx
open Idealize.SL.Sem
open Cert.Rows

/-! ## The columns -/

/-- The column of the weights that column `q` of the small projections reads: the latents of the keys and values, those
    of the queries, the even lanes of the rotary key, its odd lanes. -/
def smallCol (q : ℕ) : ℕ := if q < 256 then q else if q < 768 then 64 + q else if q < 800 then 256 + 2 * (q - 768) else 257 + 2 * (q - 800)

theorem smallCol_lt {q : ℕ} (h : q < 832) : smallCol q < 11072 := by
  unfold smallCol
  split
  · omega
  · split
    · omega
    · split <;> omega

/-- The small projections at row `r` and column `q`; the last 64 columns are zeros. -/
def small (x : Vec Ideal S4x4096x2048 .f32) (ctx : Vec Ideal S4x256x2048 .f32) (mx : Vec Ideal S4x12288 .f32) (mc : Vec Ideal S12288 .f32)
    (ln : Vec Ideal S2x2048 .f32) (w : Vec Ideal S2x2048x11072 .f32) (r : Fin 17408) (q : Fin 896) : EReal :=
  if h : q.val < 832 then ∑ e : Fin 2048, hRow x ctx mx mc ln r e * w (ix3 (0 : Fin 2) e (⟨smallCol q.val, smallCol_lt h⟩ : Fin 11072)) else 0

/-! ## The weights the host prepares -/

variable (w : Vec Ideal S2x2048x11072 .f32)

/-- The rotary key's columns. -/
def keyCols : Vec Ideal S2x2048x64 .f32 := extractStridedSlice S2x2048x64 ![0, 0, 256] w slices_S2x2048x11072_S2x2048x64_0_0_256

/-- … the even ones before the odd ones. -/
def keySplit : Vec Ideal S2x2048x64 .f32 := concatenate S2x2048x64 2
  [⟨S2x2048x32, Host.slice S2x2048x32 ![0, 0, 0] ![1, 1, 2] (keyCols w) slicesBy_S2x2048x64_S2x2048x32_0s1_0s1_0s2⟩,
    ⟨S2x2048x32, Host.slice S2x2048x32 ![0, 0, 1] ![1, 1, 2] (keyCols w) slicesBy_S2x2048x64_S2x2048x32_0s1_0s1_1s2⟩]
  concatenates_S2x2048x32_S2x2048x32_S2x2048x64_d2

/-- The weights of the small projections, by pieces of columns. -/
abbrev smallPieces : List ((s : Shape) × (s.Idx → EReal)) :=
  [⟨S2x2048x256, extractStridedSlice S2x2048x256 ![0, 0, 0] w slices_S2x2048x11072_S2x2048x256_0_0_0⟩,
    ⟨S2x2048x512, extractStridedSlice S2x2048x512 ![0, 0, 320] w slices_S2x2048x11072_S2x2048x512_0_0_320⟩,
    ⟨S2x2048x64, keySplit w⟩,
    ⟨S2x2048x64, broadcastInDim S2x2048x64 ![] bcast_S_S2x2048x64 (constant (F := Ideal) S_ .f32 0x00000000#32)⟩]

def smallWeights : Vec Ideal S2x2048x896 .f32 :=
  concatenate S2x2048x896 2 (smallPieces w) concatenates_S2x2048x256_S2x2048x512_S2x2048x64_S2x2048x64_S2x2048x896_d2

theorem keyCols_apply (e : Fin 2048) (j : Fin 64) :
    keyCols w (ix3 (0 : Fin 2) e j) = w (ix3 (0 : Fin 2) e (⟨256 + j.val, by omega⟩ : Fin 11072)) :=
  extractStridedSlice_apply ![0, 0, 256] w slices_S2x2048x11072_S2x2048x64_0_0_256 (ix3 (0 : Fin 2) e j : S2x2048x64.Idx)
    (ix3 (0 : Fin 2) e (⟨256 + j.val, by omega⟩ : Fin 11072)) (fun a => match a with | ⟨0, _⟩ => rfl | ⟨1, _⟩ => (Nat.zero_add _).symm | ⟨2, _⟩ => rfl)

theorem keySplit_even (e : Fin 2048) (j : Fin 64) (h : j.val < 32) :
    keySplit w (ix3 (0 : Fin 2) e j) = w (ix3 (0 : Fin 2) e (⟨256 + 2 * j.val, by omega⟩ : Fin 11072)) := by
  unfold keySplit
  refine (concatenate_pair_apply_left (t := S2x2048x64) (s₁ := S2x2048x32) (s₂ := S2x2048x32) 2 _ _ _ _ rfl
    (ix3 (0 : Fin 2) e (⟨j.val, h⟩ : Fin 32) : S2x2048x32.Idx) (fun a => by match a with | ⟨0, _⟩ => rfl | ⟨1, _⟩ => rfl | ⟨2, _⟩ => rfl)).trans ?_
  unfold Host.slice
  refine Eq.trans (congrArg (keyCols w) (a₂ := ix3 (0 : Fin 2) e (⟨2 * j.val, by omega⟩ : Fin 64)) (funext fun a => Fin.ext ?_)) (keyCols_apply w e _)
  match a with
  | ⟨0, _⟩ => rfl
  | ⟨1, _⟩ => show 0 + 1 * e.val = e.val; omega
  | ⟨2, _⟩ => show 0 + 2 * j.val = 2 * j.val; omega

theorem keySplit_odd (e : Fin 2048) (j : Fin 64) (h : ¬ j.val < 32) :
    keySplit w (ix3 (0 : Fin 2) e j) = w (ix3 (0 : Fin 2) e (⟨257 + 2 * (j.val - 32), by omega⟩ : Fin 11072)) := by
  unfold keySplit
  refine (concatenate_pair_apply_right (t := S2x2048x64) (s₁ := S2x2048x32) (s₂ := S2x2048x32) 2 _ _ _ _ rfl rfl
    (ix3 (0 : Fin 2) e (⟨j.val - 32, by omega⟩ : Fin 32) : S2x2048x32.Idx) (fun a ha => by
      match a, ha with | ⟨0, _⟩, _ => rfl | ⟨1, _⟩, _ => rfl | ⟨2, _⟩, ha => exact absurd rfl ha) (by show j.val - 32 + 32 = j.val; omega)).trans ?_
  unfold Host.slice
  refine Eq.trans (congrArg (keyCols w) (a₂ := ix3 (0 : Fin 2) e (⟨1 + 2 * (j.val - 32), by omega⟩ : Fin 64)) (funext fun a => Fin.ext ?_))
    ((keyCols_apply w e _).trans (congrArg w (funext fun a => Fin.ext ?_)))
  · match a with
    | ⟨0, _⟩ => rfl
    | ⟨1, _⟩ => show 0 + 1 * e.val = e.val; omega
    | ⟨2, _⟩ => rfl
  · match a with
    | ⟨0, _⟩ => rfl
    | ⟨1, _⟩ => rfl
    | ⟨2, _⟩ => show 256 + (1 + 2 * (j.val - 32)) = 257 + 2 * (j.val - 32); omega

/-- A piece of the columns, read where it starts. -/
theorem piece_apply (k : ℕ) (hk : k < 4) (n : ℕ) (v : (⟨3, ![2, 2048, n]⟩ : Shape).Idx → EReal) (hv : (smallPieces w)[k]'(by simpa using hk) = ⟨⟨3, ![2, 2048, n]⟩, v⟩)
    (pre : ℕ) (hpre : ((((smallPieces w).take k).map (·.1)).map fun s => if h : s.rank = S2x2048x896.rank then s.size ((2 : Fin 3).cast h.symm) else 0).sum = pre)
    (e : Fin 2048) (q : Fin 896) (j : Fin n) (hj : pre + j.val = q.val) :
    smallWeights w (ix3 (0 : Fin 2) e q) = v (ix3 (0 : Fin 2) e j) := by
  unfold smallWeights
  exact concatenate_apply_piece (t := S2x2048x896) 2 _ _ _ k (by simpa using hk) _ v hv rfl pre hpre _ (fun a ha => by
    match a, ha with | ⟨0, _⟩, _ => rfl | ⟨1, _⟩, _ => rfl | ⟨2, _⟩, ha => exact absurd rfl ha) hj

theorem smallWeights_apply (e : Fin 2048) (q : Fin 896) : smallWeights w (ix3 (0 : Fin 2) e q)
    = if h : q.val < 832 then w (ix3 (0 : Fin 2) e (⟨smallCol q.val, smallCol_lt h⟩ : Fin 11072)) else 0 := by
  have at_col : ∀ (n : ℕ) (hn : n < 11072) (h : q.val < 832), n = smallCol q.val →
      w (ix3 (0 : Fin 2) e (⟨n, hn⟩ : Fin 11072)) = w (ix3 (0 : Fin 2) e (⟨smallCol q.val, smallCol_lt h⟩ : Fin 11072)) :=
    fun n hn h hc => congrArg (fun j => w (ix3 (0 : Fin 2) e j)) (Fin.ext hc)
  by_cases h0 : q.val < 256
  · rw [dif_pos (by omega)]
    refine (piece_apply w 0 (by omega) 256 _ rfl 0 rfl e q ⟨q.val, h0⟩ (Nat.zero_add _)).trans ?_
    refine (extractStridedSlice_apply ![0, 0, 0] w slices_S2x2048x11072_S2x2048x256_0_0_0 _
      (ix3 (0 : Fin 2) e (⟨q.val, by omega⟩ : Fin 11072)) (fun a => match a with
        | ⟨0, _⟩ => rfl | ⟨1, _⟩ => (Nat.zero_add _).symm | ⟨2, _⟩ => (Nat.zero_add _).symm)).trans ?_
    exact at_col _ _ (by omega) (by unfold smallCol; rw [if_pos h0])
  by_cases h1 : q.val < 768
  · rw [dif_pos (by omega)]
    refine (piece_apply w 1 (by omega) 512 _ rfl 256 rfl e q ⟨q.val - 256, by omega⟩ (by show 256 + (q.val - 256) = q.val; omega)).trans ?_
    refine (extractStridedSlice_apply ![0, 0, 320] w slices_S2x2048x11072_S2x2048x512_0_0_320 _
      (ix3 (0 : Fin 2) e (⟨320 + (q.val - 256), by omega⟩ : Fin 11072)) (fun a => match a with
        | ⟨0, _⟩ => rfl | ⟨1, _⟩ => (Nat.zero_add _).symm | ⟨2, _⟩ => rfl)).trans ?_
    exact at_col _ _ (by omega) (by unfold smallCol; rw [if_neg h0, if_pos h1]; omega)
  by_cases h2 : q.val < 800
  · rw [dif_pos (by omega)]
    refine (piece_apply w 2 (by omega) 64 _ rfl 768 rfl e q ⟨q.val - 768, by omega⟩ (by show 768 + (q.val - 768) = q.val; omega)).trans ?_
    refine (keySplit_even w e _ (by show q.val - 768 < 32; omega)).trans ?_
    exact at_col _ _ (by omega) (by unfold smallCol; rw [if_neg h0, if_neg h1, if_pos h2])
  by_cases h3 : q.val < 832
  · rw [dif_pos h3]
    refine (piece_apply w 2 (by omega) 64 _ rfl 768 rfl e q ⟨q.val - 768, by omega⟩ (by show 768 + (q.val - 768) = q.val; omega)).trans ?_
    refine (keySplit_odd w e _ (by show ¬ q.val - 768 < 32; omega)).trans ?_
    exact at_col _ _ (by omega) (by unfold smallCol; rw [if_neg h0, if_neg h1, if_neg h2]; show 257 + 2 * (q.val - 768 - 32) = _; omega)
  · rw [dif_neg h3]
    have := q.isLt
    refine (piece_apply w 3 (by omega) 64 _ rfl 832 rfl e q ⟨q.val - 832, by omega⟩ (by show 832 + (q.val - 832) = q.val; omega)).trans ?_
    refine (broadcastInDim_apply _ bcast_S_S2x2048x64 _ _ (fun a => a.elim0) (fun a => a.elim0)).trans ?_
    exact Ideal.ofBits_zero_f32

/-! ## A tile's block -/

theorem psBlk_apply (h : Vec Ideal S512x2048 .bf16) (v : Vec Ideal S1x2048x896 .bf16) (p : Fin 512) (q : Fin 896) :
    psBlk h v (ix2 p q) = (∑ e : Fin 2048, h (ix2 p e) * v (ix3 (0 : Fin 1) e q) : EReal) := by
  unfold psBlk
  refine (Ideal.matmul_plain_apply none _ _ _ p q).trans ?_
  rw [constant_apply, Ideal.ofBits_zero_f32, zero_add]
  refine Finset.sum_congr rfl fun e _ => congrArg (h (ix2 p e) * ·) ?_
  rw [shapeCast_dropUnit_apply]
  exact congrArg v (funext fun a => Fin.ext (by match a with | ⟨0, _⟩ => rfl | ⟨1, _⟩ => rfl | ⟨2, _⟩ => rfl))

theorem index4 : ∀ t : Fin cfg0.N, win0_4.index t = ![0, 0, 0] :=
  (by decide +kernel : ∀ t : Fin grid0.N, win0_4.index t = ![0, 0, 0])
theorem index10 : ∀ t : Fin cfg0.N, win0_10.index t = ![t.val / 4, 0] :=
  (by decide +kernel : ∀ t : Fin grid0.N, win0_10.index t = ![t.val / 4, 0])

variable (m : (ℓ : Loc nD τ sig) → Buf (Elt Ideal) ℓ)

theorem V_small (c : Dev nD) : V m c main_v15 = truncf (F := Ideal) .bf16 (smallWeights (m ((c : Thread nD τ).loc main_arg5))) bitsLt_bf16_f32 := by
  rw [V_host]; after_results
  refine congrArg (fun z => truncf (F := Ideal) .bf16 z bitsLt_bf16_f32) ?_
  unfold smallWeights smallPieces keySplit keyCols
  refine StableHlo.concatenate_congr _ _ ?_ _ _
  refine congrArg₂ List.cons (congrArg (Sigma.mk S2x2048x256) ?_) (congrArg₂ List.cons (congrArg (Sigma.mk S2x2048x512) ?_)
    (congrArg₂ List.cons (congrArg (Sigma.mk S2x2048x64) ?_) (congrArg₂ List.cons (congrArg (Sigma.mk S2x2048x64) ?_) rfl)))
  · refine (StableHlo.unary_result_ne (r := main_v7) _ _ _ _ _ _ (by decide)).trans ?_
    after_results_steps
  · refine (StableHlo.unary_result_ne (r := main_v8) _ _ _ _ _ _ (by decide)).trans ?_
    after_results_steps
  · refine (StableHlo.unary_result_ne (r := main_v12) _ _ _ _ _ _ (by decide)).trans ?_
    after_results_steps
  · refine (StableHlo.unary_result _ main_v13 _ _ _ _).trans ?_
    exact congrArg (broadcastInDim S2x2048x64 ![] bcast_S_S2x2048x64) (StableHlo.nullary_result main_cst_0 _ _ _)

theorem blk4 (c : Dev nD) (t : Fin cfg0.N) (e : Fin 2048) (q : Fin 896) :
    iblk m c 4 t (ix3 (0 : Fin 1) e q) = V m c main_v15 (ix3 (0 : Fin 2) e q) := by
  blk_simp [iblk]
  refine congrArg (V m c main_v15) ?_
  blk_ext [index4]

/-- The small projections, of the call's own arguments. -/
def smallOf (c : Dev nD) (r : Fin 17408) (q : Fin 896) : EReal :=
  small (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) r q

theorem ps_at (c : Dev nD) (t : Fin cfg0.N) (p : Fin 512) (q : Fin 896) : psAt m c t (ix2 p q) = smallOf m c (rowAt t p) q := by
  unfold psAt
  refine (psBlk_apply _ _ p q).trans ?_
  unfold smallOf small
  have hw : ∀ e : Fin 2048, iblk m c 4 t (ix3 (0 : Fin 1) e q) = smallWeights (m ((c : Thread nD τ).loc main_arg5)) (ix3 (0 : Fin 2) e q) :=
    fun e => (blk4 m c t e q).trans (congrFun (V_small m c) _)
  by_cases h : q.val < 832
  · rw [dif_pos h]
    exact Finset.sum_congr rfl fun e _ => congrArg₂ (fun a b : EReal => a * b) (hAt_apply m c t p e)
      ((hw e).trans ((smallWeights_apply _ e q).trans (dif_pos h)))
  · rw [dif_neg h]
    refine Finset.sum_eq_zero fun e _ => ?_
    exact (congrArg (fun b : EReal => hAt m c t (ix2 p e) * b) ((hw e).trans ((smallWeights_apply _ e q).trans (dif_neg h)))).trans (mul_zero _)

/-- The array after the run. -/
def psArr (c : Dev nD) : Buf (Elt Ideal) ((c : Thread nD τ).loc main_v20_0) := fun y =>
  smallOf m c ⟨(y 0).val, (y 0).isLt⟩ ⟨(y 1).val, (y 1).isLt⟩

theorem ps_entry (c : Dev nD) (t : Fin cfg0.N) (y : S512x896.Idx) (r : Fin 17408) (q : Fin 896)
    (hr : r.val = t.val / 4 * 512 + (y 0).val) (hq : q.val = (y 1).val) : psAt m c t y = smallOf m c r q := by
  have hy : y = (ix2 (⟨(y 0).val, (y 0).isLt⟩ : Fin 512) (⟨(y 1).val, (y 1).isLt⟩ : Fin 896) : S512x896.Idx) :=
    funext fun a => Fin.ext (by match a with | ⟨0, _⟩ => rfl | ⟨1, _⟩ => rfl)
  exact (congrArg (psAt m c t) hy).trans ((ps_at m c t _ _).trans (congrArg₂ (smallOf m c) (Fin.ext hr.symm) (Fin.ext hq.symm)))

theorem ps_eq (c : Dev nD) : (dats m 0 c).arrAt 10 cfg0.N = psArr m c := by
  refine (dats m 0 c).arrAt_eq_of_covers 10 _ (by decide +kernel) fun t hf y => ?_
  blk_simp
  exact ps_entry m c t y _ _ (by blk_simp [index10]) (by blk_simp [index10])

end Cert.InProjIdeal.InP

end
-- ==== Proof.InTail.lean ====
/-
  The host's operations after the input projection's call: the small projections taken apart, the rotary key's lanes
  put back in their order.
-/
module

public import proofs.«01_k».proof.Proof.InSmall

@[expose] public section

set_option maxRecDepth 16384

noncomputable section

namespace Cert.InProjIdeal.InP

open Cert.InProjIdeal Cert.InProjIdeal.Gen Idealize.ShloMosaic Idealize.ShloMosaic.TcCoe Idealize.ShloMosaic.ValueIdx
open Idealize.SL.Sem
open Cert.Rows

/-! ## The columns of the small projections that a result's column is -/

def kvCol (j : Fin 256) : Fin 896 := ⟨j.val, by omega⟩
def krCol (j : Fin 64) : Fin 896 := ⟨768 + (j.val % 2 * 32 + j.val / 2), by omega⟩
def pqCol (j : Fin 512) : Fin 896 := ⟨256 + j.val, by omega⟩

/-! ## The host's operations, at an index -/

variable (v : Vec Ideal S17408x896 .f32)

/-- The rotary key's columns, each lane back in its place. -/
def keyBack : Vec Ideal S17408x64 .f32 :=
  shapeCast S17408x64 (transpose S17408x32x2 [0, 2, 1] (shapeCast S17408x2x32 (extractStridedSlice S17408x64 ![0, 768] v slices_S17408x896_S17408x64_0_768)
    shapeCasts_S17408x64_S17408x2x32) transposes_S17408x2x32_S17408x32x2_0_2_1) shapeCasts_S17408x32x2_S17408x64

theorem keyBack_apply (r : Fin 17408) (j : Fin 64) : keyBack v (ix2 r j) = v (ix2 r (krCol j)) := by
  unfold keyBack
  refine (shapeCast_apply _ _ _ (ix3 r (⟨j.val / 2, by omega⟩ : Fin 32) (⟨j.val % 2, by omega⟩ : Fin 2) : S17408x32x2.Idx) (by
    rw [Shape.rowMajor_val_three, Shape.rowMajor_val_two]
    show (r.val * 32 + j.val / 2) * 2 + j.val % 2 = r.val * 64 + j.val
    omega)).trans ?_
  refine (transpose_apply _ _ transposes_S17408x2x32_S17408x32x2_0_2_1 _ (ix3 r (⟨j.val % 2, by omega⟩ : Fin 2) (⟨j.val / 2, by omega⟩ : Fin 32) : S17408x2x32.Idx)
    (fun a => match a with | ⟨0, _⟩ => rfl | ⟨1, _⟩ => rfl | ⟨2, _⟩ => rfl)).trans ?_
  refine (shapeCast_apply _ _ _ (ix2 r (⟨j.val % 2 * 32 + j.val / 2, by omega⟩ : Fin 64) : S17408x64.Idx) (by
    rw [Shape.rowMajor_val_three, Shape.rowMajor_val_two]
    show r.val * 64 + (j.val % 2 * 32 + j.val / 2) = (r.val * 2 + j.val % 2) * 32 + j.val / 2
    omega)).trans ?_
  exact extractStridedSlice_apply ![0, 768] v slices_S17408x896_S17408x64_0_768 _ (ix2 r (krCol j))
    (fun a => match a with | ⟨0, _⟩ => (Nat.zero_add _).symm | ⟨1, _⟩ => rfl)

/-! ## The arrays at the end -/

variable (m : (ℓ : Loc nD τ sig) → Buf (Elt Ideal) ℓ)

/-- An array of columns of the small projections. -/
def colsArr {n : ℕ} (col : Fin n → Fin 896) (c : Dev nD) : Vec Ideal ⟨2, ![17408, n]⟩ .f32 := fun y =>
  smallOf m c ⟨(y 0).val, (y 0).isLt⟩ (col ⟨(y 1).val, (y 1).isLt⟩)

/-- What the buffers hold when the call has returned. -/
abbrev left (c : Dev nD) : Valuation τ sig (Elt Ideal) := Pipeline.withArrays spec0 c (V0 m c) fun w => (dats m 0 c).arrAt w cfg0.N

theorem left_ps (c : Dev nD) : left m c (Proc.devRef .tc main_v20_0) = psArr m c :=
  (Pipeline.Dat.withArrays_arrAt (dats m 0 c) sharedIn0 (V0 m c) (A_eq m c) 10).trans (ps_eq m c)

theorem kv_eq (c : Dev nD) : W m c main_v25 = colsArr m kvCol c := by
  have h : W m c main_v25 = extractStridedSlice S17408x256 ![0, 0] (left m c (Proc.devRef .tc main_v20_0)) slices_S17408x896_S17408x256_0_0 := by
    rw [W_host]; after_results
  rw [h, left_ps]
  funext y
  exact extractStridedSlice_apply ![0, 0] (psArr m c) slices_S17408x896_S17408x256_0_0 y
    (ix2 (⟨(y 0).val, (y 0).isLt⟩ : Fin 17408) (kvCol ⟨(y 1).val, (y 1).isLt⟩))
    (fun a => match a with | ⟨0, _⟩ => (Nat.zero_add _).symm | ⟨1, _⟩ => (Nat.zero_add _).symm)

theorem pq_eq (c : Dev nD) : W m c main_v26 = colsArr m pqCol c := by
  have h : W m c main_v26 = extractStridedSlice S17408x512 ![0, 256] (left m c (Proc.devRef .tc main_v20_0)) slices_S17408x896_S17408x512_0_256 := by
    rw [W_host]; after_results
  rw [h, left_ps]
  funext y
  exact extractStridedSlice_apply ![0, 256] (psArr m c) slices_S17408x896_S17408x512_0_256 y
    (ix2 (⟨(y 0).val, (y 0).isLt⟩ : Fin 17408) (pqCol ⟨(y 1).val, (y 1).isLt⟩))
    (fun a => match a with | ⟨0, _⟩ => (Nat.zero_add _).symm | ⟨1, _⟩ => rfl)

theorem kr_eq (c : Dev nD) : W m c main_v24 = colsArr m krCol c := by
  have h : W m c main_v24 = keyBack (left m c (Proc.devRef .tc main_v20_0)) := by
    rw [W_host]; unfold keyBack; after_results; rfl
  rw [h, left_ps]
  funext y
  have hy : y = (ix2 (⟨(y 0).val, (y 0).isLt⟩ : Fin 17408) (⟨(y 1).val, (y 1).isLt⟩ : Fin 64) : S17408x64.Idx) :=
    funext fun a => match a with | ⟨0, _⟩ => rfl | ⟨1, _⟩ => rfl
  exact (congrArg (keyBack (psArr m c)) hy).trans (keyBack_apply _ _ _)

end Cert.InProjIdeal.InP

end
-- ==== Proof.InRef.lean ====
/-
  The input projection's reference at an index: the same normalised rows, products and gates.
-/
module

public import proofs.«01_k».proof.Proof.InArr
public import proofs.«01_k».proof.Proof.Gen.InProjReferenceIdeal.Read
public import Idealize.ShloMosaic.Lib.KernelVsHost

@[expose] public section

set_option maxRecDepth 16384

noncomputable section

namespace Cert.InProjReferenceIdeal.InP

open Cert.InProjReferenceIdeal Cert.InProjReferenceIdeal.Gen Cert.InProjReferenceIdeal.Read
open Idealize.ShloMosaic Idealize.ShloMosaic.TcCoe Idealize.ShloMosaic.ValueIdx
open Cert.Rows Cert.InProjIdeal.InP

/-! ## The weights of the layer -/

theorem weight_lat (w : Vec Ideal S2x2048x11072 .f32) (e : Fin 2048) (j : Fin 11072) :
    val_main_v63 (F := Ideal) w (ix2 e j) = w (ix3 (0 : Fin 2) e j) := by
  rw [val_main_v63_apply, val_main_v62_apply]
  refine congrArg w (funext fun a => Fin.ext ?_)
  match a with
  | ⟨0, _⟩ => rfl
  | ⟨1, _⟩ => show (e.val * 11072 + j.val) / 11072 % 2048 = e.val; omega
  | ⟨2, _⟩ => show (e.val * 11072 + j.val) % 11072 = j.val; omega

theorem weight_ctx (w : Vec Ideal S2x2048x11072 .f32) (e : Fin 2048) (j : Fin 11072) :
    val_main_v67 (F := Ideal) w (ix2 e j) = w (ix3 (0 : Fin 2) e j) := by
  rw [val_main_v67_apply, val_main_v66_apply]
  refine congrArg w (funext fun a => Fin.ext ?_)
  match a with
  | ⟨0, _⟩ => rfl
  | ⟨1, _⟩ => show (e.val * 11072 + j.val) / 11072 % 2048 = e.val; omega
  | ⟨2, _⟩ => show (e.val * 11072 + j.val) % 11072 = j.val; omega

theorem ln_of {ln : Vec Ideal S2x2048 .f32} {i : S2x2048.Idx} {k : Fin 2048} (h0 : (i 0).val = 0) (h1 : (i 1).val = k.val) :
    ln i = ln (ix2 (0 : Fin 2) k) :=
  congrArg ln (funext fun a => Fin.ext (by match a with | ⟨0, _⟩ => exact h0 | ⟨1, _⟩ => exact h1))

/-! ## The normalised rows -/

theorem zero_num : num 0x00000000#32 = 0 := Ideal.ofBits_zero_f32

section Rows
variable (b : Fin 4)

theorem root_lat (x : Vec Ideal S4x4096x2048 .f32) (n : Fin 4096) (k : Fin 2048) : val_main_v51 (F := Ideal) x (ix3 b n k)
    = Ideal.rsqrt (Ideal.div (∑ e : Fin 2048, x (ix3 b n e) * x (ix3 b n e) : EReal) (num 0x45000000#32) + num 0x358637BD#32) := by
  rw [val_main_v51_apply, val_main_v50_apply, val_main_v49_apply, val_main_v47_apply, val_main_v45_apply, val_main_v44_apply,
    val_main_v46_apply, val_main_v48_apply]
  refine congrArg (fun z => Ideal.rsqrt (Ideal.div z (num 0x45000000#32) + num 0x358637BD#32)) ?_
  refine (congrArg (· + _) zero_num).trans ((zero_add _).trans (Finset.sum_congr rfl fun e _ => ?_))
  exact congrArg (fun i => (x i * x i : EReal)) (funext fun a => Fin.ext (by match a with | ⟨0, _⟩ => rfl | ⟨1, _⟩ => rfl | ⟨2, _⟩ => rfl))

theorem root_ctx (x : Vec Ideal S4x256x2048 .f32) (n : Fin 256) (k : Fin 2048) : val_main_v28 (F := Ideal) x (ix3 b n k)
    = Ideal.rsqrt (Ideal.div (∑ e : Fin 2048, x (ix3 b n e) * x (ix3 b n e) : EReal) (num 0x45000000#32) + num 0x358637BD#32) := by
  rw [val_main_v28_apply, val_main_v27_apply, val_main_v26_apply, val_main_v24_apply, val_main_v22_apply, val_main_v21_apply,
    val_main_v23_apply, val_main_v25_apply]
  refine congrArg (fun z => Ideal.rsqrt (Ideal.div z (num 0x45000000#32) + num 0x358637BD#32)) ?_
  refine (congrArg (· + _) zero_num).trans ((zero_add _).trans (Finset.sum_congr rfl fun e _ => ?_))
  exact congrArg (fun i => (x i * x i : EReal)) (funext fun a => Fin.ext (by match a with | ⟨0, _⟩ => rfl | ⟨1, _⟩ => rfl | ⟨2, _⟩ => rfl))

theorem h_lat (x : Vec Ideal S4x4096x2048 .f32) (mx : Vec Ideal S4x12288 .f32) (ln : Vec Ideal S2x2048 .f32) (n : Fin 4096) (k : Fin 2048) :
    val_main_v61 (F := Ideal) x mx ln (ix3 b n k) = normed (fun e => x (ix3 b n e)) (fun e => ln (ix2 (0 : Fin 2) e))
      (fun e => mx (ix2 b (⟨(0 : Fin 6).val * 2048 + e.val, by show 0 * 2048 + e.val < 12288; omega⟩ : Fin 12288)))
      (fun e => mx (ix2 b (⟨(1 : Fin 6).val * 2048 + e.val, by show 1 * 2048 + e.val < 12288; omega⟩ : Fin 12288))) k := by
  rw [val_main_v61_apply, val_main_v59_apply, val_main_v55_apply, val_main_v52_apply, root_lat, val_main_v54_apply, val_main_v53_apply,
    val_main_v42_apply, val_main_v41_apply, val_main_v58_apply, val_main_v57_apply, val_main_v56_apply, val_main_v7_apply, val_main_v1_apply,
    val_main_v60_apply, val_main_v6_apply, val_main_v0_apply]
  unfold normed
  refine congrArg₂ (· + ·) (congrArg₂ (· * ·) (congrArg₂ (· * ·) rfl ?_) (congrArg (num 0x3F800000#32 + ·) ?_)) ?_
  · exact ln_of rfl (Nat.mod_eq_of_lt k.isLt)
  · exact congrArg mx (funext fun a => Fin.ext (by
      match a with
      | ⟨0, _⟩ => rfl
      | ⟨1, _⟩ => show 2048 + k.val = 1 * 2048 + k.val; omega))
  · exact congrArg mx (funext fun a => Fin.ext (by
      match a with
      | ⟨0, _⟩ => rfl
      | ⟨1, _⟩ => show k.val = 0 * 2048 + k.val; omega))

theorem h_ctx (x : Vec Ideal S4x256x2048 .f32) (mc : Vec Ideal S12288 .f32) (ln : Vec Ideal S2x2048 .f32) (n : Fin 256) (k : Fin 2048) :
    val_main_v40 (F := Ideal) x mc ln (ix3 b n k) = normed (fun e => x (ix3 b n e)) (fun e => ln (ix2 (0 : Fin 2) e))
      (fun e => mc (ix1 (⟨(0 : Fin 6).val * 2048 + e.val, by show 0 * 2048 + e.val < 12288; omega⟩ : Fin 12288)))
      (fun e => mc (ix1 (⟨(1 : Fin 6).val * 2048 + e.val, by show 1 * 2048 + e.val < 12288; omega⟩ : Fin 12288))) k := by
  rw [val_main_v40_apply, val_main_v37_apply, val_main_v32_apply, val_main_v29_apply, root_ctx, val_main_v31_apply, val_main_v30_apply,
    val_main_v19_apply, val_main_v18_apply, val_main_v36_apply, val_main_v35_apply, val_main_v34_apply, val_main_v33_apply, val_main_v13_apply,
    val_main_v39_apply, val_main_v38_apply, val_main_v12_apply]
  unfold normed
  refine congrArg₂ (· + ·) (congrArg₂ (· * ·) (congrArg₂ (· * ·) rfl ?_) (congrArg (num 0x3F800000#32 + ·) ?_)) ?_
  · exact ln_of rfl (Nat.mod_eq_of_lt k.isLt)
  · exact congrArg mc (funext fun a => Fin.ext (by
      match a with
      | ⟨0, _⟩ => show 2048 + k.val = 1 * 2048 + k.val; omega))
  · exact congrArg mc (funext fun a => Fin.ext (by
      match a with
      | ⟨0, _⟩ => show k.val = 0 * 2048 + k.val; omega))

end Rows

/-! ## The projections -/

variable (x0 : Vec Ideal S4x4096x2048 .f32) (x1 : Vec Ideal S4x256x2048 .f32) (x2 : Vec Ideal S4x12288 .f32) (x3 : Vec Ideal S12288 .f32)
  (x4 : Vec Ideal S2x2048 .f32) (x5 : Vec Ideal S2x2048x11072 .f32) (r : Fin 17408) (k : Fin 2048) (j : Fin 11072)

theorem all_lat (h : r.val < 16384) : val_main_v70 (F := Ideal) x0 x1 x2 x3 x4 x5 (ix2 r j)
    = (∑ e : Fin 2048, hRow x0 x1 x2 x3 x4 r e * x5 (ix3 (0 : Fin 2) e j) : EReal) := by
  unfold val_main_v70
  refine (concatenate_pair_apply_left (t := S17408x11072) (s₁ := S16384x11072) (s₂ := S1024x11072) 0 _ _ _ _ rfl
    (ix2 (⟨r.val, h⟩ : Fin 16384) j : S16384x11072.Idx) (fun a => by match a with | ⟨0, _⟩ => rfl | ⟨1, _⟩ => rfl)).trans ?_
  rw [val_main_v65_apply, val_main_v64_apply]
  refine Finset.sum_congr rfl fun e _ => congrArg₂ (· * ·) ?_ ?_
  · refine Eq.trans (congrArg (val_main_v61 (F := Ideal) x0 x2 x4) (a₂ := ix3 (⟨r.val / 4096, by omega⟩ : Fin 4) (⟨r.val % 4096, by omega⟩ : Fin 4096) e)
      (funext fun a => Fin.ext ?_)) ((h_lat _ x0 x2 x4 _ e).trans ?_)
    · match a with
      | ⟨0, _⟩ => show (r.val * 11072 + j.val) / 45350912 = r.val / 4096; omega
      | ⟨1, _⟩ => show (r.val * 11072 + j.val) / 11072 % 4096 = r.val % 4096; omega
      | ⟨2, _⟩ => rfl
    · unfold hRow
      have ej : joined x0 x1 r = fun e => x0 (ix3 (⟨r.val / 4096, by omega⟩ : Fin 4) (⟨r.val % 4096, by omega⟩ : Fin 4096) e) :=
        funext fun e => joined_lat _ _ _ _ h
      have em : ∀ s : Fin 6, modRow x2 x3 (min (r.val / 4096) 4) s
          = fun e => x2 (ix2 (⟨r.val / 4096, by omega⟩ : Fin 4) (⟨s.val * 2048 + e.val, by omega⟩ : Fin 12288)) := fun s => funext fun e => by
        unfold modRow
        rw [dif_pos (by omega : min (r.val / 4096) 4 < 4)]
        exact congrArg x2 (funext fun a => Fin.ext (by
          match a with
          | ⟨0, _⟩ => show min (r.val / 4096) 4 = r.val / 4096; omega
          | ⟨1, _⟩ => rfl))
      rw [ej, em, em]
  · refine Eq.trans (congrArg (val_main_v63 (F := Ideal) x5) (a₂ := ix2 e j) (funext fun a => Fin.ext ?_)) (weight_lat x5 e j)
    match a with
    | ⟨0, _⟩ => rfl
    | ⟨1, _⟩ => show (r.val * 11072 + j.val) % 11072 = j.val; omega

theorem all_ctx (h : ¬ r.val < 16384) : val_main_v70 (F := Ideal) x0 x1 x2 x3 x4 x5 (ix2 r j)
    = (∑ e : Fin 2048, hRow x0 x1 x2 x3 x4 r e * x5 (ix3 (0 : Fin 2) e j) : EReal) := by
  unfold val_main_v70
  refine (concatenate_pair_apply_right (t := S17408x11072) (s₁ := S16384x11072) (s₂ := S1024x11072) 0 _ _ _ _ rfl rfl
    (ix2 (⟨r.val - 16384, by omega⟩ : Fin 1024) j : S1024x11072.Idx) (fun a ha => by
      match a, ha with | ⟨0, _⟩, ha => exact absurd rfl ha | ⟨1, _⟩, _ => rfl) (by show r.val - 16384 + 16384 = r.val; omega)).trans ?_
  rw [val_main_v69_apply, val_main_v68_apply]
  refine Finset.sum_congr rfl fun e _ => congrArg₂ (· * ·) ?_ ?_
  · refine Eq.trans (congrArg (val_main_v40 (F := Ideal) x1 x3 x4) (a₂ := ix3 (⟨(r.val - 16384) / 256, by omega⟩ : Fin 4) (⟨(r.val - 16384) % 256, by omega⟩ : Fin 256) e)
      (funext fun a => Fin.ext ?_)) ((h_ctx _ x1 x3 x4 _ e).trans ?_)
    · match a with
      | ⟨0, _⟩ => show ((r.val - 16384) * 11072 + j.val) / 2834432 = (r.val - 16384) / 256; omega
      | ⟨1, _⟩ => show ((r.val - 16384) * 11072 + j.val) / 11072 % 256 = (r.val - 16384) % 256; omega
      | ⟨2, _⟩ => rfl
    · unfold hRow
      have ej : joined x0 x1 r = fun e => x1 (ix3 (⟨(r.val - 16384) / 256, by omega⟩ : Fin 4) (⟨(r.val - 16384) % 256, by omega⟩ : Fin 256) e) :=
        funext fun e => joined_ctx _ _ _ _ h
      have em : ∀ s : Fin 6, modRow x2 x3 (min (r.val / 4096) 4) s
          = fun e => x3 (ix1 (⟨s.val * 2048 + e.val, by omega⟩ : Fin 12288)) := fun s => funext fun e => by
        unfold modRow
        rw [dif_neg (by omega : ¬ min (r.val / 4096) 4 < 4)]
      rw [ej, em, em]
  · refine Eq.trans (congrArg (val_main_v67 (F := Ideal) x5) (a₂ := ix2 e j) (funext fun a => Fin.ext ?_)) (weight_ctx x5 e j)
    match a with
    | ⟨0, _⟩ => rfl
    | ⟨1, _⟩ => show ((r.val - 16384) * 11072 + j.val) % 11072 = j.val; omega

/-- A column of a wide segment, among all the columns. -/
theorem seg_apply (s : Fin 5) (i : S17408x11072.Idx) (h0 : (i 0).val = r.val) (h1 : (i 1).val = 832 + (s.val * 2048 + k.val)) :
    val_main_v70 (F := Ideal) x0 x1 x2 x3 x4 x5 i = proj x0 x1 x2 x3 x4 x5 s r k := by
  have hi : i = ix2 r (⟨832 + (s.val * 2048 + k.val), by omega⟩ : Fin 11072) :=
    funext fun a => Fin.ext (by match a with | ⟨0, _⟩ => exact h0 | ⟨1, _⟩ => exact h1)
  refine (congrArg _ hi).trans ?_
  by_cases h : r.val < 16384
  · exact all_lat x0 x1 x2 x3 x4 x5 r _ h
  · exact all_ctx x0 x1 x2 x3 x4 x5 r _ h

/-! ## The results -/

theorem b_apply : val_main_v79 (F := Ideal) x0 x1 x2 x3 x4 x5 (ix2 r k) = proj x0 x1 x2 x3 x4 x5 0 r k := by
  rw [val_main_v79_apply, val_main_v74_apply]
  exact seg_apply x0 x1 x2 x3 x4 x5 r k 0 _ rfl (by show 832 + k.val = 832 + (0 * 2048 + k.val); omega)

theorem z_apply : val_main_v81 (F := Ideal) x0 x1 x2 x3 x4 x5 (ix2 r k)
    = (proj x0 x1 x2 x3 x4 x5 1 r k * proj x0 x1 x2 x3 x4 x5 2 r k : EReal) := by
  rw [val_main_v81_apply, val_main_v80_apply, val_main_v75_apply, val_main_v76_apply]
  exact congrArg₂ (fun a b : EReal => a * b)
    (seg_apply x0 x1 x2 x3 x4 x5 r k 1 _ rfl (by show 2880 + k.val = 832 + (1 * 2048 + k.val); omega))
    (seg_apply x0 x1 x2 x3 x4 x5 r k 2 _ rfl (by show 4928 + k.val = 832 + (2 * 2048 + k.val); omega))

theorem ga_apply : val_main_v88 (F := Ideal) x0 x1 x2 x3 x4 x5 (ix2 r k) = logit (proj x0 x1 x2 x3 x4 x5 3 r k) := by
  rw [val_main_v88_apply, val_main_v87_apply, val_main_v86_apply, val_main_v85_apply, val_main_v84_apply, val_main_v83_apply,
    val_main_v82_apply, val_main_v77_apply]
  exact congrArg logit (seg_apply x0 x1 x2 x3 x4 x5 r k 3 _ rfl (by show 6976 + k.val = 832 + (3 * 2048 + k.val); omega))

theorem gc_apply : val_main_v95 (F := Ideal) x0 x1 x2 x3 x4 x5 (ix2 r k) = logit (proj x0 x1 x2 x3 x4 x5 4 r k) := by
  rw [val_main_v95_apply, val_main_v94_apply, val_main_v93_apply, val_main_v92_apply, val_main_v91_apply, val_main_v90_apply,
    val_main_v89_apply, val_main_v78_apply]
  exact congrArg logit (seg_apply x0 x1 x2 x3 x4 x5 r k 4 _ rfl (by show 9024 + k.val = 832 + (4 * 2048 + k.val); omega))

end Cert.InProjReferenceIdeal.InP

end
-- ==== Proof.InSmallRef.lean ====
/-
  The reference's small projections at an index: the same columns.
-/
module

public import proofs.«01_k».proof.Proof.InTail
public import proofs.«01_k».proof.Proof.InRef

@[expose] public section

set_option maxRecDepth 16384

noncomputable section

namespace Cert.InProjReferenceIdeal.InP

open Cert.InProjReferenceIdeal Cert.InProjReferenceIdeal.Gen Cert.InProjReferenceIdeal.Read
open Idealize.ShloMosaic Idealize.ShloMosaic.TcCoe Idealize.ShloMosaic.ValueIdx
open Cert.Rows Cert.InProjIdeal.InP

variable (x0 : Vec Ideal S4x4096x2048 .f32) (x1 : Vec Ideal S4x256x2048 .f32) (x2 : Vec Ideal S4x12288 .f32) (x3 : Vec Ideal S12288 .f32)
  (x4 : Vec Ideal S2x2048 .f32) (x5 : Vec Ideal S2x2048x11072 .f32) (r : Fin 17408) (q : Fin 896)

/-- A column of the small projections, among all the columns. -/
theorem col_apply (h : q.val < 832) (i : S17408x11072.Idx) (h0 : (i 0).val = r.val) (h1 : (i 1).val = smallCol q.val) :
    val_main_v70 (F := Ideal) x0 x1 x2 x3 x4 x5 i = small x0 x1 x2 x3 x4 x5 r q := by
  have hi : i = ix2 r (⟨smallCol q.val, smallCol_lt h⟩ : Fin 11072) :=
    funext fun a => Fin.ext (by match a with | ⟨0, _⟩ => exact h0 | ⟨1, _⟩ => exact h1)
  refine (congrArg _ hi).trans (Eq.trans ?_ (dif_pos h).symm)
  by_cases hr : r.val < 16384
  · exact all_lat x0 x1 x2 x3 x4 x5 r _ hr
  · exact all_ctx x0 x1 x2 x3 x4 x5 r _ hr

theorem kv_apply (j : Fin 256) : val_main_v71 (F := Ideal) x0 x1 x2 x3 x4 x5 (ix2 r j) = small x0 x1 x2 x3 x4 x5 r (kvCol j) := by
  rw [val_main_v71_apply]
  exact col_apply x0 x1 x2 x3 x4 x5 r _ (by show j.val < 832; omega) _ rfl (by
    unfold smallCol kvCol; rw [if_pos (by show j.val < 256; omega)])

theorem kr_apply (j : Fin 64) : val_main_v72 (F := Ideal) x0 x1 x2 x3 x4 x5 (ix2 r j) = small x0 x1 x2 x3 x4 x5 r (krCol j) := by
  rw [val_main_v72_apply]
  refine col_apply x0 x1 x2 x3 x4 x5 r _ (by show 768 + (j.val % 2 * 32 + j.val / 2) < 832; omega) _ rfl ?_
  show 256 + j.val = smallCol (768 + (j.val % 2 * 32 + j.val / 2))
  unfold smallCol
  rw [if_neg (by omega), if_neg (by omega)]
  split <;> omega

theorem pq_apply (j : Fin 512) : val_main_v73 (F := Ideal) x0 x1 x2 x3 x4 x5 (ix2 r j) = small x0 x1 x2 x3 x4 x5 r (pqCol j) := by
  rw [val_main_v73_apply]
  refine col_apply x0 x1 x2 x3 x4 x5 r _ (by show 256 + j.val < 832; omega) _ rfl ?_
  show 320 + j.val = smallCol (256 + j.val)
  unfold smallCol
  rw [if_neg (by omega), if_pos (by omega)]
  omega

end Cert.InProjReferenceIdeal.InP

end
-- ==== Proof.InClaims.lean ====
/-
  The input projection's claims: frames, and equality of the results.
-/
module

public import proofs.«01_k».proof.Defs
public import proofs.«01_k».proof.Proof.InSmallRef
public import proofs.«01_k».proof.Proof.Gen.InProj.Frame
public import proofs.«01_k».proof.Proof.Gen.InProjReferenceIdeal.Run
public import Idealize.ShloMosaic.Lib.Quiescent
public import Idealize.ShloMosaic.Lib.Claim

@[expose] public section

noncomputable section

namespace Cert.Proof.InP

open Idealize.ShloMosaic Idealize.SL.Sem

section
open Cert.InProjIdeal

/-- What both frames say, of the run over any carrier. -/
theorem frame_any {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨h.1, h.2.2⟩) (θ_run_and (InP.unchanged m ρ) (InP.run_quiescent m ρ))

end

set_option maxHeartbeats 4000000 in
set_option smartUnfolding false in
theorem frame_p : Cert.quiescent_InProj := fun m ρ _ =>
  (θ_run Cert.InProjIdeal.defs _ _).mono (fun _ h => h) (frame_any (F := Bits) m ρ)
theorem frame_pi : Cert.quiescent_InProjIdeal := fun m ρ _ => frame_any (F := Ideal) m ρ
theorem frame_ri : Cert.quiescent_InProjReferenceIdeal := fun m ρ _ =>
  (θ_run Cert.InProjReferenceIdeal.defs _ _).mono (fun r h => ⟨fun c => (h c).2.2.2.2.2.2.2, sem_eq_zero_of_no_sems (by decide) r.2⟩)
    (Cert.InProjReferenceIdeal.Value.run m ρ)

/-- An index of a result, by its row and column. -/
theorem at_ix {n : ℕ} (y : (⟨2, ![17408, n]⟩ : Shape).Idx) :
    y = ValueIdx.ix2 (⟨(y 0).val, (y 0).isLt⟩ : Fin 17408) (⟨(y 1).val, (y 1).isLt⟩ : Fin n) :=
  funext fun a => match a with | ⟨0, _⟩ => rfl | ⟨1, _⟩ => rfl

set_option maxHeartbeats 1600000 in
theorem algebraic : Cert.algebraic_InProjIdeal_InProjReferenceIdeal := by
  intro m g m' g' hpre hargs
  refine ⟨fun c => Cert.InProjIdeal.InP.colsArr m Cert.InProjIdeal.InP.kvCol c, fun c => Cert.InProjIdeal.InP.colsArr m Cert.InProjIdeal.InP.krCol c,
    fun c => Cert.InProjIdeal.InP.colsArr m Cert.InProjIdeal.InP.pqCol c, fun c => Cert.InProjIdeal.InP.bArr m c, fun c => Cert.InProjIdeal.InP.zArr m c,
    fun c => Cert.InProjIdeal.InP.gaArr m c, fun c => Cert.InProjIdeal.InP.gcArr m c, ?_, ?_⟩
  · exact (θ_run _ _ _).mono (fun r h c => ⟨((h.2 c).2 Cert.InProjIdeal.main_v25 (Pipeline.mem_restRefs_of _ (by decide) (by decide))).trans (Cert.InProjIdeal.InP.kv_eq m c),
      ((h.2 c).2 Cert.InProjIdeal.main_v24 (Pipeline.mem_restRefs_of _ (by decide) (by decide))).trans (Cert.InProjIdeal.InP.kr_eq m c),
      ((h.2 c).2 Cert.InProjIdeal.main_v26 (Pipeline.mem_restRefs_of _ (by decide) (by decide))).trans (Cert.InProjIdeal.InP.pq_eq m c),
      ((h.2 c).1 11).trans (Cert.InProjIdeal.InP.b_eq m c), ((h.2 c).1 12).trans (Cert.InProjIdeal.InP.z_eq m c),
      ((h.2 c).1 13).trans (Cert.InProjIdeal.InP.ga_eq m c), ((h.2 c).1 14).trans (Cert.InProjIdeal.InP.gc_eq m c), h.1 c⟩)
      (θ_run_and (Cert.InProjIdeal.InP.unchanged m g) (Cert.InProjIdeal.InP.run_post m g))
  · refine (θ_run _ _ _).mono (fun r h c => ⟨(h c).1.trans ?_, (h c).2.1.trans ?_, (h c).2.2.1.trans ?_, (h c).2.2.2.1.trans ?_,
      (h c).2.2.2.2.1.trans ?_, (h c).2.2.2.2.2.1.trans ?_, (h c).2.2.2.2.2.2.1.trans ?_, (h c).2.2.2.2.2.2.2⟩)
      (Cert.InProjReferenceIdeal.Value.run m' g')
    all_goals obtain ⟨h0, h1, h2, h3, h4, h5⟩ := hargs c
    · rw [Cert.InProjReferenceIdeal.Read.val_main_v71_eq, h0, h1, h2, h3, h4, h5]
      funext y
      exact (congrArg _ (at_ix y)).trans (Cert.InProjReferenceIdeal.InP.kv_apply _ _ _ _ _ _ _ _)
    · rw [Cert.InProjReferenceIdeal.Read.val_main_v72_eq, h0, h1, h2, h3, h4, h5]
      funext y
      exact (congrArg _ (at_ix y)).trans (Cert.InProjReferenceIdeal.InP.kr_apply _ _ _ _ _ _ _ _)
    · rw [Cert.InProjReferenceIdeal.Read.val_main_v73_eq, h0, h1, h2, h3, h4, h5]
      funext y
      exact (congrArg _ (at_ix y)).trans (Cert.InProjReferenceIdeal.InP.pq_apply _ _ _ _ _ _ _ _)
    · rw [Cert.InProjReferenceIdeal.Read.val_main_v79_eq, h0, h1, h2, h3, h4, h5]
      funext y
      exact (congrArg _ (at_ix y)).trans (Cert.InProjReferenceIdeal.InP.b_apply _ _ _ _ _ _ _ _)
    · rw [Cert.InProjReferenceIdeal.Read.val_main_v81_eq, h0, h1, h2, h3, h4, h5]
      funext y
      exact (congrArg _ (at_ix y)).trans (Cert.InProjReferenceIdeal.InP.z_apply _ _ _ _ _ _ _ _)
    · rw [Cert.InProjReferenceIdeal.Read.val_main_v88_eq, h0, h1, h2, h3, h4, h5]
      funext y
      exact (congrArg _ (at_ix y)).trans (Cert.InProjReferenceIdeal.InP.ga_apply _ _ _ _ _ _ _ _)
    · rw [Cert.InProjReferenceIdeal.Read.val_main_v95_eq, h0, h1, h2, h3, h4, h5]
      funext y
      exact (congrArg _ (at_ix y)).trans (Cert.InProjReferenceIdeal.InP.gc_apply _ _ _ _ _ _ _ _)

end Cert.Proof.InP

end
-- ==== Proof.lean ====
/-
  The proof of `Cert.Claim`: the claims of the latent attention (Proof/Claims.lean), of the merge of the branches
  (Proof/MergeClaims.lean), of the output projection (Proof/OutClaims.lean) and of the input projection
  (Proof/InClaims.lean), behind the witnesses of the facts the programs state.
-/
module

public import proofs.«01_k».proof.Defs
public import proofs.«01_k».proof.Proof.Claims
public import proofs.«01_k».proof.Proof.MergeClaims
public import proofs.«01_k».proof.Proof.OutClaims
public import proofs.«01_k».proof.Proof.InClaims
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Merge.Gen.facts, Cert.MergeIdeal.Gen.facts,
    Cert.MergeReferenceIdeal.Gen.facts, Cert.OutProj.Gen.facts, Cert.OutProjIdeal.Gen.facts, Cert.OutProjReferenceIdeal.Gen.facts,
    Cert.InProj.Gen.facts, Cert.InProjIdeal.Gen.facts, Cert.InProjReferenceIdeal.Gen.facts,
    Cert.Pre_finite_scores.Gen.facts, Attn.frame_p, Attn.frame_pi, Attn.frame_pi_pre, Attn.frame_ri, Attn.frame_ri_pre,
    Merge.frame_p, Merge.frame_pi, Merge.frame_ri, Out.frame_p, Out.frame_pi, Out.frame_ri,
    InP.frame_p, InP.frame_pi, InP.frame_ri,
    trivial, Attn.algebraic, trivial, Merge.algebraic, trivial, Out.algebraic, trivial, InP.algebraic⟩

end Cert.Proof

end
